-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "radius2" .f32 0x44012245#32 ((34664109489 / 67108864 : ℝ) : EReal)

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v279) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S2x1024x2 : Shape := ⟨3, ![2, 1024, 2]⟩
abbrev S2x1024x256 : Shape := ⟨3, ![2, 1024, 256]⟩
abbrev S2x256x32x32 : Shape := ⟨4, ![2, 256, 32, 32]⟩
abbrev S2x3x3 : Shape := ⟨3, ![2, 3, 3]⟩
abbrev S_ : Shape := ⟨0, ![]⟩
abbrev S2x1024 : Shape := ⟨2, ![2, 1024]⟩
abbrev S2x32x32 : Shape := ⟨3, ![2, 32, 32]⟩
abbrev S1024 : Shape := ⟨1, ![1024]⟩
abbrev S1024x1 : Shape := ⟨2, ![1024, 1]⟩
abbrev S1024x2 : Shape := ⟨2, ![1024, 2]⟩
abbrev S1x1024 : Shape := ⟨2, ![1, 1024]⟩
abbrev S2x1x1 : Shape := ⟨3, ![2, 1, 1]⟩
abbrev S2 : Shape := ⟨1, ![2]⟩
abbrev S2x1 : Shape := ⟨2, ![2, 1]⟩
abbrev S2x32x32x256 : Shape := ⟨4, ![2, 32, 32, 256]⟩
abbrev S2x1024x1024 : Shape := ⟨3, ![2, 1024, 1024]⟩
abbrev S2x1024x25 : Shape := ⟨3, ![2, 1024, 25]⟩
abbrev S2x1024x24 : Shape := ⟨3, ![2, 1024, 24]⟩
abbrev S2x1024x1x2 : Shape := ⟨4, ![2, 1024, 1, 2]⟩
abbrev S2x1x1024x2 : Shape := ⟨4, ![2, 1, 1024, 2]⟩
abbrev S2x1024x1024x2 : Shape := ⟨4, ![2, 1024, 1024, 2]⟩
abbrev S2x1024x8 : Shape := ⟨3, ![2, 1024, 8]⟩
abbrev S2x1024x7 : Shape := ⟨3, ![2, 1024, 7]⟩
abbrev S2x1024x1 : Shape := ⟨3, ![2, 1024, 1]⟩

class Facts : Prop where
  bcast_S_S2x1024x2 : S_.BroadcastsInDim S2x1024x2 (![] : Fin 0 → Fin S2x1024x2.rank)
  reducesTo_S2x1024x2_S_d0_1_2 : S2x1024x2.ReducesTo [0, 1, 2] S_
  h_S_ : 0 < S_.numel
  bcast_S_S2x1024x256 : S_.BroadcastsInDim S2x1024x256 (![] : Fin 0 → Fin S2x1024x256.rank)
  reducesTo_S2x1024x256_S_d0_1_2 : S2x1024x256.ReducesTo [0, 1, 2] S_
  bcast_S_S2x256x32x32 : S_.BroadcastsInDim S2x256x32x32 (![] : Fin 0 → Fin S2x256x32x32.rank)
  reducesTo_S2x256x32x32_S_d0_1_2_3 : S2x256x32x32.ReducesTo [0, 1, 2, 3] S_
  bcast_S_S2x3x3 : S_.BroadcastsInDim S2x3x3 (![] : Fin 0 → Fin S2x3x3.rank)
  reducesTo_S2x3x3_S_d0_1_2 : S2x3x3.ReducesTo [0, 1, 2] S_
  reducesTo_S2x1024x256_S2x1024_d2 : S2x1024x256.ReducesTo [2] S2x1024
  bcast_S_S2x1024 : S_.BroadcastsInDim S2x1024 (![] : Fin 0 → Fin S2x1024.rank)
  reducesTo_S2x1024_S_d0_1 : S2x1024.ReducesTo [0, 1] S_
  reducesTo_S2x256x32x32_S2x32x32_d1 : S2x256x32x32.ReducesTo [1] S2x32x32
  bcast_S_S2x32x32 : S_.BroadcastsInDim S2x32x32 (![] : Fin 0 → Fin S2x32x32.rank)
  reducesTo_S2x32x32_S_d0_1_2 : S2x32x32.ReducesTo [0, 1, 2] S_
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  slices_S1024x2_S1024x1_0_0 : S1024x2.Slices ![0, 0] S1024x1
  shapeCasts_S1024x1_S1024 : S1024x1.ShapeCasts S1024
  bcast_S1024_S1x1024_1 : S1024.BroadcastsInDim S1x1024 (![1] : Fin 1 → Fin S1x1024.rank)
  slices_S1024x2_S1024x1_0_1 : S1024x2.Slices ![0, 1] S1024x1
  slices_S2x3x3_S2x1x1_0_2_0 : S2x3x3.Slices ![0, 2, 0] S2x1x1
  shapeCasts_S2x1x1_S2 : S2x1x1.ShapeCasts S2
  bcast_S2_S2x1_0 : S2.BroadcastsInDim S2x1 (![0] : Fin 1 → Fin S2x1.rank)
  bcast_S2x1_S2x1024_0_1 : S2x1.BroadcastsInDim S2x1024 (![0, 1] : Fin 2 → Fin S2x1024.rank)
  bcast_S1x1024_S2x1024_0_1 : S1x1024.BroadcastsInDim S2x1024 (![0, 1] : Fin 2 → Fin S2x1024.rank)
  slices_S2x3x3_S2x1x1_0_2_1 : S2x3x3.Slices ![0, 2, 1] S2x1x1
  slices_S2x3x3_S2x1x1_0_2_2 : S2x3x3.Slices ![0, 2, 2] S2x1x1
  transposes_S2x256x32x32_S2x32x32x256_0_2_3_1 : S2x256x32x32.Transposes [0, 2, 3, 1] S2x32x32x256
  shapeCasts_S2x32x32x256_S2x1024x256 : S2x32x32x256.ShapeCasts S2x1024x256
  sliceFits_S2x1024x1024_S2x1024x25 : S2x1024x1024.Slices (fun _ => 0) S2x1024x25
  slices_S2x1024x25_S2x1024x24_0_0_1 : S2x1024x25.Slices ![0, 0, 1] S2x1024x24
  slices_S2x1024x25_S2x1024x24_0_0_0 : S2x1024x25.Slices ![0, 0, 0] S2x1024x24
  reducesTo_S2x1024x24_S_d0_1_2 : S2x1024x24.ReducesTo [0, 1, 2] S_
  bcast_S_S2x1024x25 : S_.BroadcastsInDim S2x1024x25 (![] : Fin 0 → Fin S2x1024x25.rank)
  reducesTo_S2x1024x25_S_d0_1_2 : S2x1024x25.ReducesTo [0, 1, 2] S_
  bcast_S2x1024x2_S2x1024x1x2_0_1_3 : S2x1024x2.BroadcastsInDim S2x1024x1x2 (![0, 1, 3] : Fin 3 → Fin S2x1024x1x2.rank)
  bcast_S2x1024x2_S2x1x1024x2_0_2_3 : S2x1024x2.BroadcastsInDim S2x1x1024x2 (![0, 2, 3] : Fin 3 → Fin S2x1x1024x2.rank)
  bcast_S2x1024x1x2_S2x1024x1024x2_0_1_2_3 : S2x1024x1x2.BroadcastsInDim S2x1024x1024x2 (![0, 1, 2, 3] : Fin 4 → Fin S2x1024x1024x2.rank)
  bcast_S2x1x1024x2_S2x1024x1024x2_0_1_2_3 : S2x1x1024x2.BroadcastsInDim S2x1024x1024x2 (![0, 1, 2, 3] : Fin 4 → Fin S2x1024x1024x2.rank)
  reducesTo_S2x1024x1024x2_S2x1024x1024_d3 : S2x1024x1024x2.ReducesTo [3] S2x1024x1024
  bcast_S_S2x1024x1024 : S_.BroadcastsInDim S2x1024x1024 (![] : Fin 0 → Fin S2x1024x1024.rank)
  sliceFits_S2x1024x1024_S2x1024x8 : S2x1024x1024.Slices (fun _ => 0) S2x1024x8
  slices_S2x1024x8_S2x1024x7_0_0_1 : S2x1024x8.Slices ![0, 0, 1] S2x1024x7
  slices_S2x1024x8_S2x1024x7_0_0_0 : S2x1024x8.Slices ![0, 0, 0] S2x1024x7
  reducesTo_S2x1024x7_S_d0_1_2 : S2x1024x7.ReducesTo [0, 1, 2] S_
  bcast_S_S2x1024x8 : S_.BroadcastsInDim S2x1024x8 (![] : Fin 0 → Fin S2x1024x8.rank)
  reducesTo_S2x1024x8_S_d0_1_2 : S2x1024x8.ReducesTo [0, 1, 2] S_
  slices_S2x1024x2_S2x1024x1_0_0_0 : S2x1024x2.Slices ![0, 0, 0] S2x1024x1
  shapeCasts_S2x1024x1_S2x1024 : S2x1024x1.ShapeCasts S2x1024
  slices_S2x1024x2_S2x1024x1_0_0_1 : S2x1024x2.Slices ![0, 0, 1] S2x1024x1
  bcast_S2x1024_S2x1024x1_0_1 : S2x1024.BroadcastsInDim S2x1024x1 (![0, 1] : Fin 2 → Fin S2x1024x1.rank)
  bcast_S_S2x1024x1 : S_.BroadcastsInDim S2x1024x1 (![] : Fin 0 → Fin S2x1024x1.rank)
  bcast_S2x1024x1_S2x1024x256_0_1_2 : S2x1024x1.BroadcastsInDim S2x1024x256 (![0, 1, 2] : Fin 3 → Fin S2x1024x256.rank)
  dot_S2x1024x256_S2x1024x256_S2x1024x1024_2_2_1_1_0_0_wf : DotDims.WF S2x1024x256 S2x1024x256 S2x1024x1024 [2] [2] [1] [1] [0] [0]
  gather_S2x1024x256_S2x1024x1_S2x1024x256_2_1_0_0_1_2_11256_wf : GatherDims.WF S2x1024x256 S2x1024x1 S2x1024x256 [2] [1] [0] [1] [0] 2 ![1, 1, 256]

variable [Facts]

def dot_S2x1024x256_S2x1024x256_S2x1024x1024_2_2_1_1_0_0 : DotDims S2x1024x256 S2x1024x256 S2x1024x1024 where
  lhsContracting := [2]
  rhsContracting := [2]
  lhsNonContracting := [1]
  rhsNonContracting := [1]
  lhsBatch := [0]
  rhsBatch := [0]
  wf := dot_S2x1024x256_S2x1024x256_S2x1024x1024_2_2_1_1_0_0_wf
def gather_S2x1024x256_S2x1024x1_S2x1024x256_2_1_0_0_1_2_11256 : GatherDims S2x1024x256 S2x1024x1 S2x1024x256 where
  offsetDims := [2]
  collapsedSliceDims := [1]
  operandBatchingDims := [0]
  startIndicesBatchingDims := [0]
  startIndexMap := [1]
  indexVectorDim := 2
  sliceSizes := ![1, 1, 256]
  wf := gather_S2x1024x256_S2x1024x1_S2x1024x256_2_1_0_0_1_2_11256_wf
def fn_where {F : FTy → Type} [FloatOps F] (arg0 : IVec S2x1024x1024 1) (arg1 : FVec F S_ .f32) (arg2 : FVec F S2x1024x1024 .f32) : FVec F S2x1024x1024 .f32 :=
  let v0 : FVec F S_ .f32 := id arg1
  let v1 : FVec F S2x1024x1024 .f32 := broadcastInDim S2x1024x1024 ![] bcast_S_S2x1024x1024 v0
  let v2 : FVec F S2x1024x1024 .f32 := select arg0 v1 arg2
  v2

def fn_part14 {F : FTy → Type} [FloatOps F] (main_v96 : FVec F S2x1024 .f32) (main_v258 : IVec S_ 1) (main_v259 : IVec S_ 1) (main_v260 : FVec F S2x1024 .f32) : IVec S_ 1 :=
  let main_v261 : IVec S2x1024 1 := cmpf .une main_v96 main_v260
  let main_c_71 : IVec S_ 1 := constantI S_ 1 1#1
  let main_v262 : IVec S_ 1 := (fun x v => Host.reduce IntOp.andi x v reducesTo_S2x1024_S_d0_1 h_S_) main_v261 main_c_71
  let main_v263 : IVec S_ 1 := andi main_v259 main_v262
  let main_v264 : IVec S_ 1 := andi main_v263 main_v258
  main_v264

def fn_part13 {F : FTy → Type} [FloatOps F] (main_v23 : IVec S_ 1) (main_v34 : IVec S_ 1) (main_v96 : FVec F S2x1024 .f32) (main_v134 : IVec S_ 1) (main_v233 : FVec F S2x1024x256 .f32) (main_v243 : FVec F S2x1024x1024 .f32) (main_cst_63 : FVec F S_ .f32) : IVec S_ 1 :=
  let main_v244 : FVec F S2x1024x1024 .f32 := broadcastInDim S2x1024x1024 ![] bcast_S_S2x1024x1024 main_cst_63
  let main_v245 : IVec S2x1024x1024 1 := cmpf .ole main_v243 main_v244
  let main_v246 : FVec F S2x1024x1024 .f32 := (fun l r => Host.dotGeneral dot_S2x1024x256_S2x1024x256_S2x1024x1024_2_2_1_1_0_0 none l r) main_v233 main_v233
  let main_v247 : FVec F S2x1024x1024 .f32 := Host.negf main_v246
  let main_cst_64 : FVec F S_ .f32 := constant S_ .f32 0x7F800000#32
  let main_v248 : FVec F S2x1024x1024 .f32 := fn_where (F := F) main_v245 main_cst_64 main_v247
  let main_v249 : FVec F S2x1024x1024 .f32 := Host.negf main_v248
  let main_values_65 : FVec F S2x1024x8 .f32 := (fun x => (Host.topK S2x1024x8 2 (FloatOps.cmpfTotal .gt) x sliceFits_S2x1024x1024_S2x1024x8).1) main_v249
  let main_indices_66 : IVec S2x1024x8 32 := (fun x => (Host.topK S2x1024x8 2 (FloatOps.cmpfTotal .gt) x sliceFits_S2x1024x1024_S2x1024x8).2) main_v249
  let main_v250 : FVec F S2x1024x7 .f32 := (extractStridedSlice S2x1024x7 ![0, 0, 1] · slices_S2x1024x8_S2x1024x7_0_0_1) main_values_65
  let main_v251 : FVec F S2x1024x7 .f32 := (extractStridedSlice S2x1024x7 ![0, 0, 0] · slices_S2x1024x8_S2x1024x7_0_0_0) main_values_65
  let main_v252 : IVec S2x1024x7 1 := cmpf .olt main_v250 main_v251
  let main_c_67 : IVec S_ 1 := constantI S_ 1 1#1
  let main_v253 : IVec S_ 1 := (fun x v => Host.reduce IntOp.andi x v reducesTo_S2x1024x7_S_d0_1_2 h_S_) main_v252 main_c_67
  let main_cst_68 : FVec F S_ .f32 := constant S_ .f32 0xFF800000#32
  let main_v254 : FVec F S2x1024x8 .f32 := broadcastInDim S2x1024x8 ![] bcast_S_S2x1024x8 main_cst_68
  let main_v255 : IVec S2x1024x8 1 := cmpf .ogt main_values_65 main_v254
  let main_c_69 : IVec S_ 1 := constantI S_ 1 1#1
  let main_v256 : IVec S_ 1 := (fun x v => Host.reduce IntOp.andi x v reducesTo_S2x1024x8_S_d0_1_2 h_S_) main_v255 main_c_69
  let main_v257 : IVec S_ 1 := andi main_v253 main_v256
  let main_v258 : IVec S_ 1 := andi main_v134 main_v257
  let main_v259 : IVec S_ 1 := andi main_v23 main_v34
  let main_cst_70 : FVec F S_ .f32 := constant S_ .f32 0x00000000#32
  let main_v260 : FVec F S2x1024 .f32 := broadcastInDim S2x1024 ![] bcast_S_S2x1024 main_cst_70
  fn_part14 (F := F) main_v96 main_v258 main_v259 main_v260

def fn_part12 {F : FTy → Type} [FloatOps F] (main_arg1 : FVec F S2x1024x2 .f32) (main_v23 : IVec S_ 1) (main_v34 : IVec S_ 1) (main_v96 : FVec F S2x1024 .f32) (main_v134 : IVec S_ 1) (main_v213 : FVec F S2x1024x256 .f32) (main_v224 : FVec F S2x1024x256 .f32) : IVec S_ 1 :=
  let main_v225 : FVec F S2x1024x256 .f32 := addf main_v213 main_v224
  let main_v226 : FVec F S2x1024x256 .f32 := mulf main_v225 main_v225
  let main_cst_59 : FVec F S_ .f32 := constant S_ .f32 0x00000000#32
  let main_v227 : FVec F S2x1024 .f32 := (fun x v => Host.reduceAdd x v reducesTo_S2x1024x256_S2x1024_d2 h_S_) main_v226 main_cst_59
  let main_v228 : FVec F S2x1024x1 .f32 := broadcastInDim S2x1024x1 ![0, 1] bcast_S2x1024_S2x1024x1_0_1 main_v227
  let main_v229 : FVec F S2x1024x1 .f32 := Host.sqrt main_v228
  let main_cst_60 : FVec F S_ .f32 := constant S_ .f32 0x322BCC77#32
  let main_v230 : FVec F S2x1024x1 .f32 := broadcastInDim S2x1024x1 ![] bcast_S_S2x1024x1 main_cst_60
  let main_v231 : FVec F S2x1024x1 .f32 := addf main_v229 main_v230
  let main_v232 : FVec F S2x1024x256 .f32 := broadcastInDim S2x1024x256 ![0, 1, 2] bcast_S2x1024x1_S2x1024x256_0_1_2 main_v231
  let main_v233 : FVec F S2x1024x256 .f32 := Host.divf main_v225 main_v232
  let main_v234 : FVec F S2x1024x1x2 .f32 := broadcastInDim S2x1024x1x2 ![0, 1, 3] bcast_S2x1024x2_S2x1024x1x2_0_1_3 main_arg1
  let main_v235 : FVec F S2x1x1024x2 .f32 := broadcastInDim S2x1x1024x2 ![0, 2, 3] bcast_S2x1024x2_S2x1x1024x2_0_2_3 main_arg1
  let main_v236 : FVec F S2x1024x1024x2 .f32 := broadcastInDim S2x1024x1024x2 ![0, 1, 2, 3] bcast_S2x1024x1x2_S2x1024x1024x2_0_1_2_3 main_v234
  let main_v237 : FVec F S2x1024x1024x2 .f32 := broadcastInDim S2x1024x1024x2 ![0, 1, 2, 3] bcast_S2x1x1024x2_S2x1024x1024x2_0_1_2_3 main_v235
  let main_v238 : FVec F S2x1024x1024x2 .f32 := subf main_v236 main_v237
  let main_v239 : FVec F S2x1024x1024x2 .f32 := mulf main_v238 main_v238
  let main_cst_61 : FVec F S_ .f32 := constant S_ .f32 0x00000000#32
  let main_v240 : FVec F S2x1024x1024 .f32 := (fun x v => Host.reduceAdd x v reducesTo_S2x1024x1024x2_S2x1024x1024_d3 h_S_) main_v239 main_cst_61
  let main_cst_62 : FVec F S_ .f32 := constant S_ .f32 0x322BCC77#32
  let main_v241 : FVec F S2x1024x1024 .f32 := broadcastInDim S2x1024x1024 ![] bcast_S_S2x1024x1024 main_cst_62
  let main_v242 : FVec F S2x1024x1024 .f32 := addf main_v240 main_v241
  let main_v243 : FVec F S2x1024x1024 .f32 := Host.sqrt main_v242
  let main_cst_63 : FVec F S_ .f32 := constant S_ .f32 0x41B5D1C0#32
  fn_part13 (F := F) main_v23 main_v34 main_v96 main_v134 main_v233 main_v243 main_cst_63

def fn_part11 {F : FTy → Type} [FloatOps F] (main_arg1 : FVec F S2x1024x2 .f32) (main_v23 : IVec S_ 1) (main_v34 : IVec S_ 1) (main_v96 : FVec F S2x1024 .f32) (main_v134 : IVec S_ 1) (main_v136 : FVec F S2x1024x256 .f32) (main_v157 : FVec F S2x1024 .f32) (main_v162 : FVec F S2x1024 .f32) (main_v166 : FVec F S2x1024 .f32) (main_v168 : FVec F S2x1024x1 .f32) (main_v170 : FVec F S2x1024x1 .f32) (main_v199 : FVec F S2x1024x256 .f32) (main_v202 : IVec S2x1024 32) : IVec S_ 1 :=
  let main_v203 : IVec S2x1024 32 := fptosi 32 main_v157
  let main_v204 : IVec S2x1024 32 := addi main_v202 main_v203
  let main_v205 : IVec S2x1024x1 32 := broadcastInDim S2x1024x1 ![0, 1] bcast_S2x1024_S2x1024x1_0_1 main_v204
  let main_v206 : FVec F S2x1024x256 .f32 := (fun x i => Host.gather gather_S2x1024x256_S2x1024x1_S2x1024x256_2_1_0_0_1_2_11256 x i) main_v136 main_v205
  let main_v207 : FVec F S2x1024x256 .f32 := broadcastInDim S2x1024x256 ![0, 1, 2] bcast_S2x1024x1_S2x1024x256_0_1_2 main_v170
  let main_v208 : FVec F S2x1024x256 .f32 := mulf main_v206 main_v207
  let main_cst_57 : FVec F S_ .f32 := constant S_ .f32 0x3F800000#32
  let main_v209 : FVec F S2x1024x1 .f32 := broadcastInDim S2x1024x1 ![] bcast_S_S2x1024x1 main_cst_57
  let main_v210 : FVec F S2x1024x1 .f32 := subf main_v209 main_v168
  let main_v211 : FVec F S2x1024x256 .f32 := broadcastInDim S2x1024x256 ![0, 1, 2] bcast_S2x1024x1_S2x1024x256_0_1_2 main_v210
  let main_v212 : FVec F S2x1024x256 .f32 := mulf main_v208 main_v211
  let main_v213 : FVec F S2x1024x256 .f32 := addf main_v199 main_v212
  let main_v214 : IVec S2x1024 32 := fptosi 32 main_v166
  let main_c_58 : IVec S_ 32 := constantI S_ 32 32#32
  let main_v215 : IVec S2x1024 32 := broadcastInDim S2x1024 ![] bcast_S_S2x1024 main_c_58
  let main_v216 : IVec S2x1024 32 := muli main_v214 main_v215
  let main_v217 : IVec S2x1024 32 := fptosi 32 main_v162
  let main_v218 : IVec S2x1024 32 := addi main_v216 main_v217
  let main_v219 : IVec S2x1024x1 32 := broadcastInDim S2x1024x1 ![0, 1] bcast_S2x1024_S2x1024x1_0_1 main_v218
  let main_v220 : FVec F S2x1024x256 .f32 := (fun x i => Host.gather gather_S2x1024x256_S2x1024x1_S2x1024x256_2_1_0_0_1_2_11256 x i) main_v136 main_v219
  let main_v221 : FVec F S2x1024x256 .f32 := broadcastInDim S2x1024x256 ![0, 1, 2] bcast_S2x1024x1_S2x1024x256_0_1_2 main_v170
  let main_v222 : FVec F S2x1024x256 .f32 := mulf main_v220 main_v221
  let main_v223 : FVec F S2x1024x256 .f32 := broadcastInDim S2x1024x256 ![0, 1, 2] bcast_S2x1024x1_S2x1024x256_0_1_2 main_v168
  let main_v224 : FVec F S2x1024x256 .f32 := mulf main_v222 main_v223
  fn_part12 (F := F) main_arg1 main_v23 main_v34 main_v96 main_v134 main_v213 main_v224

def fn_part10 {F : FTy → Type} [FloatOps F] (main_arg1 : FVec F S2x1024x2 .f32) (main_v23 : IVec S_ 1) (main_v34 : IVec S_ 1) (main_v96 : FVec F S2x1024 .f32) (main_v134 : IVec S_ 1) (main_v136 : FVec F S2x1024x256 .f32) (main_v157 : FVec F S2x1024 .f32) (main_v158 : FVec F S2x1024 .f32) (main_v162 : FVec F S2x1024 .f32) (main_v166 : FVec F S2x1024 .f32) (main_v168 : FVec F S2x1024x1 .f32) (main_v170 : FVec F S2x1024x1 .f32) (main_v181 : FVec F S2x1024x256 .f32) (main_cst_53 : FVec F S_ .f32) : IVec S_ 1 :=
  let main_v182 : FVec F S2x1024x1 .f32 := broadcastInDim S2x1024x1 ![] bcast_S_S2x1024x1 main_cst_53
  let main_v183 : FVec F S2x1024x1 .f32 := subf main_v182 main_v168
  let main_v184 : FVec F S2x1024x256 .f32 := broadcastInDim S2x1024x256 ![0, 1, 2] bcast_S2x1024x1_S2x1024x256_0_1_2 main_v183
  let main_v185 : FVec F S2x1024x256 .f32 := mulf main_v181 main_v184
  let main_v186 : IVec S2x1024 32 := fptosi 32 main_v158
  let main_c_54 : IVec S_ 32 := constantI S_ 32 32#32
  let main_v187 : IVec S2x1024 32 := broadcastInDim S2x1024 ![] bcast_S_S2x1024 main_c_54
  let main_v188 : IVec S2x1024 32 := muli main_v186 main_v187
  let main_v189 : IVec S2x1024 32 := fptosi 32 main_v162
  let main_v190 : IVec S2x1024 32 := addi main_v188 main_v189
  let main_v191 : IVec S2x1024x1 32 := broadcastInDim S2x1024x1 ![0, 1] bcast_S2x1024_S2x1024x1_0_1 main_v190
  let main_v192 : FVec F S2x1024x256 .f32 := (fun x i => Host.gather gather_S2x1024x256_S2x1024x1_S2x1024x256_2_1_0_0_1_2_11256 x i) main_v136 main_v191
  let main_cst_55 : FVec F S_ .f32 := constant S_ .f32 0x3F800000#32
  let main_v193 : FVec F S2x1024x1 .f32 := broadcastInDim S2x1024x1 ![] bcast_S_S2x1024x1 main_cst_55
  let main_v194 : FVec F S2x1024x1 .f32 := subf main_v193 main_v170
  let main_v195 : FVec F S2x1024x256 .f32 := broadcastInDim S2x1024x256 ![0, 1, 2] bcast_S2x1024x1_S2x1024x256_0_1_2 main_v194
  let main_v196 : FVec F S2x1024x256 .f32 := mulf main_v192 main_v195
  let main_v197 : FVec F S2x1024x256 .f32 := broadcastInDim S2x1024x256 ![0, 1, 2] bcast_S2x1024x1_S2x1024x256_0_1_2 main_v168
  let main_v198 : FVec F S2x1024x256 .f32 := mulf main_v196 main_v197
  let main_v199 : FVec F S2x1024x256 .f32 := addf main_v185 main_v198
  let main_v200 : IVec S2x1024 32 := fptosi 32 main_v166
  let main_c_56 : IVec S_ 32 := constantI S_ 32 32#32
  let main_v201 : IVec S2x1024 32 := broadcastInDim S2x1024 ![] bcast_S_S2x1024 main_c_56
  let main_v202 : IVec S2x1024 32 := muli main_v200 main_v201
  fn_part11 (F := F) main_arg1 main_v23 main_v34 main_v96 main_v134 main_v136 main_v157 main_v162 main_v166 main_v168 main_v170 main_v199 main_v202

def fn_part9 {F : FTy → Type} [FloatOps F] (main_arg1 : FVec F S2x1024x2 .f32) (main_v23 : IVec S_ 1) (main_v34 : IVec S_ 1) (main_v96 : FVec F S2x1024 .f32) (main_v134 : IVec S_ 1) (main_v136 : FVec F S2x1024x256 .f32) (main_v146 : FVec F S2x1024 .f32) (main_v156 : FVec F S2x1024 .f32) (main_v157 : FVec F S2x1024 .f32) (main_v158 : FVec F S2x1024 .f32) (main_v162 : FVec F S2x1024 .f32) : IVec S_ 1 :=
  let main_cst_49 : FVec F S_ .f32 := constant S_ .f32 0x3F800000#32
  let main_v163 : FVec F S2x1024 .f32 := broadcastInDim S2x1024 ![] bcast_S_S2x1024 main_cst_49
  let main_v164 : FVec F S2x1024 .f32 := addf main_v158 main_v163
  let main_cst_50 : FVec F S_ .f32 := constant S_ .f32 0x41F80000#32
  let main_v165 : FVec F S2x1024 .f32 := broadcastInDim S2x1024 ![] bcast_S_S2x1024 main_cst_50
  let main_v166 : FVec F S2x1024 .f32 := minimumf main_v164 main_v165
  let main_v167 : FVec F S2x1024 .f32 := subf main_v146 main_v157
  let main_v168 : FVec F S2x1024x1 .f32 := broadcastInDim S2x1024x1 ![0, 1] bcast_S2x1024_S2x1024x1_0_1 main_v167
  let main_v169 : FVec F S2x1024 .f32 := subf main_v156 main_v158
  let main_v170 : FVec F S2x1024x1 .f32 := broadcastInDim S2x1024x1 ![0, 1] bcast_S2x1024_S2x1024x1_0_1 main_v169
  let main_v171 : IVec S2x1024 32 := fptosi 32 main_v158
  let main_c_51 : IVec S_ 32 := constantI S_ 32 32#32
  let main_v172 : IVec S2x1024 32 := broadcastInDim S2x1024 ![] bcast_S_S2x1024 main_c_51
  let main_v173 : IVec S2x1024 32 := muli main_v171 main_v172
  let main_v174 : IVec S2x1024 32 := fptosi 32 main_v157
  let main_v175 : IVec S2x1024 32 := addi main_v173 main_v174
  let main_v176 : IVec S2x1024x1 32 := broadcastInDim S2x1024x1 ![0, 1] bcast_S2x1024_S2x1024x1_0_1 main_v175
  let main_v177 : FVec F S2x1024x256 .f32 := (fun x i => Host.gather gather_S2x1024x256_S2x1024x1_S2x1024x256_2_1_0_0_1_2_11256 x i) main_v136 main_v176
  let main_cst_52 : FVec F S_ .f32 := constant S_ .f32 0x3F800000#32
  let main_v178 : FVec F S2x1024x1 .f32 := broadcastInDim S2x1024x1 ![] bcast_S_S2x1024x1 main_cst_52
  let main_v179 : FVec F S2x1024x1 .f32 := subf main_v178 main_v170
  let main_v180 : FVec F S2x1024x256 .f32 := broadcastInDim S2x1024x256 ![0, 1, 2] bcast_S2x1024x1_S2x1024x256_0_1_2 main_v179
  let main_v181 : FVec F S2x1024x256 .f32 := mulf main_v177 main_v180
  let main_cst_53 : FVec F S_ .f32 := constant S_ .f32 0x3F800000#32
  fn_part10 (F := F) main_arg1 main_v23 main_v34 main_v96 main_v134 main_v136 main_v157 main_v158 main_v162 main_v166 main_v168 main_v170 main_v181 main_cst_53

def fn_part8 {F : FTy → Type} [FloatOps F] (main_arg1 : FVec F S2x1024x2 .f32) (main_v23 : IVec S_ 1) (main_v34 : IVec S_ 1) (main_v96 : FVec F S2x1024 .f32) (main_v134 : IVec S_ 1) (main_v136 : FVec F S2x1024x256 .f32) (main_v144 : FVec F S2x1024 .f32) (main_cst_42 : FVec F S_ .f32) : IVec S_ 1 :=
  let main_v145 : FVec F S2x1024 .f32 := broadcastInDim S2x1024 ![] bcast_S_S2x1024 main_cst_42
  let main_v146 : FVec F S2x1024 .f32 := minimumf main_v144 main_v145
  let main_v147 : FVec F S2x1024x1 .f32 := (extractStridedSlice S2x1024x1 ![0, 0, 1] · slices_S2x1024x2_S2x1024x1_0_0_1) main_arg1
  let main_v148 : FVec F S2x1024 .f32 := shapeCast S2x1024 main_v147 shapeCasts_S2x1024x1_S2x1024
  let main_cst_43 : FVec F S_ .f32 := constant S_ .f32 0x41800000#32
  let main_v149 : FVec F S2x1024 .f32 := broadcastInDim S2x1024 ![] bcast_S_S2x1024 main_cst_43
  let main_v150 : FVec F S2x1024 .f32 := Host.divf main_v148 main_v149
  let main_cst_44 : FVec F S_ .f32 := constant S_ .f32 0x3F000000#32
  let main_v151 : FVec F S2x1024 .f32 := broadcastInDim S2x1024 ![] bcast_S_S2x1024 main_cst_44
  let main_v152 : FVec F S2x1024 .f32 := subf main_v150 main_v151
  let main_cst_45 : FVec F S_ .f32 := constant S_ .f32 0x00000000#32
  let main_v153 : FVec F S2x1024 .f32 := broadcastInDim S2x1024 ![] bcast_S_S2x1024 main_cst_45
  let main_v154 : FVec F S2x1024 .f32 := maximumf main_v152 main_v153
  let main_cst_46 : FVec F S_ .f32 := constant S_ .f32 0x41F80000#32
  let main_v155 : FVec F S2x1024 .f32 := broadcastInDim S2x1024 ![] bcast_S_S2x1024 main_cst_46
  let main_v156 : FVec F S2x1024 .f32 := minimumf main_v154 main_v155
  let main_v157 : FVec F S2x1024 .f32 := Host.floor main_v146
  let main_v158 : FVec F S2x1024 .f32 := Host.floor main_v156
  let main_cst_47 : FVec F S_ .f32 := constant S_ .f32 0x3F800000#32
  let main_v159 : FVec F S2x1024 .f32 := broadcastInDim S2x1024 ![] bcast_S_S2x1024 main_cst_47
  let main_v160 : FVec F S2x1024 .f32 := addf main_v157 main_v159
  let main_cst_48 : FVec F S_ .f32 := constant S_ .f32 0x41F80000#32
  let main_v161 : FVec F S2x1024 .f32 := broadcastInDim S2x1024 ![] bcast_S_S2x1024 main_cst_48
  let main_v162 : FVec F S2x1024 .f32 := minimumf main_v160 main_v161
  fn_part9 (F := F) main_arg1 main_v23 main_v34 main_v96 main_v134 main_v136 main_v146 main_v156 main_v157 main_v158 main_v162

def fn_part7 {F : FTy → Type} [FloatOps F] (main_arg1 : FVec F S2x1024x2 .f32) (main_arg3 : FVec F S2x256x32x32 .f32) (main_v23 : IVec S_ 1) (main_v34 : IVec S_ 1) (main_v96 : FVec F S2x1024 .f32) (main_v109 : IVec S_ 1) (main_values_34 : FVec F S2x1024x8 .f32) (main_v126 : FVec F S2x1024x7 .f32) (main_v127 : FVec F S2x1024x7 .f32) : IVec S_ 1 :=
  let main_v128 : IVec S2x1024x7 1 := cmpf .olt main_v126 main_v127
  let main_c_36 : IVec S_ 1 := constantI S_ 1 1#1
  let main_v129 : IVec S_ 1 := (fun x v => Host.reduce IntOp.andi x v reducesTo_S2x1024x7_S_d0_1_2 h_S_) main_v128 main_c_36
  let main_cst_37 : FVec F S_ .f32 := constant S_ .f32 0xFF800000#32
  let main_v130 : FVec F S2x1024x8 .f32 := broadcastInDim S2x1024x8 ![] bcast_S_S2x1024x8 main_cst_37
  let main_v131 : IVec S2x1024x8 1 := cmpf .ogt main_values_34 main_v130
  let main_c_38 : IVec S_ 1 := constantI S_ 1 1#1
  let main_v132 : IVec S_ 1 := (fun x v => Host.reduce IntOp.andi x v reducesTo_S2x1024x8_S_d0_1_2 h_S_) main_v131 main_c_38
  let main_v133 : IVec S_ 1 := andi main_v129 main_v132
  let main_v134 : IVec S_ 1 := andi main_v109 main_v133
  let main_v135 : FVec F S2x32x32x256 .f32 := (transpose S2x32x32x256 [0, 2, 3, 1] · transposes_S2x256x32x32_S2x32x32x256_0_2_3_1) main_arg3
  let main_v136 : FVec F S2x1024x256 .f32 := shapeCast S2x1024x256 main_v135 shapeCasts_S2x32x32x256_S2x1024x256
  let main_v137 : FVec F S2x1024x1 .f32 := (extractStridedSlice S2x1024x1 ![0, 0, 0] · slices_S2x1024x2_S2x1024x1_0_0_0) main_arg1
  let main_v138 : FVec F S2x1024 .f32 := shapeCast S2x1024 main_v137 shapeCasts_S2x1024x1_S2x1024
  let main_cst_39 : FVec F S_ .f32 := constant S_ .f32 0x41800000#32
  let main_v139 : FVec F S2x1024 .f32 := broadcastInDim S2x1024 ![] bcast_S_S2x1024 main_cst_39
  let main_v140 : FVec F S2x1024 .f32 := Host.divf main_v138 main_v139
  let main_cst_40 : FVec F S_ .f32 := constant S_ .f32 0x3F000000#32
  let main_v141 : FVec F S2x1024 .f32 := broadcastInDim S2x1024 ![] bcast_S_S2x1024 main_cst_40
  let main_v142 : FVec F S2x1024 .f32 := subf main_v140 main_v141
  let main_cst_41 : FVec F S_ .f32 := constant S_ .f32 0x00000000#32
  let main_v143 : FVec F S2x1024 .f32 := broadcastInDim S2x1024 ![] bcast_S_S2x1024 main_cst_41
  let main_v144 : FVec F S2x1024 .f32 := maximumf main_v142 main_v143
  let main_cst_42 : FVec F S_ .f32 := constant S_ .f32 0x41F80000#32
  fn_part8 (F := F) main_arg1 main_v23 main_v34 main_v96 main_v134 main_v136 main_v144 main_cst_42

def fn_part6 {F : FTy → Type} [FloatOps F] (main_arg0 : FVec F S2x1024x2 .f32) (main_arg1 : FVec F S2x1024x2 .f32) (main_arg2 : FVec F S2x1024x256 .f32) (main_arg3 : FVec F S2x256x32x32 .f32) (main_v23 : IVec S_ 1) (main_v34 : IVec S_ 1) (main_v96 : FVec F S2x1024 .f32) (main_v109 : IVec S_ 1) : IVec S_ 1 :=
  let main_v110 : FVec F S2x1024x1x2 .f32 := broadcastInDim S2x1024x1x2 ![0, 1, 3] bcast_S2x1024x2_S2x1024x1x2_0_1_3 main_arg0
  let main_v111 : FVec F S2x1x1024x2 .f32 := broadcastInDim S2x1x1024x2 ![0, 2, 3] bcast_S2x1024x2_S2x1x1024x2_0_2_3 main_arg0
  let main_v112 : FVec F S2x1024x1024x2 .f32 := broadcastInDim S2x1024x1024x2 ![0, 1, 2, 3] bcast_S2x1024x1x2_S2x1024x1024x2_0_1_2_3 main_v110
  let main_v113 : FVec F S2x1024x1024x2 .f32 := broadcastInDim S2x1024x1024x2 ![0, 1, 2, 3] bcast_S2x1x1024x2_S2x1024x1024x2_0_1_2_3 main_v111
  let main_v114 : FVec F S2x1024x1024x2 .f32 := subf main_v112 main_v113
  let main_v115 : FVec F S2x1024x1024x2 .f32 := mulf main_v114 main_v114
  let main_cst_30 : FVec F S_ .f32 := constant S_ .f32 0x00000000#32
  let main_v116 : FVec F S2x1024x1024 .f32 := (fun x v => Host.reduceAdd x v reducesTo_S2x1024x1024x2_S2x1024x1024_d3 h_S_) main_v115 main_cst_30
  let main_cst_31 : FVec F S_ .f32 := constant S_ .f32 0x322BCC77#32
  let main_v117 : FVec F S2x1024x1024 .f32 := broadcastInDim S2x1024x1024 ![] bcast_S_S2x1024x1024 main_cst_31
  let main_v118 : FVec F S2x1024x1024 .f32 := addf main_v116 main_v117
  let main_v119 : FVec F S2x1024x1024 .f32 := Host.sqrt main_v118
  let main_cst_32 : FVec F S_ .f32 := constant S_ .f32 0x41B5D1C0#32
  let main_v120 : FVec F S2x1024x1024 .f32 := broadcastInDim S2x1024x1024 ![] bcast_S_S2x1024x1024 main_cst_32
  let main_v121 : IVec S2x1024x1024 1 := cmpf .ole main_v119 main_v120
  let main_v122 : FVec F S2x1024x1024 .f32 := (fun l r => Host.dotGeneral dot_S2x1024x256_S2x1024x256_S2x1024x1024_2_2_1_1_0_0 none l r) main_arg2 main_arg2
  let main_v123 : FVec F S2x1024x1024 .f32 := Host.negf main_v122
  let main_cst_33 : FVec F S_ .f32 := constant S_ .f32 0x7F800000#32
  let main_v124 : FVec F S2x1024x1024 .f32 := fn_where (F := F) main_v121 main_cst_33 main_v123
  let main_v125 : FVec F S2x1024x1024 .f32 := Host.negf main_v124
  let main_values_34 : FVec F S2x1024x8 .f32 := (fun x => (Host.topK S2x1024x8 2 (FloatOps.cmpfTotal .gt) x sliceFits_S2x1024x1024_S2x1024x8).1) main_v125
  let main_indices_35 : IVec S2x1024x8 32 := (fun x => (Host.topK S2x1024x8 2 (FloatOps.cmpfTotal .gt) x sliceFits_S2x1024x1024_S2x1024x8).2) main_v125
  let main_v126 : FVec F S2x1024x7 .f32 := (extractStridedSlice S2x1024x7 ![0, 0, 1] · slices_S2x1024x8_S2x1024x7_0_0_1) main_values_34
  let main_v127 : FVec F S2x1024x7 .f32 := (extractStridedSlice S2x1024x7 ![0, 0, 0] · slices_S2x1024x8_S2x1024x7_0_0_0) main_values_34
  fn_part7 (F := F) main_arg1 main_arg3 main_v23 main_v34 main_v96 main_v109 main_values_34 main_v126 main_v127

def fn_part5 {F : FTy → Type} [FloatOps F] (main_arg0 : FVec F S2x1024x2 .f32) (main_arg1 : FVec F S2x1024x2 .f32) (main_arg2 : FVec F S2x1024x256 .f32) (main_arg3 : FVec F S2x256x32x32 .f32) (main_v23 : IVec S_ 1) (main_v34 : IVec S_ 1) (main_v89 : FVec F S2x1024 .f32) (main_v91 : FVec F S2 .f32) : IVec S_ 1 :=
  let main_v92 : FVec F S2x1 .f32 := broadcastInDim S2x1 ![0] bcast_S2_S2x1_0 main_v91
  let main_v93 : FVec F S2x1024 .f32 := broadcastInDim S2x1024 ![0, 1] bcast_S2x1_S2x1024_0_1 main_v92
  let main_v94 : FVec F S2x1024 .f32 := addf main_v89 main_v93
  let main_cst_26 : FVec F S_ .f32 := constant S_ .f32 0x322BCC77#32
  let main_v95 : FVec F S2x1024 .f32 := broadcastInDim S2x1024 ![] bcast_S_S2x1024 main_cst_26
  let main_v96 : FVec F S2x1024 .f32 := addf main_v94 main_v95
  let main_v97 : FVec F S2x32x32x256 .f32 := (transpose S2x32x32x256 [0, 2, 3, 1] · transposes_S2x256x32x32_S2x32x32x256_0_2_3_1) main_arg3
  let main_v98 : FVec F S2x1024x256 .f32 := shapeCast S2x1024x256 main_v97 shapeCasts_S2x32x32x256_S2x1024x256
  let main_v99 : FVec F S2x1024x1024 .f32 := (fun l r => Host.dotGeneral dot_S2x1024x256_S2x1024x256_S2x1024x1024_2_2_1_1_0_0 none l r) main_arg2 main_v98
  let main_v100 : FVec F S2x1024x1024 .f32 := Host.negf main_v99
  let main_v101 : FVec F S2x1024x1024 .f32 := Host.negf main_v100
  let main_values : FVec F S2x1024x25 .f32 := (fun x => (Host.topK S2x1024x25 2 (FloatOps.cmpfTotal .gt) x sliceFits_S2x1024x1024_S2x1024x25).1) main_v101
  let main_indices : IVec S2x1024x25 32 := (fun x => (Host.topK S2x1024x25 2 (FloatOps.cmpfTotal .gt) x sliceFits_S2x1024x1024_S2x1024x25).2) main_v101
  let main_v102 : FVec F S2x1024x24 .f32 := (extractStridedSlice S2x1024x24 ![0, 0, 1] · slices_S2x1024x25_S2x1024x24_0_0_1) main_values
  let main_v103 : FVec F S2x1024x24 .f32 := (extractStridedSlice S2x1024x24 ![0, 0, 0] · slices_S2x1024x25_S2x1024x24_0_0_0) main_values
  let main_v104 : IVec S2x1024x24 1 := cmpf .olt main_v102 main_v103
  let main_c_27 : IVec S_ 1 := constantI S_ 1 1#1
  let main_v105 : IVec S_ 1 := (fun x v => Host.reduce IntOp.andi x v reducesTo_S2x1024x24_S_d0_1_2 h_S_) main_v104 main_c_27
  let main_cst_28 : FVec F S_ .f32 := constant S_ .f32 0xFF800000#32
  let main_v106 : FVec F S2x1024x25 .f32 := broadcastInDim S2x1024x25 ![] bcast_S_S2x1024x25 main_cst_28
  let main_v107 : IVec S2x1024x25 1 := cmpf .ogt main_values main_v106
  let main_c_29 : IVec S_ 1 := constantI S_ 1 1#1
  let main_v108 : IVec S_ 1 := (fun x v => Host.reduce IntOp.andi x v reducesTo_S2x1024x25_S_d0_1_2 h_S_) main_v107 main_c_29
  let main_v109 : IVec S_ 1 := andi main_v105 main_v108
  fn_part6 (F := F) main_arg0 main_arg1 main_arg2 main_arg3 main_v23 main_v34 main_v96 main_v109

def fn_part4 {F : FTy → Type} [FloatOps F] (main_arg0 : FVec F S2x1024x2 .f32) (main_arg1 : FVec F S2x1024x2 .f32) (main_arg2 : FVec F S2x1024x256 .f32) (main_arg3 : FVec F S2x256x32x32 .f32) (main_arg4 : FVec F S2x3x3 .f32) (main_v23 : IVec S_ 1) (main_v34 : IVec S_ 1) (main_v55 : FVec F S1x1024 .f32) (main_v63 : FVec F S1024 .f32) (main_v68 : FVec F S1024 .f32) : IVec S_ 1 :=
  let main_cst_25 : FVec F S_ .f32 := constant S_ .f32 0x41800000#32
  let main_v69 : FVec F S1024 .f32 := broadcastInDim S1024 ![] bcast_S_S1024 main_cst_25
  let main_v70 : FVec F S1024 .f32 := mulf main_v68 main_v69
  let main_v71 : FVec F S1024x1 .f32 := broadcastInDim S1024x1 ![0] bcast_S1024_S1024x1_0 main_v63
  let main_v72 : FVec F S1024x1 .f32 := broadcastInDim S1024x1 ![0] bcast_S1024_S1024x1_0 main_v70
  let main_v73 : FVec F S1024x2 .f32 := (fun a b => concatenate S1024x2 1 [⟨S1024x1, a⟩, ⟨S1024x1, b⟩] concatenates_S1024x1_S1024x1_S1024x2_d1) main_v71 main_v72
  let main_v74 : FVec F S1024x1 .f32 := (extractStridedSlice S1024x1 ![0, 1] · slices_S1024x2_S1024x1_0_1) main_v73
  let main_v75 : FVec F S1024 .f32 := shapeCast S1024 main_v74 shapeCasts_S1024x1_S1024
  let main_v76 : FVec F S1x1024 .f32 := broadcastInDim S1x1024 ![1] bcast_S1024_S1x1024_1 main_v75
  let main_v77 : FVec F S2x1x1 .f32 := (extractStridedSlice S2x1x1 ![0, 2, 0] · slices_S2x3x3_S2x1x1_0_2_0) main_arg4
  let main_v78 : FVec F S2 .f32 := shapeCast S2 main_v77 shapeCasts_S2x1x1_S2
  let main_v79 : FVec F S2x1 .f32 := broadcastInDim S2x1 ![0] bcast_S2_S2x1_0 main_v78
  let main_v80 : FVec F S2x1024 .f32 := broadcastInDim S2x1024 ![0, 1] bcast_S2x1_S2x1024_0_1 main_v79
  let main_v81 : FVec F S2x1024 .f32 := broadcastInDim S2x1024 ![0, 1] bcast_S1x1024_S2x1024_0_1 main_v55
  let main_v82 : FVec F S2x1024 .f32 := mulf main_v80 main_v81
  let main_v83 : FVec F S2x1x1 .f32 := (extractStridedSlice S2x1x1 ![0, 2, 1] · slices_S2x3x3_S2x1x1_0_2_1) main_arg4
  let main_v84 : FVec F S2 .f32 := shapeCast S2 main_v83 shapeCasts_S2x1x1_S2
  let main_v85 : FVec F S2x1 .f32 := broadcastInDim S2x1 ![0] bcast_S2_S2x1_0 main_v84
  let main_v86 : FVec F S2x1024 .f32 := broadcastInDim S2x1024 ![0, 1] bcast_S2x1_S2x1024_0_1 main_v85
  let main_v87 : FVec F S2x1024 .f32 := broadcastInDim S2x1024 ![0, 1] bcast_S1x1024_S2x1024_0_1 main_v76
  let main_v88 : FVec F S2x1024 .f32 := mulf main_v86 main_v87
  let main_v89 : FVec F S2x1024 .f32 := addf main_v82 main_v88
  let main_v90 : FVec F S2x1x1 .f32 := (extractStridedSlice S2x1x1 ![0, 2, 2] · slices_S2x3x3_S2x1x1_0_2_2) main_arg4
  let main_v91 : FVec F S2 .f32 := shapeCast S2 main_v90 shapeCasts_S2x1x1_S2
  fn_part5 (F := F) main_arg0 main_arg1 main_arg2 main_arg3 main_v23 main_v34 main_v89 main_v91

def fn_part3 {F : FTy → Type} [FloatOps F] (main_arg0 : FVec F S2x1024x2 .f32) (main_arg1 : FVec F S2x1024x2 .f32) (main_arg2 : FVec F S2x1024x256 .f32) (main_arg3 : FVec F S2x256x32x32 .f32) (main_arg4 : FVec F S2x3x3 .f32) (main_v23 : IVec S_ 1) (main_v34 : IVec S_ 1) (main_v42 : FVec F S1024 .f32) (main_v49 : FVec F S1024 .f32) : IVec S_ 1 :=
  let main_v50 : FVec F S1024x1 .f32 := broadcastInDim S1024x1 ![0] bcast_S1024_S1024x1_0 main_v42
  let main_v51 : FVec F S1024x1 .f32 := broadcastInDim S1024x1 ![0] bcast_S1024_S1024x1_0 main_v49
  let main_v52 : FVec F S1024x2 .f32 := (fun a b => concatenate S1024x2 1 [⟨S1024x1, a⟩, ⟨S1024x1, b⟩] concatenates_S1024x1_S1024x1_S1024x2_d1) main_v50 main_v51
  let main_v53 : FVec F S1024x1 .f32 := (extractStridedSlice S1024x1 ![0, 0] · slices_S1024x2_S1024x1_0_0) main_v52
  let main_v54 : FVec F S1024 .f32 := shapeCast S1024 main_v53 shapeCasts_S1024x1_S1024
  let main_v55 : FVec F S1x1024 .f32 := broadcastInDim S1x1024 ![1] bcast_S1024_S1x1024_1 main_v54
  let main_v56 : IVec S1024 32 := iotaInDim S1024 32 0
  let main_c_20 : IVec S_ 32 := constantI S_ 32 31#32
  let main_v57 : IVec S1024 32 := broadcastInDim S1024 ![] bcast_S_S1024 main_c_20
  let main_v58 : IVec S1024 32 := andi main_v56 main_v57
  let main_v59 : FVec F S1024 .f32 := sitofp .f32 main_v58
  let main_cst_21 : FVec F S_ .f32 := constant S_ .f32 0x3F000000#32
  let main_v60 : FVec F S1024 .f32 := broadcastInDim S1024 ![] bcast_S_S1024 main_cst_21
  let main_v61 : FVec F S1024 .f32 := addf main_v59 main_v60
  let main_cst_22 : FVec F S_ .f32 := constant S_ .f32 0x41800000#32
  let main_v62 : FVec F S1024 .f32 := broadcastInDim S1024 ![] bcast_S_S1024 main_cst_22
  let main_v63 : FVec F S1024 .f32 := mulf main_v61 main_v62
  let main_c_23 : IVec S_ 32 := constantI S_ 32 5#32
  let main_v64 : IVec S1024 32 := broadcastInDim S1024 ![] bcast_S_S1024 main_c_23
  let main_v65 : IVec S1024 32 := Host.shrsi main_v56 main_v64
  let main_v66 : FVec F S1024 .f32 := sitofp .f32 main_v65
  let main_cst_24 : FVec F S_ .f32 := constant S_ .f32 0x3F000000#32
  let main_v67 : FVec F S1024 .f32 := broadcastInDim S1024 ![] bcast_S_S1024 main_cst_24
  let main_v68 : FVec F S1024 .f32 := addf main_v66 main_v67
  fn_part4 (F := F) main_arg0 main_arg1 main_arg2 main_arg3 main_arg4 main_v23 main_v34 main_v55 main_v63 main_v68

def fn_part2 {F : FTy → Type} [FloatOps F] (main_arg0 : FVec F S2x1024x2 .f32) (main_arg1 : FVec F S2x1024x2 .f32) (main_arg2 : FVec F S2x1024x256 .f32) (main_arg3 : FVec F S2x256x32x32 .f32) (main_arg4 : FVec F S2x3x3 .f32) (main_v23 : IVec S_ 1) (main_v28 : IVec S_ 1) (main_v32 : IVec S2x32x32 1) : IVec S_ 1 :=
  let main_c_13 : IVec S_ 1 := constantI S_ 1 1#1
  let main_v33 : IVec S_ 1 := (fun x v => Host.reduce IntOp.andi x v reducesTo_S2x32x32_S_d0_1_2 h_S_) main_v32 main_c_13
  let main_v34 : IVec S_ 1 := andi main_v28 main_v33
  let main_v35 : IVec S1024 32 := iotaInDim S1024 32 0
  let main_c_14 : IVec S_ 32 := constantI S_ 32 31#32
  let main_v36 : IVec S1024 32 := broadcastInDim S1024 ![] bcast_S_S1024 main_c_14
  let main_v37 : IVec S1024 32 := andi main_v35 main_v36
  let main_v38 : FVec F S1024 .f32 := sitofp .f32 main_v37
  let main_cst_15 : FVec F S_ .f32 := constant S_ .f32 0x3F000000#32
  let main_v39 : FVec F S1024 .f32 := broadcastInDim S1024 ![] bcast_S_S1024 main_cst_15
  let main_v40 : FVec F S1024 .f32 := addf main_v38 main_v39
  let main_cst_16 : FVec F S_ .f32 := constant S_ .f32 0x41800000#32
  let main_v41 : FVec F S1024 .f32 := broadcastInDim S1024 ![] bcast_S_S1024 main_cst_16
  let main_v42 : FVec F S1024 .f32 := mulf main_v40 main_v41
  let main_c_17 : IVec S_ 32 := constantI S_ 32 5#32
  let main_v43 : IVec S1024 32 := broadcastInDim S1024 ![] bcast_S_S1024 main_c_17
  let main_v44 : IVec S1024 32 := Host.shrsi main_v35 main_v43
  let main_v45 : FVec F S1024 .f32 := sitofp .f32 main_v44
  let main_cst_18 : FVec F S_ .f32 := constant S_ .f32 0x3F000000#32
  let main_v46 : FVec F S1024 .f32 := broadcastInDim S1024 ![] bcast_S_S1024 main_cst_18
  let main_v47 : FVec F S1024 .f32 := addf main_v45 main_v46
  let main_cst_19 : FVec F S_ .f32 := constant S_ .f32 0x41800000#32
  let main_v48 : FVec F S1024 .f32 := broadcastInDim S1024 ![] bcast_S_S1024 main_cst_19
  let main_v49 : FVec F S1024 .f32 := mulf main_v47 main_v48
  fn_part3 (F := F) main_arg0 main_arg1 main_arg2 main_arg3 main_arg4 main_v23 main_v34 main_v42 main_v49

def fn_part1 {F : FTy → Type} [FloatOps F] (main_arg0 : FVec F S2x1024x2 .f32) (main_arg1 : FVec F S2x1024x2 .f32) (main_arg2 : FVec F S2x1024x256 .f32) (main_arg3 : FVec F S2x256x32x32 .f32) (main_arg4 : FVec F S2x3x3 .f32) (main_v13 : IVec S_ 1) (main_v16 : IVec S2x256x32x32 1) : IVec S_ 1 :=
  let main_c_5 : IVec S_ 1 := constantI S_ 1 1#1
  let main_v17 : IVec S_ 1 := (fun x v => Host.reduce IntOp.andi x v reducesTo_S2x256x32x32_S_d0_1_2_3 h_S_) main_v16 main_c_5
  let main_v18 : IVec S_ 1 := andi main_v13 main_v17
  let main_v19 : FVec F S2x3x3 .f32 := Host.absf main_arg4
  let main_cst_6 : FVec F S_ .f32 := constant S_ .f32 0x7F800000#32
  let main_v20 : FVec F S2x3x3 .f32 := broadcastInDim S2x3x3 ![] bcast_S_S2x3x3 main_cst_6
  let main_v21 : IVec S2x3x3 1 := cmpf .olt main_v19 main_v20
  let main_c_7 : IVec S_ 1 := constantI S_ 1 1#1
  let main_v22 : IVec S_ 1 := (fun x v => Host.reduce IntOp.andi x v reducesTo_S2x3x3_S_d0_1_2 h_S_) main_v21 main_c_7
  let main_v23 : IVec S_ 1 := andi main_v18 main_v22
  let main_v24 : FVec F S2x1024x256 .f32 := mulf main_arg2 main_arg2
  let main_cst_8 : FVec F S_ .f32 := constant S_ .f32 0x00000000#32
  let main_v25 : FVec F S2x1024 .f32 := (fun x v => Host.reduceAdd x v reducesTo_S2x1024x256_S2x1024_d2 h_S_) main_v24 main_cst_8
  let main_cst_9 : FVec F S_ .f32 := constant S_ .f32 0x40000000#32
  let main_v26 : FVec F S2x1024 .f32 := broadcastInDim S2x1024 ![] bcast_S_S2x1024 main_cst_9
  let main_v27 : IVec S2x1024 1 := cmpf .ole main_v25 main_v26
  let main_c_10 : IVec S_ 1 := constantI S_ 1 1#1
  let main_v28 : IVec S_ 1 := (fun x v => Host.reduce IntOp.andi x v reducesTo_S2x1024_S_d0_1 h_S_) main_v27 main_c_10
  let main_v29 : FVec F S2x256x32x32 .f32 := mulf main_arg3 main_arg3
  let main_cst_11 : FVec F S_ .f32 := constant S_ .f32 0x00000000#32
  let main_v30 : FVec F S2x32x32 .f32 := (fun x v => Host.reduceAdd x v reducesTo_S2x256x32x32_S2x32x32_d1 h_S_) main_v29 main_cst_11
  let main_cst_12 : FVec F S_ .f32 := constant S_ .f32 0x40000000#32
  let main_v31 : FVec F S2x32x32 .f32 := broadcastInDim S2x32x32 ![] bcast_S_S2x32x32 main_cst_12
  let main_v32 : IVec S2x32x32 1 := cmpf .ole main_v30 main_v31
  fn_part2 (F := F) main_arg0 main_arg1 main_arg2 main_arg3 main_arg4 main_v23 main_v28 main_v32

def fn {F : FTy → Type} [FloatOps F] (main_arg0 : FVec F S2x1024x2 .f32) (main_arg1 : FVec F S2x1024x2 .f32) (main_arg2 : FVec F S2x1024x256 .f32) (main_arg3 : FVec F S2x256x32x32 .f32) (main_arg4 : FVec F S2x3x3 .f32) : IVec S_ 1 :=
  let main_v0 : FVec F S2x1024x2 .f32 := Host.absf main_arg0
  let main_cst : FVec F S_ .f32 := constant S_ .f32 0x7F800000#32
  let main_v1 : FVec F S2x1024x2 .f32 := broadcastInDim S2x1024x2 ![] bcast_S_S2x1024x2 main_cst
  let main_v2 : IVec S2x1024x2 1 := cmpf .olt main_v0 main_v1
  let main_c : IVec S_ 1 := constantI S_ 1 1#1
  let main_v3 : IVec S_ 1 := (fun x v => Host.reduce IntOp.andi x v reducesTo_S2x1024x2_S_d0_1_2 h_S_) main_v2 main_c
  let main_v4 : FVec F S2x1024x2 .f32 := Host.absf main_arg1
  let main_cst_0 : FVec F S_ .f32 := constant S_ .f32 0x7F800000#32
  let main_v5 : FVec F S2x1024x2 .f32 := broadcastInDim S2x1024x2 ![] bcast_S_S2x1024x2 main_cst_0
  let main_v6 : IVec S2x1024x2 1 := cmpf .olt main_v4 main_v5
  let main_c_1 : IVec S_ 1 := constantI S_ 1 1#1
  let main_v7 : IVec S_ 1 := (fun x v => Host.reduce IntOp.andi x v reducesTo_S2x1024x2_S_d0_1_2 h_S_) main_v6 main_c_1
  let main_v8 : IVec S_ 1 := andi main_v3 main_v7
  let main_v9 : FVec F S2x1024x256 .f32 := Host.absf main_arg2
  let main_cst_2 : FVec F S_ .f32 := constant S_ .f32 0x7F800000#32
  let main_v10 : FVec F S2x1024x256 .f32 := broadcastInDim S2x1024x256 ![] bcast_S_S2x1024x256 main_cst_2
  let main_v11 : IVec S2x1024x256 1 := cmpf .olt main_v9 main_v10
  let main_c_3 : IVec S_ 1 := constantI S_ 1 1#1
  let main_v12 : IVec S_ 1 := (fun x v => Host.reduce IntOp.andi x v reducesTo_S2x1024x256_S_d0_1_2 h_S_) main_v11 main_c_3
  let main_v13 : IVec S_ 1 := andi main_v8 main_v12
  let main_v14 : FVec F S2x256x32x32 .f32 := Host.absf main_arg3
  let main_cst_4 : FVec F S_ .f32 := constant S_ .f32 0x7F800000#32
  let main_v15 : FVec F S2x256x32x32 .f32 := broadcastInDim S2x256x32x32 ![] bcast_S_S2x256x32x32 main_cst_4
  let main_v16 : IVec S2x256x32x32 1 := cmpf .olt main_v14 main_v15
  fn_part1 (F := F) main_arg0 main_arg1 main_arg2 main_arg3 main_arg4 main_v13 main_v16
-- ==== Kernel.lean ====
abbrev S2x1024x2 : Shape := ⟨3, ![2, 1024, 2]⟩
abbrev S2x1024x256 : Shape := ⟨3, ![2, 1024, 256]⟩
abbrev S2x256x32x32 : Shape := ⟨4, ![2, 256, 32, 32]⟩
abbrev S2x3x3 : Shape := ⟨3, ![2, 3, 3]⟩
abbrev S2x1024x1 : Shape := ⟨3, ![2, 1024, 1]⟩
abbrev S2x1024 : Shape := ⟨2, ![2, 1024]⟩
abbrev S2x1x1024 : Shape := ⟨3, ![2, 1, 1024]⟩
abbrev S2x8x128 : Shape := ⟨3, ![2, 8, 128]⟩
abbrev S2x32x32x256 : Shape := ⟨4, ![2, 32, 32, 256]⟩
abbrev S2x1x9 : Shape := ⟨3, ![2, 1, 9]⟩
abbrev S1x1 : Shape := ⟨2, ![1, 1]⟩
abbrev S1x1x1024 : Shape := ⟨3, ![1, 1, 1024]⟩
abbrev S1x8x128 : Shape := ⟨3, ![1, 8, 128]⟩
abbrev S1x1024x256 : Shape := ⟨3, ![1, 1024, 256]⟩
abbrev S1x1x9 : Shape := ⟨3, ![1, 1, 9]⟩
abbrev S1x1024 : Shape := ⟨2, ![1, 1024]⟩
abbrev S1024x256 : Shape := ⟨2, ![1024, 256]⟩
abbrev S8x128 : Shape := ⟨2, ![8, 128]⟩
abbrev S8x128x1 : Shape := ⟨3, ![8, 128, 1]⟩
abbrev S8x128x1024 : Shape := ⟨3, ![8, 128, 1024]⟩
abbrev S1024x1024 : Shape := ⟨2, ![1024, 1024]⟩
abbrev S1024 : Shape := ⟨1, ![1024]⟩
abbrev S1024x1 : Shape := ⟨2, ![1024, 1]⟩
abbrev S1x1x1 : Shape := ⟨3, ![1, 1, 1]⟩
abbrev S1024x128 : Shape := ⟨2, ![1024, 128]⟩
abbrev S1x1024x1 : Shape := ⟨3, ![1, 1024, 1]⟩
abbrev S1 : Shape := ⟨1, ![1]⟩

abbrev nBuf : Space → Nat
  | .hbm => 33
  | .vmem => 20
  | .smem => 3
  | _ => 0

abbrev bufTy : (tb : Table) → Fin (tcTables nBuf tb) → BufTy
  | .hbm, ⟨0, _⟩ => ⟨S2x1024x2, .f32⟩
  | .hbm, ⟨1, _⟩ => ⟨S2x1024x2, .f32⟩
  | .hbm, ⟨2, _⟩ => ⟨S2x1024x256, .f32⟩
  | .hbm, ⟨3, _⟩ => ⟨S2x256x32x32, .f32⟩
  | .hbm, ⟨4, _⟩ => ⟨S2x3x3, .f32⟩
  | .hbm, ⟨5, _⟩ => ⟨S2x1024x1, .f32⟩
  | .hbm, ⟨6, _⟩ => ⟨S2x1024, .f32⟩
  | .hbm, ⟨7, _⟩ => ⟨S2x1x1024, .f32⟩
  | .hbm, ⟨8, _⟩ => ⟨S2x1024x1, .f32⟩
  | .hbm, ⟨9, _⟩ => ⟨S2x1024, .f32⟩
  | .hbm, ⟨10, _⟩ => ⟨S2x1x1024, .f32⟩
  | .hbm, ⟨11, _⟩ => ⟨S2x1024x1, .f32⟩
  | .hbm, ⟨12, _⟩ => ⟨S2x1024, .f32⟩
  | .hbm, ⟨13, _⟩ => ⟨S2x1x1024, .f32⟩
  | .hbm, ⟨14, _⟩ => ⟨S2x1024x1, .f32⟩
  | .hbm, ⟨15, _⟩ => ⟨S2x1024, .f32⟩
  | .hbm, ⟨16, _⟩ => ⟨S2x1x1024, .f32⟩
  | .hbm, ⟨17, _⟩ => ⟨S2x1024x1, .f32⟩
  | .hbm, ⟨18, _⟩ => ⟨S2x1024, .f32⟩
  | .hbm, ⟨19, _⟩ => ⟨S2x8x128, .f32⟩
  | .hbm, ⟨20, _⟩ => ⟨S2x1024x1, .f32⟩
  | .hbm, ⟨21, _⟩ => ⟨S2x1024, .f32⟩
  | .hbm, ⟨22, _⟩ => ⟨S2x8x128, .f32⟩
  | .hbm, ⟨23, _⟩ => ⟨S2x1024x1, .f32⟩
  | .hbm, ⟨24, _⟩ => ⟨S2x1024, .f32⟩
  | .hbm, ⟨25, _⟩ => ⟨S2x8x128, .f32⟩
  | .hbm, ⟨26, _⟩ => ⟨S2x1024x1, .f32⟩
  | .hbm, ⟨27, _⟩ => ⟨S2x1024, .f32⟩
  | .hbm, ⟨28, _⟩ => ⟨S2x8x128, .f32⟩
  | .hbm, ⟨29, _⟩ => ⟨S2x32x32x256, .f32⟩
  | .hbm, ⟨30, _⟩ => ⟨S2x1024x256, .f32⟩
  | .hbm, ⟨31, _⟩ => ⟨S2x1x9, .f32⟩
  | .hbm, ⟨32, _⟩ => ⟨S1x1, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x1024x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .smem, ⟨0, _⟩ => ⟨S1x1x9, .f32⟩
  | .local _ .smem, ⟨1, _⟩ => ⟨S1x1x9, .f32⟩
  | .local _ .smem, ⟨2, _⟩ => ⟨S1x1, .f32⟩
  | _, _ => ⟨S2x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_v15 : Ref sig .tc := ⟨.hbm, 20, rfl⟩
abbrev main_call0_v16 : Ref sig .tc := ⟨.hbm, 21, rfl⟩
abbrev main_call0_v17 : Ref sig .tc := ⟨.hbm, 22, rfl⟩
abbrev main_call0_v18 : Ref sig .tc := ⟨.hbm, 23, rfl⟩
abbrev main_call0_v19 : Ref sig .tc := ⟨.hbm, 24, rfl⟩
abbrev main_call0_v20 : Ref sig .tc := ⟨.hbm, 25, rfl⟩
abbrev main_call0_v21 : Ref sig .tc := ⟨.hbm, 26, rfl⟩
abbrev main_call0_v22 : Ref sig .tc := ⟨.hbm, 27, rfl⟩
abbrev main_call0_v23 : Ref sig .tc := ⟨.hbm, 28, rfl⟩
abbrev main_call0_v24 : Ref sig .tc := ⟨.hbm, 29, rfl⟩
abbrev main_call0_v25 : Ref sig .tc := ⟨.hbm, 30, rfl⟩
abbrev main_call0_v26 : Ref sig .tc := ⟨.hbm, 31, rfl⟩
abbrev main_v0 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.smem, 0, rfl⟩
abbrev cc0_stg10_1 : Ref sig .tc := ⟨.smem, 1, rfl⟩
abbrev cc0_stg11_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .smem S1x1x9 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "radius2" => some ((34664109489 / 67108864 : ℝ) : EReal)
  | _ => none
-- ==== ReferenceIdeal.lean ====
abbrev S2x1024x2 : Shape := ⟨3, ![2, 1024, 2]⟩
abbrev S2x1024x256 : Shape := ⟨3, ![2, 1024, 256]⟩
abbrev S2x256x32x32 : Shape := ⟨4, ![2, 256, 32, 32]⟩
abbrev S2x3x3 : Shape := ⟨3, ![2, 3, 3]⟩
abbrev S2x32x32x256 : Shape := ⟨4, ![2, 32, 32, 256]⟩
abbrev S2x1024x1 : Shape := ⟨3, ![2, 1024, 1]⟩
abbrev S2x1024 : Shape := ⟨2, ![2, 1024]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S1x1024x2 : Shape := ⟨3, ![1, 1024, 2]⟩
abbrev S2x1024x1x2 : Shape := ⟨4, ![2, 1024, 1, 2]⟩
abbrev S2x1x1024x2 : Shape := ⟨4, ![2, 1, 1024, 2]⟩
abbrev S2x1024x1024x2 : Shape := ⟨4, ![2, 1024, 1024, 2]⟩
abbrev S2x1024x1024 : Shape := ⟨3, ![2, 1024, 1024]⟩
abbrev S2x1024x4 : Shape := ⟨3, ![2, 1024, 4]⟩
abbrev S2x4096 : Shape := ⟨2, ![2, 4096]⟩
abbrev S2x4096x1 : Shape := ⟨3, ![2, 4096, 1]⟩
abbrev S2x4096x2 : Shape := ⟨3, ![2, 4096, 2]⟩
abbrev S2x4096x3 : Shape := ⟨3, ![2, 4096, 3]⟩
abbrev S2x4096x1x2 : Shape := ⟨4, ![2, 4096, 1, 2]⟩
abbrev S2x4096x1024x2 : Shape := ⟨4, ![2, 4096, 1024, 2]⟩
abbrev S2x4096x1024 : Shape := ⟨3, ![2, 4096, 1024]⟩
abbrev S2x4096x4 : Shape := ⟨3, ![2, 4096, 4]⟩
abbrev S2x1024x16 : Shape := ⟨3, ![2, 1024, 16]⟩
abbrev S2x1024x16x1 : Shape := ⟨4, ![2, 1024, 16, 1]⟩
abbrev S1x1x1x1024 : Shape := ⟨4, ![1, 1, 1, 1024]⟩
abbrev S2x1024x16x1024 : Shape := ⟨4, ![2, 1024, 16, 1024]⟩
abbrev S2x1024x8 : Shape := ⟨3, ![2, 1024, 8]⟩
abbrev S2x1024x8x1 : Shape := ⟨4, ![2, 1024, 8, 1]⟩
abbrev S2x1024x8x256 : Shape := ⟨4, ![2, 1024, 8, 256]⟩
abbrev S2x1024x1x256 : Shape := ⟨4, ![2, 1024, 1, 256]⟩
abbrev S1x1 : Shape := ⟨2, ![1, 1]⟩

abbrev nBuf : Space → Nat
  | .hbm => 373
  | .vmem => 0
  | .smem => 0
  | _ => 0

abbrev hbmTy0_0 (i : Nat) : BufTy := match i % 128 with
  | 0 => ⟨S2x1024x2, .f32⟩
  | 1 => ⟨S2x1024x2, .f32⟩
  | 2 => ⟨S2x1024x256, .f32⟩
  | 3 => ⟨S2x256x32x32, .f32⟩
  | 4 => ⟨S2x3x3, .f32⟩
  | 5 => ⟨S2x32x32x256, .f32⟩
  | 6 => ⟨S2x1024x256, .f32⟩
  | 7 => ⟨S2x1024x1, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S_, .f32⟩
  | 16 => ⟨S2x1024, .f32⟩
  | 17 => ⟨S2x1024, .f32⟩
  | 18 => ⟨S_, .f32⟩
  | 19 => ⟨S2x1024, .f32⟩
  | 20 => ⟨S2x1024, .f32⟩
  | 21 => ⟨S2x1024x1, .f32⟩
  | 22 => ⟨S2x1024, .f32⟩
  | 23 => ⟨S_, .f32⟩
  | 24 => ⟨S2x1024, .f32⟩
  | 25 => ⟨S2x1024, .f32⟩
  | 26 => ⟨S_, .f32⟩
  | 27 => ⟨S2x1024, .f32⟩
  | 28 => ⟨S2x1024, .f32⟩
  | 29 => ⟨S_, .f32⟩
  | 30 => ⟨S2x1024, .f32⟩
  | 31 => ⟨S2x1024, .f32⟩
  | 32 => ⟨S_, .f32⟩
  | 33 => ⟨S2x1024, .f32⟩
  | 34 => ⟨S2x1024, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S2x1024x1, .f32⟩
  | 51 => ⟨S2x1024, .f32⟩
  | 52 => ⟨S2x1024x1, .f32⟩
  | 53 => ⟨S2x1024, .i32⟩
  | 54 => ⟨S_, .i32⟩
  | 55 => ⟨S2x1024, .i32⟩
  | 56 => ⟨S2x1024, .i32⟩
  | 57 => ⟨S2x1024, .i32⟩
  | 58 => ⟨S2x1024, .i32⟩
  | 59 => ⟨S2x1024x1, .i32⟩
  | 60 => ⟨S2x1024x256, .f32⟩
  | 61 => ⟨S_, .f32⟩
  | 62 => ⟨S2x1024x1, .f32⟩
  | 63 => ⟨S2x1024x1, .f32⟩
  | 64 => ⟨S2x1024x256, .f32⟩
  | 65 => ⟨S2x1024x256, .f32⟩
  | 66 => ⟨S_, .f32⟩
  | 67 => ⟨S2x1024x1, .f32⟩
  | 68 => ⟨S2x1024x1, .f32⟩
  | 69 => ⟨S2x1024x256, .f32⟩
  | 70 => ⟨S2x1024x256, .f32⟩
  | 71 => ⟨S2x1024, .i32⟩
  | 72 => ⟨S_, .i32⟩
  | 73 => ⟨S2x1024, .i32⟩
  | 74 => ⟨S2x1024, .i32⟩
  | 75 => ⟨S2x1024, .i32⟩
  | 76 => ⟨S2x1024, .i32⟩
  | 77 => ⟨S2x1024x1, .i32⟩
  | 78 => ⟨S2x1024x256, .f32⟩
  | 79 => ⟨S_, .f32⟩
  | 80 => ⟨S2x1024x1, .f32⟩
  | 81 => ⟨S2x1024x1, .f32⟩
  | 82 => ⟨S2x1024x256, .f32⟩
  | 83 => ⟨S2x1024x256, .f32⟩
  | 84 => ⟨S2x1024x256, .f32⟩
  | 85 => ⟨S2x1024x256, .f32⟩
  | 86 => ⟨S2x1024x256, .f32⟩
  | 87 => ⟨S2x1024, .i32⟩
  | 88 => ⟨S_, .i32⟩
  | 89 => ⟨S2x1024, .i32⟩
  | 90 => ⟨S2x1024, .i32⟩
  | 91 => ⟨S2x1024, .i32⟩
  | 92 => ⟨S2x1024, .i32⟩
  | 93 => ⟨S2x1024x1, .i32⟩
  | 94 => ⟨S2x1024x256, .f32⟩
  | 95 => ⟨S2x1024x256, .f32⟩
  | 96 => ⟨S2x1024x256, .f32⟩
  | 97 => ⟨S_, .f32⟩
  | 98 => ⟨S2x1024x1, .f32⟩
  | 99 => ⟨S2x1024x1, .f32⟩
  | 100 => ⟨S2x1024x256, .f32⟩
  | 101 => ⟨S2x1024x256, .f32⟩
  | 102 => ⟨S2x1024x256, .f32⟩
  | 103 => ⟨S2x1024, .i32⟩
  | 104 => ⟨S_, .i32⟩
  | 105 => ⟨S2x1024, .i32⟩
  | 106 => ⟨S2x1024, .i32⟩
  | 107 => ⟨S2x1024, .i32⟩
  | 108 => ⟨S2x1024, .i32⟩
  | 109 => ⟨S2x1024x1, .i32⟩
  | 110 => ⟨S2x1024x256, .f32⟩
  | 111 => ⟨S2x1024x256, .f32⟩
  | 112 => ⟨S2x1024x256, .f32⟩
  | 113 => ⟨S2x1024x256, .f32⟩
  | 114 => ⟨S2x1024x256, .f32⟩
  | 115 => ⟨S2x1024x256, .f32⟩
  | 116 => ⟨S2x1024x256, .f32⟩
  | 117 => ⟨S_, .f32⟩
  | 118 => ⟨S2x1024, .f32⟩
  | 119 => ⟨S2x1024x1, .f32⟩
  | 120 => ⟨S2x1024x1, .f32⟩
  | 121 => ⟨S_, .f32⟩
  | 122 => ⟨S2x1024x1, .f32⟩
  | 123 => ⟨S2x1024x1, .f32⟩
  | 124 => ⟨S2x1024x256, .f32⟩
  | 125 => ⟨S2x1024x256, .f32⟩
  | 126 => ⟨S2x1024x256, .f32⟩
  | 127 => ⟨S_, .f32⟩
  | _ => ⟨S2x1024x2, .f32⟩

abbrev hbmTy0_1 (i : Nat) : BufTy := match i % 128 with
  | 0 => ⟨S2x1024, .f32⟩
  | 1 => ⟨S_, .f32⟩
  | 2 => ⟨S2x1024, .f32⟩
  | 3 => ⟨S2x1024, .f32⟩
  | 4 => ⟨S_, .f32⟩
  | 5 => ⟨S2x1024, .f32⟩
  | 6 => ⟨S2x1024, .f32⟩
  | 7 => ⟨S_, .f32⟩
  | 8 => ⟨S2x1024, .f32⟩
  | 9 => ⟨S2x1024, .f32⟩
  | 10 => ⟨S2x1024, .f32⟩
  | 11 => ⟨S2x1024x1, .f32⟩
  | 12 => ⟨S1024, .i32⟩
  | 13 => ⟨S_, .i32⟩
  | 14 => ⟨S1024, .i32⟩
  | 15 => ⟨S1024, .i32⟩
  | 16 => ⟨S1024, .f32⟩
  | 17 => ⟨S_, .f32⟩
  | 18 => ⟨S1024, .f32⟩
  | 19 => ⟨S1024, .f32⟩
  | 20 => ⟨S_, .f32⟩
  | 21 => ⟨S1024, .f32⟩
  | 22 => ⟨S1024, .f32⟩
  | 23 => ⟨S_, .i32⟩
  | 24 => ⟨S1024, .i32⟩
  | 25 => ⟨S1024, .i32⟩
  | 26 => ⟨S1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024x1, .f32⟩
  | 34 => ⟨S1024x1, .f32⟩
  | 35 => ⟨S1024x2, .f32⟩
  | 36 => ⟨S1x1024x2, .f32⟩
  | 37 => ⟨S2x1024x2, .f32⟩
  | 38 => ⟨S2x1024x1x2, .f32⟩
  | 39 => ⟨S2x1x1024x2, .f32⟩
  | 40 => ⟨S2x1024x1024x2, .f32⟩
  | 41 => ⟨S2x1024x1024x2, .f32⟩
  | 42 => ⟨S2x1024x1024x2, .f32⟩
  | 43 => ⟨S2x1024x1024x2, .f32⟩
  | 44 => ⟨S_, .f32⟩
  | 45 => ⟨S2x1024x1024, .f32⟩
  | 46 => ⟨S_, .f32⟩
  | 47 => ⟨S2x1024x1024, .f32⟩
  | 48 => ⟨S2x1024x1024, .f32⟩
  | 49 => ⟨S2x1024x1024, .f32⟩
  | 50 => ⟨S2x1024x1024, .f32⟩
  | 51 => ⟨S2x1024x4, .f32⟩
  | 52 => ⟨S2x1024x4, .i32⟩
  | 53 => ⟨S2x1024x4, .f32⟩
  | 54 => ⟨S2x4096, .i32⟩
  | 55 => ⟨S2x4096x1, .i32⟩
  | 56 => ⟨S2x4096x2, .f32⟩
  | 57 => ⟨S_, .f32⟩
  | 58 => ⟨S2x4096x1, .f32⟩
  | 59 => ⟨S2x4096x3, .f32⟩
  | 60 => ⟨S2x4096x3, .f32⟩
  | 61 => ⟨S2x4096x2, .f32⟩
  | 62 => ⟨S2x4096x1, .f32⟩
  | 63 => ⟨S_, .f32⟩
  | 64 => ⟨S2x4096x1, .f32⟩
  | 65 => ⟨S2x4096x1, .f32⟩
  | 66 => ⟨S2x4096x2, .f32⟩
  | 67 => ⟨S2x4096x2, .f32⟩
  | 68 => ⟨S2x4096x1x2, .f32⟩
  | 69 => ⟨S2x1x1024x2, .f32⟩
  | 70 => ⟨S2x4096x1024x2, .f32⟩
  | 71 => ⟨S2x4096x1024x2, .f32⟩
  | 72 => ⟨S2x4096x1024x2, .f32⟩
  | 73 => ⟨S2x4096x1024x2, .f32⟩
  | 74 => ⟨S_, .f32⟩
  | 75 => ⟨S2x4096x1024, .f32⟩
  | 76 => ⟨S_, .f32⟩
  | 77 => ⟨S2x4096x1024, .f32⟩
  | 78 => ⟨S2x4096x1024, .f32⟩
  | 79 => ⟨S2x4096x1024, .f32⟩
  | 80 => ⟨S2x4096x1024, .f32⟩
  | 81 => ⟨S2x4096x4, .f32⟩
  | 82 => ⟨S2x4096x4, .i32⟩
  | 83 => ⟨S2x4096x4, .f32⟩
  | 84 => ⟨S2x1024x16, .i32⟩
  | 85 => ⟨S2x1024x16x1, .i32⟩
  | 86 => ⟨S1x1x1x1024, .i32⟩
  | 87 => ⟨S2x1024x16x1024, .i32⟩
  | 88 => ⟨S2x1024x16x1024, .i32⟩
  | 89 => ⟨S2x1024x16x1024, .i1⟩
  | 90 => ⟨S2x1024x16x1024, .f32⟩
  | 91 => ⟨S_, .f32⟩
  | 92 => ⟨S2x1024x1024, .f32⟩
  | 93 => ⟨S2x32x32x256, .f32⟩
  | 94 => ⟨S2x1024x256, .f32⟩
  | 95 => ⟨S2x1024x1024, .f32⟩
  | 96 => ⟨S_, .f32⟩
  | 97 => ⟨S2x1024x1024, .f32⟩
  | 98 => ⟨S2x1024x1024, .f32⟩
  | 99 => ⟨S_, .f32⟩
  | 100 => ⟨S2x1024x1024, .f32⟩
  | 101 => ⟨S2x1024x1024, .f32⟩
  | 102 => ⟨S_, .f32⟩
  | 103 => ⟨S2x1024x1024, .f32⟩
  | 104 => ⟨S2x1024x1024, .f32⟩
  | 105 => ⟨S2x1024x1024, .f32⟩
  | 106 => ⟨S_, .f32⟩
  | 107 => ⟨S2x1024x1024, .f32⟩
  | 108 => ⟨S2x1024x1024, .f32⟩
  | 109 => ⟨S2x1024x1024, .f32⟩
  | 110 => ⟨S2x1024x1024, .f32⟩
  | 111 => ⟨S2x1024x8, .f32⟩
  | 112 => ⟨S2x1024x8, .i32⟩
  | 113 => ⟨S2x1024x8, .f32⟩
  | 114 => ⟨S2x1024x8, .f32⟩
  | 115 => ⟨S2x1024x8, .f32⟩
  | 116 => ⟨S_, .f32⟩
  | 117 => ⟨S2x1024x8, .f32⟩
  | 118 => ⟨S2x1024x8, .f32⟩
  | 119 => ⟨S_, .f32⟩
  | 120 => ⟨S2x1024x8, .f32⟩
  | 121 => ⟨S2x1024x8, .f32⟩
  | 122 => ⟨S2x1024x8, .f32⟩
  | 123 => ⟨S_, .f32⟩
  | 124 => ⟨S_, .f32⟩
  | 125 => ⟨S_, .f32⟩
  | 126 => ⟨S_, .f32⟩
  | 127 => ⟨S2x1024x1x2, .f32⟩
  | _ => ⟨S2x1024x2, .f32⟩

abbrev hbmTy0_2 (i : Nat) : BufTy := match i % 128 with
  | 0 => ⟨S2x1x1024x2, .f32⟩
  | 1 => ⟨S2x1024x1024x2, .f32⟩
  | 2 => ⟨S2x1024x1024x2, .f32⟩
  | 3 => ⟨S2x1024x1024x2, .f32⟩
  | 4 => ⟨S2x1024x1024x2, .f32⟩
  | 5 => ⟨S_, .f32⟩
  | 6 => ⟨S2x1024x1024, .f32⟩
  | 7 => ⟨S_, .f32⟩
  | 8 => ⟨S2x1024x1024, .f32⟩
  | 9 => ⟨S2x1024x1024, .f32⟩
  | 10 => ⟨S2x1024x1024, .f32⟩
  | 11 => ⟨S_, .f32⟩
  | 12 => ⟨S2x1024x1024, .f32⟩
  | 13 => ⟨S2x1024x1024, .i1⟩
  | 14 => ⟨S2x1024x1024, .f32⟩
  | 15 => ⟨S2x1024x1024, .f32⟩
  | 16 => ⟨S_, .f32⟩
  | 17 => ⟨S2x1024x1024, .f32⟩
  | 18 => ⟨S2x1024x1024, .f32⟩
  | 19 => ⟨S_, .f32⟩
  | 20 => ⟨S2x1024x1024, .f32⟩
  | 21 => ⟨S2x1024x1024, .f32⟩
  | 22 => ⟨S_, .f32⟩
  | 23 => ⟨S2x1024x1024, .f32⟩
  | 24 => ⟨S2x1024x1024, .f32⟩
  | 25 => ⟨S2x1024x1024, .f32⟩
  | 26 => ⟨S_, .f32⟩
  | 27 => ⟨S2x1024x1024, .f32⟩
  | 28 => ⟨S2x1024x1024, .f32⟩
  | 29 => ⟨S2x1024x1024, .f32⟩
  | 30 => ⟨S2x1024x1024, .f32⟩
  | 31 => ⟨S2x1024x8, .f32⟩
  | 32 => ⟨S2x1024x8, .i32⟩
  | 33 => ⟨S2x1024x8, .f32⟩
  | 34 => ⟨S2x1024x8x1, .i32⟩
  | 35 => ⟨S2x1024x8x256, .f32⟩
  | 36 => ⟨S2x1024x1x256, .f32⟩
  | 37 => ⟨S2x1024x8x256, .f32⟩
  | 38 => ⟨S2x1024x8x256, .f32⟩
  | 39 => ⟨S_, .f32⟩
  | 40 => ⟨S2x1024x8, .f32⟩
  | 41 => ⟨S_, .f32⟩
  | 42 => ⟨S2x1024x8, .f32⟩
  | 43 => ⟨S2x1024x8, .f32⟩
  | 44 => ⟨S_, .f32⟩
  | 45 => ⟨S2x1024x8, .f32⟩
  | 46 => ⟨S2x1024x8, .f32⟩
  | 47 => ⟨S_, .f32⟩
  | 48 => ⟨S2x1024x8, .f32⟩
  | 49 => ⟨S2x1024x8, .f32⟩
  | 50 => ⟨S2x1024x8, .f32⟩
  | 51 => ⟨S2x1024x1x2, .f32⟩
  | 52 => ⟨S2x1x1024x2, .f32⟩
  | 53 => ⟨S2x1024x1024x2, .f32⟩
  | 54 => ⟨S2x1024x1024x2, .f32⟩
  | 55 => ⟨S2x1024x1024x2, .f32⟩
  | 56 => ⟨S2x1024x1024x2, .f32⟩
  | 57 => ⟨S_, .f32⟩
  | 58 => ⟨S2x1024x1024, .f32⟩
  | 59 => ⟨S_, .f32⟩
  | 60 => ⟨S2x1024x1024, .f32⟩
  | 61 => ⟨S2x1024x1024, .f32⟩
  | 62 => ⟨S2x1024x1024, .f32⟩
  | 63 => ⟨S_, .f32⟩
  | 64 => ⟨S2x1024x1024, .f32⟩
  | 65 => ⟨S2x1024x1024, .i1⟩
  | 66 => ⟨S2x1024x1024, .f32⟩
  | 67 => ⟨S2x1024x1024, .f32⟩
  | 68 => ⟨S_, .f32⟩
  | 69 => ⟨S2x1024x1024, .f32⟩
  | 70 => ⟨S2x1024x1024, .f32⟩
  | 71 => ⟨S_, .f32⟩
  | 72 => ⟨S2x1024x1024, .f32⟩
  | 73 => ⟨S2x1024x1024, .f32⟩
  | 74 => ⟨S_, .f32⟩
  | 75 => ⟨S2x1024x1024, .f32⟩
  | 76 => ⟨S2x1024x1024, .f32⟩
  | 77 => ⟨S2x1024x1024, .f32⟩
  | 78 => ⟨S_, .f32⟩
  | 79 => ⟨S2x1024x1024, .f32⟩
  | 80 => ⟨S2x1024x1024, .f32⟩
  | 81 => ⟨S2x1024x1024, .f32⟩
  | 82 => ⟨S2x1024x1024, .f32⟩
  | 83 => ⟨S2x1024x8, .f32⟩
  | 84 => ⟨S2x1024x8, .i32⟩
  | 85 => ⟨S2x1024x8, .f32⟩
  | 86 => ⟨S2x1024x8x1, .i32⟩
  | 87 => ⟨S2x1024x8x256, .f32⟩
  | 88 => ⟨S2x1024x1x256, .f32⟩
  | 89 => ⟨S2x1024x8x256, .f32⟩
  | 90 => ⟨S2x1024x8x256, .f32⟩
  | 91 => ⟨S_, .f32⟩
  | 92 => ⟨S2x1024x8, .f32⟩
  | 93 => ⟨S_, .f32⟩
  | 94 => ⟨S2x1024x8, .f32⟩
  | 95 => ⟨S2x1024x8, .f32⟩
  | 96 => ⟨S_, .f32⟩
  | 97 => ⟨S2x1024x8, .f32⟩
  | 98 => ⟨S2x1024x8, .f32⟩
  | 99 => ⟨S_, .f32⟩
  | 100 => ⟨S2x1024x8, .f32⟩
  | 101 => ⟨S2x1024x8, .f32⟩
  | 102 => ⟨S2x1024x8, .f32⟩
  | 103 => ⟨S2x1024x8, .f32⟩
  | 104 => ⟨S2x1024x8, .f32⟩
  | 105 => ⟨S_, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S_, .f32⟩
  | 113 => ⟨S_, .f32⟩
  | 114 => ⟨S_, .f32⟩
  | 115 => ⟨S_, .f32⟩
  | 116 => ⟨S1x1, .f32⟩
  | _ => ⟨S2x1024x2, .f32⟩

abbrev hbmTy (i : Nat) : BufTy := match i / 128 with
  | 0 => hbmTy0_0 i
  | 1 => hbmTy0_1 i
  | 2 => hbmTy0_2 i
  | _ => ⟨S2x1024x2, .f32⟩

abbrev bufTy : (tb : Table) → Fin (tcTables nBuf tb) → BufTy
  | .hbm, ⟨i, _⟩ => hbmTy i
  | _, _ => ⟨S2x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_13 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_c_17 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_18 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_20 : Ref sig .tc := ⟨.hbm, 127, rfl⟩
abbrev main_v100 : Ref sig .tc := ⟨.hbm, 128, rfl⟩
abbrev main_cst_21 : Ref sig .tc := ⟨.hbm, 129, rfl⟩
abbrev main_v101 : Ref sig .tc := ⟨.hbm, 130, rfl⟩
abbrev main_v102 : Ref sig .tc := ⟨.hbm, 131, rfl⟩
abbrev main_cst_22 : Ref sig .tc := ⟨.hbm, 132, rfl⟩
abbrev main_v103 : Ref sig .tc := ⟨.hbm, 133, rfl⟩
abbrev main_v104 : Ref sig .tc := ⟨.hbm, 134, rfl⟩
abbrev main_cst_23 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_24 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_25 : Ref sig .tc := ⟨.hbm, 145, rfl⟩
abbrev main_v113 : Ref sig .tc := ⟨.hbm, 146, rfl⟩
abbrev main_v114 : Ref sig .tc := ⟨.hbm, 147, rfl⟩
abbrev main_cst_26 : Ref sig .tc := ⟨.hbm, 148, rfl⟩
abbrev main_v115 : Ref sig .tc := ⟨.hbm, 149, rfl⟩
abbrev main_v116 : Ref sig .tc := ⟨.hbm, 150, rfl⟩
abbrev main_c_27 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_28 : Ref sig .tc := ⟨.hbm, 155, rfl⟩
abbrev main_v120 : Ref sig .tc := ⟨.hbm, 156, rfl⟩
abbrev main_v121 : Ref sig .tc := ⟨.hbm, 157, rfl⟩
abbrev main_cst_29 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_30 : Ref sig .tc := ⟨.hbm, 172, rfl⟩
abbrev main_v135 : Ref sig .tc := ⟨.hbm, 173, rfl⟩
abbrev main_cst_31 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_values : Ref sig .tc := ⟨.hbm, 179, rfl⟩
abbrev main_indices : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_cst_32 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_33 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_34 : Ref sig .tc := ⟨.hbm, 202, rfl⟩
abbrev main_v159 : Ref sig .tc := ⟨.hbm, 203, rfl⟩
abbrev main_cst_35 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_values_36 : Ref sig .tc := ⟨.hbm, 209, rfl⟩
abbrev main_indices_37 : Ref sig .tc := ⟨.hbm, 210, rfl⟩
abbrev main_v164 : Ref sig .tc := ⟨.hbm, 211, rfl⟩
abbrev main_v165 : Ref sig .tc := ⟨.hbm, 212, rfl⟩
abbrev main_call0_v0 : Ref sig .tc := ⟨.hbm, 213, rfl⟩
abbrev main_call0_v1 : Ref sig .tc := ⟨.hbm, 214, rfl⟩
abbrev main_call0_v2 : Ref sig .tc := ⟨.hbm, 215, rfl⟩
abbrev main_call0_v3 : Ref sig .tc := ⟨.hbm, 216, rfl⟩
abbrev main_call0_v4 : Ref sig .tc := ⟨.hbm, 217, rfl⟩
abbrev main_v166 : Ref sig .tc := ⟨.hbm, 218, rfl⟩
abbrev main_cst_38 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_39 : Ref sig .tc := ⟨.hbm, 224, rfl⟩
abbrev main_v171 : Ref sig .tc := ⟨.hbm, 225, rfl⟩
abbrev main_v172 : Ref sig .tc := ⟨.hbm, 226, rfl⟩
abbrev main_cst_40 : Ref sig .tc := ⟨.hbm, 227, rfl⟩
abbrev main_v173 : Ref sig .tc := ⟨.hbm, 228, rfl⟩
abbrev main_v174 : Ref sig .tc := ⟨.hbm, 229, rfl⟩
abbrev main_cst_41 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_cst_42 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_values_43 : Ref sig .tc := ⟨.hbm, 239, rfl⟩
abbrev main_indices_44 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_cst_45 : Ref sig .tc := ⟨.hbm, 244, rfl⟩
abbrev main_v185 : Ref sig .tc := ⟨.hbm, 245, rfl⟩
abbrev main_v186 : Ref sig .tc := ⟨.hbm, 246, rfl⟩
abbrev main_cst_46 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_cst_47 : Ref sig .tc := ⟨.hbm, 251, rfl⟩
abbrev main_v190 : Ref sig .tc := ⟨.hbm, 252, rfl⟩
abbrev main_cst_48 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_cst_49 : Ref sig .tc := ⟨.hbm, 261, rfl⟩
abbrev main_v198 : Ref sig .tc := ⟨.hbm, 262, rfl⟩
abbrev main_cst_50 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_cst_51 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_cst_52 : Ref sig .tc := ⟨.hbm, 272, rfl⟩
abbrev main_v206 : Ref sig .tc := ⟨.hbm, 273, rfl⟩
abbrev main_v207 : Ref sig .tc := ⟨.hbm, 274, rfl⟩
abbrev main_cst_53 : Ref sig .tc := ⟨.hbm, 275, rfl⟩
abbrev main_v208 : Ref sig .tc := ⟨.hbm, 276, rfl⟩
abbrev main_v209 : Ref sig .tc := ⟨.hbm, 277, rfl⟩
abbrev main_cst_54 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_cst_55 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_values_56 : Ref sig .tc := ⟨.hbm, 287, rfl⟩
abbrev main_indices_57 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_v221 : Ref sig .tc := ⟨.hbm, 293, rfl⟩
abbrev main_v222 : Ref sig .tc := ⟨.hbm, 294, rfl⟩
abbrev main_cst_58 : Ref sig .tc := ⟨.hbm, 295, rfl⟩
abbrev main_v223 : Ref sig .tc := ⟨.hbm, 296, rfl⟩
abbrev main_cst_59 : Ref sig .tc := ⟨.hbm, 297, rfl⟩
abbrev main_v224 : Ref sig .tc := ⟨.hbm, 298, rfl⟩
abbrev main_v225 : Ref sig .tc := ⟨.hbm, 299, rfl⟩
abbrev main_cst_60 : Ref sig .tc := ⟨.hbm, 300, rfl⟩
abbrev main_v226 : Ref sig .tc := ⟨.hbm, 301, rfl⟩
abbrev main_v227 : Ref sig .tc := ⟨.hbm, 302, rfl⟩
abbrev main_cst_61 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_cst_62 : Ref sig .tc := ⟨.hbm, 313, rfl⟩
abbrev main_v237 : Ref sig .tc := ⟨.hbm, 314, rfl⟩
abbrev main_cst_63 : Ref sig .tc := ⟨.hbm, 315, rfl⟩
abbrev main_v238 : Ref sig .tc := ⟨.hbm, 316, rfl⟩
abbrev main_v239 : Ref sig .tc := ⟨.hbm, 317, rfl⟩
abbrev main_v240 : Ref sig .tc := ⟨.hbm, 318, rfl⟩
abbrev main_cst_64 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_cst_65 : Ref sig .tc := ⟨.hbm, 324, rfl⟩
abbrev main_v245 : Ref sig .tc := ⟨.hbm, 325, rfl⟩
abbrev main_v246 : Ref sig .tc := ⟨.hbm, 326, rfl⟩
abbrev main_cst_66 : Ref sig .tc := ⟨.hbm, 327, rfl⟩
abbrev main_v247 : Ref sig .tc := ⟨.hbm, 328, rfl⟩
abbrev main_v248 : Ref sig .tc := ⟨.hbm, 329, rfl⟩
abbrev main_cst_67 : Ref sig .tc := ⟨.hbm, 330, rfl⟩
abbrev main_v249 : Ref sig .tc := ⟨.hbm, 331, rfl⟩
abbrev main_v250 : Ref sig .tc := ⟨.hbm, 332, rfl⟩
abbrev main_v251 : Ref sig .tc := ⟨.hbm, 333, rfl⟩
abbrev main_cst_68 : Ref sig .tc := ⟨.hbm, 334, rfl⟩
abbrev main_v252 : Ref sig .tc := ⟨.hbm, 335, rfl⟩
abbrev main_v253 : Ref sig .tc := ⟨.hbm, 336, rfl⟩
abbrev main_v254 : Ref sig .tc := ⟨.hbm, 337, rfl⟩
abbrev main_v255 : Ref sig .tc := ⟨.hbm, 338, rfl⟩
abbrev main_values_69 : Ref sig .tc := ⟨.hbm, 339, rfl⟩
abbrev main_indices_70 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_v260 : Ref sig .tc := ⟨.hbm, 345, rfl⟩
abbrev main_v261 : Ref sig .tc := ⟨.hbm, 346, rfl⟩
abbrev main_cst_71 : Ref sig .tc := ⟨.hbm, 347, rfl⟩
abbrev main_v262 : Ref sig .tc := ⟨.hbm, 348, rfl⟩
abbrev main_cst_72 : Ref sig .tc := ⟨.hbm, 349, rfl⟩
abbrev main_v263 : Ref sig .tc := ⟨.hbm, 350, rfl⟩
abbrev main_v264 : Ref sig .tc := ⟨.hbm, 351, rfl⟩
abbrev main_cst_73 : Ref sig .tc := ⟨.hbm, 352, rfl⟩
abbrev main_v265 : Ref sig .tc := ⟨.hbm, 353, rfl⟩
abbrev main_v266 : Ref sig .tc := ⟨.hbm, 354, rfl⟩
abbrev main_cst_74 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_cst_75 : Ref sig .tc := ⟨.hbm, 361, rfl⟩
abbrev main_v272 : Ref sig .tc := ⟨.hbm, 362, rfl⟩
abbrev main_cst_76 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_cst_77 : Ref sig .tc := ⟨.hbm, 367, rfl⟩
abbrev main_v276 : Ref sig .tc := ⟨.hbm, 368, rfl⟩
abbrev main_cst_78 : Ref sig .tc := ⟨.hbm, 369, rfl⟩
abbrev main_v277 : Ref sig .tc := ⟨.hbm, 370, rfl⟩
abbrev main_v278 : Ref sig .tc := ⟨.hbm, 371, rfl⟩
abbrev main_v279 : Ref sig .tc := ⟨.hbm, 372, rfl⟩

abbrev nD : Nat := 1
abbrev τ : Topo := Topo.v7x

variable {F : FTy → Type} [FloatOps F]
-- ==== Proof.Model.lean ====
/- The kernel's body at one grid point, written as a composition of a few functions on vectors: the four cells nearest
   each point (chosen axis by axis), the eight smallest entries of each row (a sorting network over the eight column
   blocks, then eight minima), the sampled descriptors, the masked similarities and the two sums. -/
module

public import proofs.«01_k».proof.Proof.Gen.KernelIdeal

@[expose] public section

noncomputable section

namespace Cert.Model

open Cert.KernelIdeal Cert.KernelIdeal.Gen Idealize.ShloMosaic Idealize.SL.Sem

variable {F : FTy → Type} [FloatOps F] [Named F]

/-- The constant of the given word at every index. -/
abbrev kc (S : Shape) (w : BitVec 32) : FVec F S .f32 := broadcast S (Scalar.ofBits .f32 w)

/-- One level of the tree of minima: neighbours paired. -/
def pairs {S : Shape} : List (FVec F S .f32) → List (FVec F S .f32)
  | a :: b :: l => minimumf a b :: pairs l
  | [a] => [a]
  | [] => []

/-- The first of a list. -/
def hd {S : Shape} : List (FVec F S .f32) → FVec F S .f32
  | a :: _ => a
  | [] => kc S 0#32

/-- The minimum of sixteen vectors, as a tree. -/
def tree16 {S : Shape} (l : List (FVec F S .f32)) : FVec F S .f32 := hd (pairs (pairs (pairs (pairs l))))

/-- The minimum of thirty-two vectors, as a tree. -/
def tree32 {S : Shape} (l : List (FVec F S .f32)) : FVec F S .f32 := hd (pairs (pairs (pairs (pairs (pairs l)))))

/-- The cells along one axis: the centre's word and the number's word. -/
def cells : List (BitVec 32 × BitVec 32) :=
  [(0x41000000#32, 0x00000000#32), (0x41C00000#32, 0x3F800000#32), (0x42200000#32, 0x40000000#32), (0x42600000#32, 0x40400000#32), (0x42900000#32, 0x40800000#32), (0x42B00000#32, 0x40A00000#32), (0x42D00000#32, 0x40C00000#32), (0x42F00000#32, 0x40E00000#32), (0x43080000#32, 0x41000000#32), (0x43180000#32, 0x41100000#32), (0x43280000#32, 0x41200000#32), (0x43380000#32, 0x41300000#32), (0x43480000#32, 0x41400000#32), (0x43580000#32, 0x41500000#32), (0x43680000#32, 0x41600000#32), (0x43780000#32, 0x41700000#32), (0x43840000#32, 0x41800000#32), (0x438C0000#32, 0x41880000#32), (0x43940000#32, 0x41900000#32), (0x439C0000#32, 0x41980000#32), (0x43A40000#32, 0x41A00000#32), (0x43AC0000#32, 0x41A80000#32), (0x43B40000#32, 0x41B00000#32), (0x43BC0000#32, 0x41B80000#32), (0x43C40000#32, 0x41C00000#32), (0x43CC0000#32, 0x41C80000#32), (0x43D40000#32, 0x41D00000#32), (0x43DC0000#32, 0x41D80000#32), (0x43E40000#32, 0x41E00000#32), (0x43EC0000#32, 0x41E80000#32), (0x43F40000#32, 0x41F00000#32), (0x43FC0000#32, 0x41F80000#32)]

/-- A coordinate's squared distances from the cell centres along an axis, each with the number's word. -/
def axis0 (p : FVec F S8x128 .f32) : List (FVec F S8x128 .f32 × BitVec 32) :=
  cells.map fun c => (mulf (subf p (kc S8x128 c.1)) (subf p (kc S8x128 c.1)), c.2)

/-- The least of the distances. -/
def axisM (l : List (FVec F S8x128 .f32 × BitVec 32)) : FVec F S8x128 .f32 := tree32 (l.map fun c => c.1)

/-- The least number among the cells at distance `m`. -/
def axisF (m : FVec F S8x128 .f32) (l : List (FVec F S8x128 .f32 × BitVec 32)) : FVec F S8x128 .f32 :=
  tree32 (l.map fun c => select (cmpf .oeq c.1 m) (kc S8x128 c.2) (kc S8x128 0x4E6E6B28#32))

/-- The distances with the cell of distance `m` and number `f` removed. -/
def axisX (m f : FVec F S8x128 .f32) (l : List (FVec F S8x128 .f32 × BitVec 32)) :
    List (FVec F S8x128 .f32 × BitVec 32) :=
  l.map fun c => (select (andi (cmpf .oeq c.1 m) (cmpf .oeq f (kc S8x128 c.2))) (kc S8x128 0x7F800000#32) c.1, c.2)

/-- One cell taken off an axis. -/
def axisS (l : List (FVec F S8x128 .f32 × BitVec 32)) : List (FVec F S8x128 .f32 × BitVec 32) :=
  axisX (axisM l) (axisF (axisM l) l) l

/-- The first of an axis's remaining cells. -/
def axisH (l : List (FVec F S8x128 .f32 × BitVec 32)) : FVec F S8x128 .f32 × FVec F S8x128 .f32 :=
  (axisM l, axisF (axisM l) l)

/-- The four nearest cells of an axis, distances with numbers. -/
def axis4 (l : List (FVec F S8x128 .f32 × BitVec 32)) : List (FVec F S8x128 .f32 × FVec F S8x128 .f32) :=
  [axisH l, axisH (axisS l), axisH (axisS (axisS l)), axisH (axisS (axisS (axisS l)))]

/-- The sixteen cells of four rows and four columns: squared distances with numbers. -/
def grid16 (x y : List (FVec F S8x128 .f32 × FVec F S8x128 .f32)) : List (FVec F S8x128 .f32 × FVec F S8x128 .f32) :=
  y.flatMap fun r => x.map fun c => (addf r.1 c.1, addf (mulf r.2 (kc S8x128 0x42000000#32)) c.2)

/-- The least of the sixteen distances. -/
def gridM (l : List (FVec F S8x128 .f32 × FVec F S8x128 .f32)) : FVec F S8x128 .f32 := tree16 (l.map fun c => c.1)

/-- The least number among the cells at distance `m`. -/
def gridF (m : FVec F S8x128 .f32) (l : List (FVec F S8x128 .f32 × FVec F S8x128 .f32)) : FVec F S8x128 .f32 :=
  tree16 (l.map fun c => select (cmpf .oeq c.1 m) c.2 (kc S8x128 0x4E6E6B28#32))

/-- The distances with the cell of distance `m` and number `f` removed. -/
def gridX (m f : FVec F S8x128 .f32) (l : List (FVec F S8x128 .f32 × FVec F S8x128 .f32)) :
    List (FVec F S8x128 .f32 × FVec F S8x128 .f32) :=
  l.map fun c => (select (andi (cmpf .oeq c.1 m) (cmpf .oeq c.2 f)) (kc S8x128 0x7F800000#32) c.1, c.2)

/-- One cell taken off the sixteen. -/
def gridS (l : List (FVec F S8x128 .f32 × FVec F S8x128 .f32)) : List (FVec F S8x128 .f32 × FVec F S8x128 .f32) :=
  gridX (gridM l) (gridF (gridM l) l) l

/-- The number of the first of the remaining cells. -/
def gridH (l : List (FVec F S8x128 .f32 × FVec F S8x128 .f32)) : FVec F S8x128 .f32 := gridF (gridM l) l

/-- The sixteen candidate cells of a point. -/
def cand (px py : FVec F S8x128 .f32) : List (FVec F S8x128 .f32 × FVec F S8x128 .f32) :=
  grid16 (axis4 (axis0 px)) (axis4 (axis0 py))

/-- The numbers of the four cells nearest a point. -/
def top4 (px py : FVec F S8x128 .f32) : List (FVec F S8x128 .f32) :=
  [gridH (cand px py), gridH (gridS (cand px py)), gridH (gridS (gridS (cand px py))),
    gridH (gridS (gridS (gridS (cand px py))))]

/-- Eight column blocks of a matrix. -/
structure Stack (F : FTy → Type) where
  s0 : FVec F S1024x128 .f32
  s1 : FVec F S1024x128 .f32
  s2 : FVec F S1024x128 .f32
  s3 : FVec F S1024x128 .f32
  s4 : FVec F S1024x128 .f32
  s5 : FVec F S1024x128 .f32
  s6 : FVec F S1024x128 .f32
  s7 : FVec F S1024x128 .f32

/-- The matrix cut into its column blocks. -/
def cut (x : FVec F S1024x1024 .f32) : Stack F where
  s0 := extractStridedSlice S1024x128 ![0, 0] x slices_S1024x1024_o0_0_S1024x128
  s1 := extractStridedSlice S1024x128 ![0, 128] x slices_S1024x1024_o0_128_S1024x128
  s2 := extractStridedSlice S1024x128 ![0, 256] x slices_S1024x1024_o0_256_S1024x128
  s3 := extractStridedSlice S1024x128 ![0, 384] x slices_S1024x1024_o0_384_S1024x128
  s4 := extractStridedSlice S1024x128 ![0, 512] x slices_S1024x1024_o0_512_S1024x128
  s5 := extractStridedSlice S1024x128 ![0, 640] x slices_S1024x1024_o0_640_S1024x128
  s6 := extractStridedSlice S1024x128 ![0, 768] x slices_S1024x1024_o0_768_S1024x128
  s7 := extractStridedSlice S1024x128 ![0, 896] x slices_S1024x1024_o0_896_S1024x128

/-- The sorting network's six layers of exchanges between blocks. -/
def net1 (s : Stack F) : Stack F where
  s0 := minimumf s.s0 s.s1
  s1 := maximumf s.s0 s.s1
  s2 := minimumf s.s2 s.s3
  s3 := maximumf s.s2 s.s3
  s4 := minimumf s.s4 s.s5
  s5 := maximumf s.s4 s.s5
  s6 := minimumf s.s6 s.s7
  s7 := maximumf s.s6 s.s7

@[inherit_doc net1]
def net2 (s : Stack F) : Stack F where
  s0 := minimumf s.s0 s.s2
  s1 := minimumf s.s1 s.s3
  s2 := maximumf s.s0 s.s2
  s3 := maximumf s.s1 s.s3
  s4 := minimumf s.s4 s.s6
  s5 := minimumf s.s5 s.s7
  s6 := maximumf s.s4 s.s6
  s7 := maximumf s.s5 s.s7

@[inherit_doc net1]
def net3 (s : Stack F) : Stack F where
  s0 := minimumf s.s0 s.s4
  s1 := minimumf s.s1 s.s2
  s2 := maximumf s.s1 s.s2
  s3 := minimumf s.s3 s.s7
  s4 := maximumf s.s0 s.s4
  s5 := minimumf s.s5 s.s6
  s6 := maximumf s.s5 s.s6
  s7 := maximumf s.s3 s.s7

@[inherit_doc net1]
def net4 (s : Stack F) : Stack F where
  s0 := s.s0
  s1 := minimumf s.s1 s.s5
  s2 := minimumf s.s2 s.s6
  s3 := s.s3
  s4 := s.s4
  s5 := maximumf s.s1 s.s5
  s6 := maximumf s.s2 s.s6
  s7 := s.s7

@[inherit_doc net1]
def net5 (s : Stack F) : Stack F where
  s0 := s.s0
  s1 := minimumf s.s1 s.s4
  s2 := s.s2
  s3 := minimumf s.s3 s.s6
  s4 := maximumf s.s1 s.s4
  s5 := s.s5
  s6 := maximumf s.s3 s.s6
  s7 := s.s7

@[inherit_doc net1]
def net6 (s : Stack F) : Stack F where
  s0 := s.s0
  s1 := s.s1
  s2 := minimumf s.s2 s.s4
  s3 := minimumf s.s3 s.s5
  s4 := maximumf s.s2 s.s4
  s5 := maximumf s.s3 s.s5
  s6 := s.s6
  s7 := s.s7

@[inherit_doc net1]
def net7 (s : Stack F) : Stack F where
  s0 := s.s0
  s1 := s.s1
  s2 := s.s2
  s3 := minimumf s.s3 s.s4
  s4 := maximumf s.s3 s.s4
  s5 := s.s5
  s6 := s.s6
  s7 := s.s7

/-- The blocks with every column of eight sorted. -/
def sorted (x : FVec F S1024x1024 .f32) : Stack F := net7 (net6 (net5 (net4 (net3 (net2 (net1 (cut x)))))))

/-- The least entry of each row of the first block. -/
def rowMin (s : Stack F) : FVec F S1024x1 .f32 :=
  shapeCast S1024x1
    (multiReduction .minimumf [1] S1024 s.s0 0x7F800000#32 reduces_S1024x128_S1024 (.inl rfl) rfl)
    shapeCasts_S1024_S1024x1

/-- Where the first block meets its row's least entry. -/
def popC (s : Stack F) : IVec S1024x128 1 :=
  cmpf .oeq s.s0 (broadcastTo S1024x128 (rowMin s) broadcasts_S1024x1_S1024x128)

/-- Those columns moved up by one. -/
def pop (s : Stack F) : Stack F where
  s0 := select (popC s) s.s1 s.s0
  s1 := select (popC s) s.s2 s.s1
  s2 := select (popC s) s.s3 s.s2
  s3 := select (popC s) s.s4 s.s3
  s4 := select (popC s) s.s5 s.s4
  s5 := select (popC s) s.s6 s.s5
  s6 := select (popC s) s.s7 s.s6
  s7 := select (popC s) (kc S1024x128 0x7F800000#32) s.s7

/-- The stack after a number of pops. -/
def pops (s : Stack F) : ℕ → Stack F
  | 0 => s
  | n + 1 => pop (pops s n)

/-- The entry of the given rank of each row. -/
def top8 (x : FVec F S1024x1024 .f32) (n : ℕ) : FVec F S1024x1 .f32 := rowMin (pops (sorted x) n)

/-! ### The sampled descriptors -/

/-- A coordinate in units of cells, clamped to the map. -/
def unitC (p : FVec F S8x128 .f32) : FVec F S8x128x1 .f32 :=
  shapeCast S8x128x1
    (minimumf (kc S8x128 0x41F80000#32) (maximumf (kc S8x128 0x00000000#32)
      (subf (mulf p (kc S8x128 0x3D800000#32)) (kc S8x128 0x3F000000#32))))
    shapeCasts_S8x128_S8x128x1

/-- The next cell, clamped. -/
def nextC (x : FVec F S8x128x1 .f32) : FVec F S8x128x1 .f32 :=
  minimumf (addf (floor x) (kc S8x128x1 0x3F800000#32)) (kc S8x128x1 0x41F80000#32)

/-- The cells' numbers along the last axis. -/
def cols3 : FVec F S1x1x1024 .f32 := sitofp .f32 (iota .tc S1x1x1024 32 [2] iota_S1x1x1024_d2_w32)

/-- The cells' rows. -/
def cellI : FVec F S1x1x1024 .f32 := floor (mulf cols3 (kc S1x1x1024 0x3D000000#32))

/-- The cells' columns. -/
def cellJ : FVec F S1x1x1024 .f32 := subf cols3 (mulf (kc S1x1x1024 0x42000000#32) cellI)

/-- Per point, a last axis of cells spread over points, and a point's number spread over cells. -/
abbrev overP (x : FVec F S1x1x1024 .f32) : FVec F S8x128x1024 .f32 :=
  broadcastTo S8x128x1024 x broadcasts_S1x1x1024_S8x128x1024

@[inherit_doc overP]
abbrev overC (x : FVec F S8x128x1 .f32) : FVec F S8x128x1024 .f32 :=
  broadcastTo S8x128x1024 x broadcasts_S8x128x1_S8x128x1024

/-- The indicator of an equation as a number. -/
def ind (a b : FVec F S8x128x1024 .f32) : FVec F S8x128x1024 .f32 :=
  sitofp .f32 (extui 32 (cmpf .oeq a b) natLt_1_32)

/-- The weights of an axis: the two neighbouring cells by linear interpolation. -/
def weight (cell : FVec F S1x1x1024 .f32) (x : FVec F S8x128x1 .f32) : FVec F S8x128x1024 .f32 :=
  addf (mulf (ind (overP cell) (overC (floor x))) (overC (subf (kc S8x128x1 0x3F800000#32) (subf x (floor x)))))
    (mulf (ind (overP cell) (overC (nextC x))) (overC (subf x (floor x))))

/-- The interpolated descriptors before normalisation. -/
def sample (px py : FVec F S8x128 .f32) (d : FVec F S1024x256 .f32) : FVec F S1024x256 .f32 :=
  matmul dot_S1024x1024_S1024x256_S1024x256_1_0_0_1_n_n none
    (shapeCast S1024x1024 (mulf (weight cellI (unitC py)) (weight cellJ (unitC px)))
      shapeCasts_S8x128x1024_S1024x1024)
    d (constant S1024x256 .f32 0x00000000#32)

/-- Row sums. -/
def rowSum (x : FVec F S1024x256 .f32) : FVec F S1024x1 .f32 :=
  shapeCast S1024x1
    (multiReduction .add [1] S1024 x 0x00000000#32 reduces_S1024x256_S1024 (.inl rfl) rfl)
    shapeCasts_S1024_S1024x1

/-- Descriptors divided by their length. -/
def normed (x : FVec F S1024x256 .f32) : FVec F S1024x256 .f32 :=
  divf x (broadcastTo S1024x256 (addf (sqrt (rowSum (mulf x x))) (kc S1024x1 0x322BCC77#32))
    broadcasts_S1024x1_S1024x256)

/-- The distances of corresponding descriptors. -/
def positive (d w : FVec F S1024x256 .f32) : FVec F S1024x1 .f32 :=
  sqrt (maximumf (kc S1024x1 0x322BCC77#32)
    (subf (kc S1024x1 0x40000000#32) (mulf (kc S1024x1 0x40000000#32) (rowSum (mulf d w)))))

/-- Minus twice the products of the rows of two matrices. -/
def sims (a b : FVec F S1024x256 .f32) : FVec F S1024x1024 .f32 :=
  matmul dot_S1024x256_S1024x256_S1024x1024_1_1_0_0_n_n none (mulf (kc S1024x256 0xC0000000#32) a) b
    (constant S1024x1024 .f32 0x00000000#32)

/-- A million added where the mask holds. -/
def pushed (mask : IVec S8x128x1024 1) (x : FVec F S1024x1024 .f32) : FVec F S1024x1024 .f32 :=
  shapeCast S1024x1024
    (select mask
      (addf (shapeCast S8x128x1024 x shapeCasts_S1024x1024_S8x128x1024) (kc S8x128x1024 0x49742400#32))
      (shapeCast S8x128x1024 x shapeCasts_S1024x1024_S8x128x1024))
    shapeCasts_S8x128x1024_S1024x1024

/-! ### The cells near the warped point -/

/-- A cell's row and the coordinates of its centre, from its number. -/
def rowOf (f : FVec F S8x128 .f32) : FVec F S8x128 .f32 := floor (mulf f (kc S8x128 0x3D000000#32))

@[inherit_doc rowOf]
def cxOf (f : FVec F S8x128 .f32) : FVec F S8x128 .f32 :=
  mulf (addf (subf f (mulf (kc S8x128 0x42000000#32) (rowOf f))) (kc S8x128 0x3F000000#32)) (kc S8x128 0x41800000#32)

@[inherit_doc rowOf]
def cyOf (f : FVec F S8x128 .f32) : FVec F S8x128 .f32 :=
  mulf (addf (rowOf f) (kc S8x128 0x3F000000#32)) (kc S8x128 0x41800000#32)

/-- A row of the homography applied to a cell's centre. -/
def lin (a b c : F .f32) (f : FVec F S8x128 .f32) : FVec F S8x128 .f32 :=
  addf (addf (mulf (broadcast S8x128 a) (cxOf f)) (mulf (broadcast S8x128 b) (cyOf f))) (broadcast S8x128 c)

/-- The four cells nearest the image of a cell's centre. -/
def warp4 (h : ℕ → F .f32) (f : FVec F S8x128 .f32) : List (FVec F S8x128 .f32) :=
  top4 (divf (lin (h 0) (h 1) (h 2) f) (addf (lin (h 6) (h 7) (h 8) f) (kc S8x128 0x322BCC77#32)))
    (divf (lin (h 3) (h 4) (h 5) f) (addf (lin (h 6) (h 7) (h 8) f) (kc S8x128 0x322BCC77#32)))

/-- The sixteen cells of a point. -/
def ids16 (h : ℕ → F .f32) (px py : FVec F S8x128 .f32) : List (FVec F S8x128 .f32) :=
  (top4 px py).flatMap (warp4 h)

/-- Disjunctions of neighbours. -/
def ors : List (IVec S8x128x1024 1) → List (IVec S8x128x1024 1)
  | a :: b :: l => ori a b :: ors l
  | [a] => [a]
  | [] => []

/-- The first of a list. -/
def hdM : List (IVec S8x128x1024 1) → IVec S8x128x1024 1
  | a :: _ => a
  | [] => constantI S8x128x1024 1 0#1

/-- The mask of the sixteen cells. -/
def nearMask (h : ℕ → F .f32) (px py : FVec F S8x128 .f32) : IVec S8x128x1024 1 :=
  hdM (ors (ors (ors (ors ((ids16 h px py).map fun f =>
    cmpf .oeq (overP cols3) (overC (shapeCast S8x128x1 f shapeCasts_S8x128_S8x128x1)))))))

/-- The mask of the points within the radius. -/
def nearPts (px py : FVec F S8x128 .f32) (rx ry : FVec F S1x1024 .f32) : IVec S8x128x1024 1 :=
  cmpf .ole
    (addf
      (addf
        (mulf (subf (overC (shapeCast S8x128x1 px shapeCasts_S8x128_S8x128x1)) (overP (shapeCast S1x1x1024 rx shapeCasts_S1x1024_S1x1x1024)))
          (subf (overC (shapeCast S8x128x1 px shapeCasts_S8x128_S8x128x1)) (overP (shapeCast S1x1x1024 rx shapeCasts_S1x1024_S1x1x1024))))
        (mulf (subf (overC (shapeCast S8x128x1 py shapeCasts_S8x128_S8x128x1)) (overP (shapeCast S1x1x1024 ry shapeCasts_S1x1024_S1x1x1024)))
          (subf (overC (shapeCast S8x128x1 py shapeCasts_S8x128_S8x128x1)) (overP (shapeCast S1x1x1024 ry shapeCasts_S1x1024_S1x1x1024)))))
      (kc S8x128x1024 0x322BCC77#32))
    (broadcast S8x128x1024 (Named.named κ "radius2" 0x44012245#32))

/-! ### The two sums -/

/-- The distance of a similarity entry. -/
def dist (v : FVec F S1024x1 .f32) : FVec F S1024x1 .f32 :=
  sqrt (maximumf (kc S1024x1 0x322BCC77#32) (addf v (kc S1024x1 0x40000000#32)))

/-- The margin loss against the entry of one rank. -/
def hinge (p : FVec F S1024x1 .f32) (v : FVec F S1024x1 .f32) : FVec F S1024x1 .f32 :=
  mulf (maximumf (kc S1024x1 0x00000000#32) (addf (subf p (dist v)) (kc S1024x1 0x3F800000#32)))
    (maximumf (kc S1024x1 0x00000000#32) (addf (subf p (dist v)) (kc S1024x1 0x3F800000#32)))

/-- The squared difference of two distances. -/
def dev (a b : FVec F S1024x1 .f32) : FVec F S1024x1 .f32 :=
  mulf (subf (dist a) (dist b)) (subf (dist a) (dist b))

/-- The first so many of a sequence of vectors added up, from zero. -/
def acc (g : ℕ → FVec F S1024x1 .f32) : ℕ → FVec F S1024x1 .f32
  | 0 => kc S1024x1 0x00000000#32
  | n + 1 => addf (acc g n) (g n)

/-- The sum of all entries. -/
def total (x : FVec F S1024x1 .f32) : F .f32 :=
  extractAt ![0, 0, 0]
    (shapeCast S1x1x1
      (multiReduction .add [1, 2] S1 (shapeCast S1x1024x1 x shapeCasts_S1024x1_S1x1024x1) 0x00000000#32
        reduces_S1x1024x1_S1 (.inl rfl) rfl)
      shapeCasts_S1_S1x1x1)
    inpos_S1x1x1_p0_0_0

/-- The first-order sum. -/
def fos (h : ℕ → F .f32) (kx ky wx wy : FVec F S8x128 .f32) (d e : FVec F S1024x256 .f32) : F .f32 :=
  total (acc (fun n => hinge (positive d (normed (sample wx wy e)))
    (top8 (pushed (nearMask h kx ky) (sims d e)) n)) 8)

/-- The second-order sum. -/
def sos (kx ky wx wy : FVec F S8x128 .f32) (kxr kyr wxr wyr : FVec F S1x1024 .f32) (d e : FVec F S1024x256 .f32) :
    F .f32 :=
  total (sqrt (addf
    (acc (fun n => dev (top8 (pushed (nearPts kx ky kxr kyr) (sims d d)) n)
      (top8 (pushed (nearPts wx wy wxr wyr) (sims (normed (sample wx wy e)) (normed (sample wx wy e)))) n)) 8)
    (kc S1024x1 0x322BCC77#32)))

/-- One grid point's contribution, added to the value so far. -/
def contrib (o : F .f32) (h : ℕ → F .f32) (kx ky wx wy : FVec F S8x128 .f32) (kxr kyr wxr wyr : FVec F S1x1024 .f32)
    (d e : FVec F S1024x256 .f32) : F .f32 :=
  Scalar.addf o
    (Scalar.addf (Scalar.divf (fos h kx ky wx wy d e) (Scalar.ofBits .f32 0x46800000#32))
      (Scalar.divf (sos kx ky wx wy kxr kyr wxr wyr d e) (Scalar.ofBits .f32 0x45000000#32)))

end Cert.Model

end
-- ==== Proof.PiecesA.lean ====
module

public import proofs.«01_k».proof.Proof.Gen.KernelIdeal.Frame.RunA
public import proofs.«01_k».proof.Proof.Model
public import Idealize.ShloMosaic.Lib.Tactic

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Cert.Model

variable {F : FTy → Type} [FloatOps F] [Named F]

/-- A whole block read, its leading axis dropped. -/
abbrev ldP (M : Memref sig .tc .vmem S1x8x128 .f32) (h : M.IsWhole) (x : Vec F S1x8x128 .f32) : FVec F S8x128 .f32 :=
  shapeCast S8x128 (View.readAt (Elt F) M.view (Rect.unit ![0, 0, 0] S1x8x128.size inb_S1x8x128_S1x8x128_0_0_0).toLoadRect (h.unread x))
    (by decide)

/-- A whole block read, its leading axis dropped. -/
abbrev ldR (M : Memref sig .tc .vmem S1x1x1024 .f32) (h : M.IsWhole) (x : Vec F S1x1x1024 .f32) : FVec F S1x1024 .f32 :=
  shapeCast S1x1024 (View.readAt (Elt F) M.view (Rect.unit ![0, 0, 0] S1x1x1024.size inb_S1x1x1024_S1x1x1024_0_0_0).toLoadRect (h.unread x))
    (by decide)

/-- A whole block read, its leading axis dropped. -/
abbrev ldD (M : Memref sig .tc .vmem S1x1024x256 .f32) (h : M.IsWhole) (x : Vec F S1x1024x256 .f32) : FVec F S1024x256 .f32 :=
  shapeCast S1024x256 (View.readAt (Elt F) M.view (Rect.unit ![0, 0, 0] S1x1024x256.size inb_S1x1024x256_S1x1024x256_0_0_0).toLoadRect (h.unread x))
    (by decide)

/-- The nine scalars of the homography read. -/
abbrev ldH (M : Memref sig .tc .smem S1x1x9 .f32) (h : M.IsWhole) (x : Vec F S1x1x9 .f32) : ℕ → F .f32
  | 0 => View.readAt (Elt F) M.view (Rect.unit (s := S1x1x9) ![0, 0, 0] S1x1x1.size inb_S1x1x9_S1x1x1_0_0_0).toLoadRect (h.unread x)
      (Shape.Idx.first (by decide))
  | 1 => View.readAt (Elt F) M.view (Rect.unit (s := S1x1x9) ![0, 0, 1] S1x1x1.size inb_S1x1x9_S1x1x1_0_0_1).toLoadRect (h.unread x)
      (Shape.Idx.first (by decide))
  | 2 => View.readAt (Elt F) M.view (Rect.unit (s := S1x1x9) ![0, 0, 2] S1x1x1.size inb_S1x1x9_S1x1x1_0_0_2).toLoadRect (h.unread x)
      (Shape.Idx.first (by decide))
  | 3 => View.readAt (Elt F) M.view (Rect.unit (s := S1x1x9) ![0, 0, 3] S1x1x1.size inb_S1x1x9_S1x1x1_0_0_3).toLoadRect (h.unread x)
      (Shape.Idx.first (by decide))
  | 4 => View.readAt (Elt F) M.view (Rect.unit (s := S1x1x9) ![0, 0, 4] S1x1x1.size inb_S1x1x9_S1x1x1_0_0_4).toLoadRect (h.unread x)
      (Shape.Idx.first (by decide))
  | 5 => View.readAt (Elt F) M.view (Rect.unit (s := S1x1x9) ![0, 0, 5] S1x1x1.size inb_S1x1x9_S1x1x1_0_0_5).toLoadRect (h.unread x)
      (Shape.Idx.first (by decide))
  | 6 => View.readAt (Elt F) M.view (Rect.unit (s := S1x1x9) ![0, 0, 6] S1x1x1.size inb_S1x1x9_S1x1x1_0_0_6).toLoadRect (h.unread x)
      (Shape.Idx.first (by decide))
  | 7 => View.readAt (Elt F) M.view (Rect.unit (s := S1x1x9) ![0, 0, 7] S1x1x1.size inb_S1x1x9_S1x1x1_0_0_7).toLoadRect (h.unread x)
      (Shape.Idx.first (by decide))
  | _ => View.readAt (Elt F) M.view (Rect.unit (s := S1x1x9) ![0, 0, 8] S1x1x1.size inb_S1x1x9_S1x1x1_0_0_8).toLoadRect (h.unread x)
      (Shape.Idx.first (by decide))

theorem pieces_A (c : Dev nD) (i : grid0.Coords) (arg1 : Memref sig .tc .vmem S1x1x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .smem S1x1x9 .f32) (harg11 : arg11.IsWhole) (arg12 : Memref sig .tc .smem S1x1 .f32) (harg12 : arg12.IsWhole) (hc0 : cond0_0 i)
    (x0 : Vec F S1x1x1024 .f32) (x1 : Vec F S1x1x1024 .f32) (x2 : Vec F S1x1x1024 .f32) (x3 : Vec F S1x1x1024 .f32) (x4 : Vec F S1x8x128 .f32) (x5 : Vec F S1x8x128 .f32) (x6 : Vec F S1x8x128 .f32) (x7 : Vec F S1x8x128 .f32) (x8 : Vec F S1x1024x256 .f32) (x9 : Vec F S1x1024x256 .f32) (x10 : Vec F S1x1x9 .f32) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10).1 = (⟨Rect.unit ![0, 0] ![1, 1] inb_S1x1_S1x1_0_0, fun _ => contrib (Scalar.ofBits .f32 0x00000000#32)
      (ldH arg11 harg11 x10) (ldP arg5 harg5 x4) (ldP arg6 harg6 x5) (ldP arg7 harg7 x6) (ldP arg8 harg8 x7)
      (ldR arg1 harg1 x0) (ldR arg2 harg2 x1) (ldR arg3 harg3 x2) (ldR arg4 harg4 x3) (ldD arg9 harg9 x8) (ldD arg10 harg10 x9)⟩ : View.Piece (Elt F) S1x1 .f32) :: [⟨Rect.unit ![0, 0] S1x1.size inb_S1x1_S1x1_0_0, fun _ => Scalar.ofBits .f32 0x00000000#32⟩] := by
  sl_kernel_rfl

end Cert.KernelIdeal.Gen

end
-- ==== Proof.PiecesB.lean ====
module

public import proofs.«01_k».proof.Proof.Gen.KernelIdeal.Frame.RunB
public import proofs.«01_k».proof.Proof.Model
public import Idealize.ShloMosaic.Lib.Tactic
public import proofs.«01_k».proof.Proof.PiecesA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Cert.Model

variable {F : FTy → Type} [FloatOps F] [Named F]

theorem pieces_B (c : Dev nD) (i : grid0.Coords) (arg1 : Memref sig .tc .vmem S1x1x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .smem S1x1x9 .f32) (harg11 : arg11.IsWhole) (arg12 : Memref sig .tc .smem S1x1 .f32) (harg12 : arg12.IsWhole) (hc0 : ¬cond0_0 i)
    (x0 : Vec F S1x1x1024 .f32) (x1 : Vec F S1x1x1024 .f32) (x2 : Vec F S1x1x1024 .f32) (x3 : Vec F S1x1x1024 .f32) (x4 : Vec F S1x8x128 .f32) (x5 : Vec F S1x8x128 .f32) (x6 : Vec F S1x8x128 .f32) (x7 : Vec F S1x8x128 .f32) (x8 : Vec F S1x1024x256 .f32) (x9 : Vec F S1x1024x256 .f32) (x10 : Vec F S1x1x9 .f32) (xo11 : Vec F S1x1 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 xo11).1 = (⟨Rect.unit ![0, 0] ![1, 1] inb_S1x1_S1x1_0_0, fun _ => contrib (View.readAt (Elt F) arg12.view (Rect.unit ![0, 0] S1x1.size inb_S1x1_S1x1_0_0).toLoadRect (harg12.unread xo11)
        (Shape.Idx.first (by decide)))
      (ldH arg11 harg11 x10) (ldP arg5 harg5 x4) (ldP arg6 harg6 x5) (ldP arg7 harg7 x6) (ldP arg8 harg8 x7)
      (ldR arg1 harg1 x0) (ldR arg2 harg2 x1) (ldR arg3 harg3 x2) (ldR arg4 harg4 x3) (ldD arg9 harg9 x8) (ldD arg10 harg10 x9)⟩ : View.Piece (Elt F) S1x1 .f32) :: [] := by
  sl_kernel_rfl

end Cert.KernelIdeal.Gen

end
-- ==== Proof.RunValue.lean ====
/- The kernel's run, read back: the result is the two grid points' contributions added to zero, each a function of the
   point's blocks; and the blocks as entries of the arguments. -/
module

public import proofs.«01_k».proof.Proof.Gen.KernelIdeal.Value
public import proofs.«01_k».proof.Proof.PiecesA
public import proofs.«01_k».proof.Proof.PiecesB
public import Idealize.ShloMosaic.Lib.Pointwise
public import Idealize.ShloMosaic.Lib.Pipeline.Value
public import Idealize.ShloMosaic.Lib.StableHlo.Run

@[expose] public section

set_option maxRecDepth 16384

noncomputable section

namespace Cert.KernelIdeal.Gen

open Idealize.ShloMosaic Idealize.ShloMosaic.TcCoe Idealize.SL.Sem
open Idealize.ShloMosaic.Pipeline (Dat)
open Cert.Model

variable {F : FTy → Type} [FloatOps F] [Named F]

theorem z2 : (![0, 0] : Fin 2 → Nat) = fun _ => 0 := funext fun a => by fin_cases a <;> rfl
theorem z3 : (![0, 0, 0] : Fin 3 → Nat) = fun _ => 0 := funext fun a => by fin_cases a <;> rfl

/-- Blocks without their leading axis, and the nine scalars. -/
abbrev cP (x : Vec F S1x8x128 .f32) : FVec F S8x128 .f32 := shapeCast S8x128 x (by decide)
@[inherit_doc cP]
abbrev cR (x : Vec F S1x1x1024 .f32) : FVec F S1x1024 .f32 := shapeCast S1x1024 x (by decide)
@[inherit_doc cP]
abbrev cD (x : Vec F S1x1024x256 .f32) : FVec F S1024x256 .f32 := shapeCast S1024x256 x (by decide)
@[inherit_doc cP]
def cH (x : Vec F S1x1x9 .f32) (n : ℕ) : F .f32 := x (ix3 0 0 ⟨min n 8, by omega⟩)

theorem ldP_eq (M : Memref sig .tc .vmem S1x8x128 .f32) (h : M.IsWhole) (x : Vec F S1x8x128 .f32) : ldP M h x = cP x := by
  unfold ldP cP
  simp only [View.readAt_eq_ld, h.read_unread, View.ld_unit_zero (S := S1x8x128) z3]

theorem ldR_eq (M : Memref sig .tc .vmem S1x1x1024 .f32) (h : M.IsWhole) (x : Vec F S1x1x1024 .f32) : ldR M h x = cR x := by
  unfold ldR cR
  simp only [View.readAt_eq_ld, h.read_unread, View.ld_unit_zero (S := S1x1x1024) z3]

theorem ldD_eq (M : Memref sig .tc .vmem S1x1024x256 .f32) (h : M.IsWhole) (x : Vec F S1x1024x256 .f32) : ldD M h x = cD x := by
  unfold ldD cD
  simp only [View.readAt_eq_ld, h.read_unread, View.ld_unit_zero (S := S1x1024x256) z3]

theorem ldH_eq (M : Memref sig .tc .smem S1x1x9 .f32) (h : M.IsWhole) (x : Vec F S1x1x9 .f32) : ldH M h x = cH x := by
  funext n
  unfold cH
  have key : ∀ (k : Fin 9) (hb) (hp), View.readAt (Elt F) M.view (Rect.unit (s := S1x1x9) ![0, 0, k.val] S1x1x1.size hb).toLoadRect (h.unread x)
      (Shape.Idx.first hp) = x (ix3 0 0 k) := by
    intro k hb hp
    rw [View.readAt_eq_ld, h.read_unread]
    show x _ = x _
    congr 1
    funext a
    apply Fin.ext
    match a with
    | ⟨0, _⟩ => rfl
    | ⟨1, _⟩ => rfl
    | ⟨2, _⟩ => show k.val + 1 * 0 = k.val; omega
  match n with
  | 0 => exact key 0 _ _
  | 1 => exact key 1 _ _
  | 2 => exact key 2 _ _
  | 3 => exact key 3 _ _
  | 4 => exact key 4 _ _
  | 5 => exact key 5 _ _
  | 6 => exact key 6 _ _
  | 7 => exact key 7 _ _
  | n + 8 =>
    refine (key 8 _ _).trans ?_
    congr 2
    apply Fin.ext
    show 8 = min (n + 8) 8
    omega

theorem out_A (c : Dev nD) (i : grid0.Coords) (arg1 : Memref sig .tc .vmem S1x1x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .smem S1x1x9 .f32) (harg11 : arg11.IsWhole) (arg12 : Memref sig .tc .smem S1x1 .f32) (harg12 : arg12.IsWhole) (hc0 : cond0_0 i)
    (x0 : Vec F S1x1x1024 .f32) (x1 : Vec F S1x1x1024 .f32) (x2 : Vec F S1x1x1024 .f32) (x3 : Vec F S1x1x1024 .f32) (x4 : Vec F S1x8x128 .f32) (x5 : Vec F S1x8x128 .f32) (x6 : Vec F S1x8x128 .f32) (x7 : Vec F S1x8x128 .f32) (x8 : Vec F S1x1024x256 .f32) (x9 : Vec F S1x1024x256 .f32) (x10 : Vec F S1x1x9 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 = fun _ => contrib (Scalar.ofBits .f32 0x00000000#32) (cH x10) (cP x4) (cP x5) (cP x6) (cP x7) (cR x0) (cR x1) (cR x2) (cR x3) (cD x8) (cD x9) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10)]
  rw [pieces_A]
  rw [View.canon_cons_unit_zero (S := S1x1) z2]
  simp only [ldP_eq, ldR_eq, ldD_eq, ldH_eq]
  rfl

theorem out_B (c : Dev nD) (i : grid0.Coords) (arg1 : Memref sig .tc .vmem S1x1x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (arg8 : Memref sig .tc .vmem S1x8x128 .f32) (harg8 : arg8.IsWhole) (arg9 : Memref sig .tc .vmem S1x1024x256 .f32) (harg9 : arg9.IsWhole) (arg10 : Memref sig .tc .vmem S1x1024x256 .f32) (harg10 : arg10.IsWhole) (arg11 : Memref sig .tc .smem S1x1x9 .f32) (harg11 : arg11.IsWhole) (arg12 : Memref sig .tc .smem S1x1 .f32) (harg12 : arg12.IsWhole) (hc0 : ¬cond0_0 i)
    (x0 : Vec F S1x1x1024 .f32) (x1 : Vec F S1x1x1024 .f32) (x2 : Vec F S1x1x1024 .f32) (x3 : Vec F S1x1x1024 .f32) (x4 : Vec F S1x8x128 .f32) (x5 : Vec F S1x8x128 .f32) (x6 : Vec F S1x8x128 .f32) (x7 : Vec F S1x8x128 .f32) (x8 : Vec F S1x1024x256 .f32) (x9 : Vec F S1x1024x256 .f32) (x10 : Vec F S1x1x9 .f32) (xo11 : Vec F S1x1 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 xo11 = fun _ => contrib (xo11 (ix2 0 0)) (cH x10) (cP x4) (cP x5) (cP x6) (cP x7) (cR x0) (cR x1) (cR x2) (cR x3) (cD x8) (cD x9) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 x10 xo11)]
  rw [pieces_B]
  rw [View.canon_unit_zero (S := S1x1) z2]
  simp only [ldP_eq, ldR_eq, ldD_eq, ldH_eq]
  have e : View.readAt (Elt F) arg12.view (Rect.unit ![0, 0] S1x1.size inb_S1x1_S1x1_0_0).toLoadRect (harg12.unread xo11)
      (Shape.Idx.first (by decide)) = xo11 (ix2 0 0) := by
    rw [View.readAt_eq_ld, harg12.read_unread, View.ld_unit_zero (S := S1x1) z2]
    congr 1
    funext a
    apply Fin.ext
    have := (Shape.Idx.first (s := S1x1) (by decide) a).isLt
    match a with
    | ⟨0, _⟩ => rfl
    | ⟨1, _⟩ => rfl
  rw [e]
  rfl

variable (m : (ℓ : Loc nD τ sig) → Buf (Elt F) ℓ) (ρ : Dev nD → PrngReg)

/-- A grid point's contribution, from its blocks. -/
def point (c : Dev nD) (t : Fin cfg0.N) (o : F .f32) : F .f32 :=
  contrib o (cH (iblk m c 10 t)) (cP (iblk m c 4 t)) (cP (iblk m c 5 t)) (cP (iblk m c 6 t)) (cP (iblk m c 7 t))
    (cR (iblk m c 0 t)) (cR (iblk m c 1 t)) (cR (iblk m c 2 t)) (cR (iblk m c 3 t)) (cD (iblk m c 8 t)) (cD (iblk m c 9 t))

/-- The result array. -/
abbrev result (c : Dev nD) : Buf (Elt F) ((c : Thread nD τ).loc main_v0) :=
  fun _ => point m c t0_1 (point m c t0_0 (Scalar.ofBits .f32 0x00000000#32))

theorem outs_eq (c : Dev nD) : outsAt0 m c t0_1.val t0_1.isLt = result m c := by
  rw [outsAt0_B m c t0_1 (by decide), out_B]
  have e : outsAt0 m c (t0_1.val - 1) (Nat.lt_of_le_of_lt (Nat.sub_le _ _) t0_1.isLt)
      = fun _ => point m c t0_0 (Scalar.ofBits .f32 0x00000000#32) := (outsAt0_A m c t0_0 rfl).trans (out_A ..)
  rw [e]
  rfl

theorem flushed_eq (c : Dev nD) (t : Fin cfg0.N) (hf : (cfg0.win 11).flush t = true) :
    (dats m 0 c).flushed 11 t = ((cfg0.win 11).blk t).view.read (Elt F) (result m c) := by
  have h3 : t.val % 2 = 1 := (flush0_11 t).mp hf
  have ht : t = t0_1 := by
    rcases fin_N0 t with h | h
    · rw [h] at h3; exact absurd h3 (by decide)
    · exact h
  subst ht
  show (cfg0.win 11).cut (grid0.coords t0_1) ((dats m 0 c).after 11 t0_1) = _
  rw [after0_11, outs_eq]
  funext j
  rw [View.read_apply]
  rfl

/-- The result array ends holding the two contributions. -/
theorem final_o (c : Dev nD) : (dats m 0 c).arrAt 11 cfg0.N = result m c :=
  (dats m 0 c).arrAt_eq_of_cover 11 (result m c) (flushed_eq m c) fun i =>
    ⟨t0_1, (flush0_11 t0_1).mpr rfl, by
      show i ∈ ((View.whole main_v0).slice (win0_11.rect t0_1)).set
      rw [View.set_slice_whole, Rect.mem_set_unit]
      intro a
      have h0 : (i 0 : Nat) < 1 := (i 0).isLt
      have h1 : (i 1 : Nat) < 1 := (i 1).isLt
      match a with
      | ⟨0, _⟩ => show win0_11.index t0_1 0 * win0_11.size 0 ≤ (i 0 : Nat) ∧ (i 0 : Nat) < win0_11.index t0_1 0 * win0_11.size 0 + win0_11.xsize (grid0.coords t0_1) 0
                  rw [show win0_11.index t0_1 0 * win0_11.size 0 = 0 from by decide +kernel, show win0_11.xsize (grid0.coords t0_1) 0 = 1 from by decide +kernel]; omega
      | ⟨1, _⟩ => show win0_11.index t0_1 1 * win0_11.size 1 ≤ (i 1 : Nat) ∧ (i 1 : Nat) < win0_11.index t0_1 1 * win0_11.size 1 + win0_11.xsize (grid0.coords t0_1) 1
                  rw [show win0_11.index t0_1 1 * win0_11.size 1 = 0 from by decide +kernel, show win0_11.xsize (grid0.coords t0_1) 1 = 1 from by decide +kernel]; omega⟩

end Cert.KernelIdeal.Gen

end
-- ==== Proof.Blocks.lean ====
/- The kernel's blocks as entries of its arguments. -/
module

public import proofs.«01_k».proof.Proof.RunValue

@[expose] public section

set_option maxRecDepth 16384

noncomputable section

namespace Cert.KernelIdeal.Gen

open Idealize.ShloMosaic Idealize.ShloMosaic.TcCoe Idealize.SL.Sem Idealize.ShloMosaic.StableHlo

variable {F : FTy → Type} [FloatOps F] [Named F]
variable (m : (ℓ : Loc nD τ sig) → Buf (Elt F) ℓ)

/-- One coordinate of the points, as the host takes it. -/
abbrev coord (k : Fin 3 → Nat) (h : S2x1024x2.Slices k S2x1024x1) (x : FVec F S2x1024x2 .f32) : FVec F S2x1024 .f32 :=
  shapeCast S2x1024 (extractStridedSlice S2x1024x1 k x h) shapeCasts_S2x1024x1_S2x1024

/-- The launch contents of the arguments. -/
abbrev arg0 (c : Dev nD) : FVec F S2x1024x2 .f32 := m ((c : Thread nD τ).loc main_arg0)
@[inherit_doc arg0]
abbrev arg1 (c : Dev nD) : FVec F S2x1024x2 .f32 := m ((c : Thread nD τ).loc main_arg1)
@[inherit_doc arg0]
abbrev arg2 (c : Dev nD) : FVec F S2x1024x256 .f32 := m ((c : Thread nD τ).loc main_arg2)
@[inherit_doc arg0]
abbrev arg3 (c : Dev nD) : FVec F S2x256x32x32 .f32 := m ((c : Thread nD τ).loc main_arg3)
@[inherit_doc arg0]
abbrev arg4 (c : Dev nD) : FVec F S2x3x3 .f32 := m ((c : Thread nD τ).loc main_arg4)

/-- A grid point's batch entry. -/
abbrev bat (t : Fin cfg0.N) : Fin 2 := ⟨t.val, N_0 ▸ t.isLt⟩

theorem coord0_ap (x : FVec F S2x1024x2 .f32) (b : Fin 2) (n : Fin 1024) :
    coord ![0, 0, 0] slices_S2x1024x2_S2x1024x1_0_0_0 x (ix2 b n) = x (ix3 b n 0) := by
  unfold coord
  pointwise

theorem coord1_ap (x : FVec F S2x1024x2 .f32) (b : Fin 2) (n : Fin 1024) :
    coord ![0, 0, 1] slices_S2x1024x2_S2x1024x1_0_0_1 x (ix2 b n) = x (ix3 b n 1) := by
  unfold coord
  pointwise

theorem r_ap (x : FVec F S2x1024 .f32) (b : Fin 2) (n : Fin 1024) :
    shapeCast S2x1x1024 x shapeCasts_S2x1024_S2x1x1024 (ix3 b 0 n) = x (ix2 b n) := by
  pointwise

theorem p_ap (x : FVec F S2x1024 .f32) (b : Fin 2) (i : Fin 8) (j : Fin 128) :
    shapeCast S2x8x128 x shapeCasts_S2x1024_S2x8x128 (ix3 b i j) = x (ix2 b ⟨i.val * 128 + j.val, by omega⟩) := by
  pointwise

theorem V_v2 (c : Dev nD) : V m c main_call0_v2 = shapeCast S2x1x1024
    (coord ![0, 0, 0] slices_S2x1024x2_S2x1024x1_0_0_0 (arg0 m c)) shapeCasts_S2x1024_S2x1x1024 := by
  unfold V hostOps0
  after_results
  rfl

theorem V_v5 (c : Dev nD) : V m c main_call0_v5 = shapeCast S2x1x1024
    (coord ![0, 0, 1] slices_S2x1024x2_S2x1024x1_0_0_1 (arg0 m c)) shapeCasts_S2x1024_S2x1x1024 := by
  unfold V hostOps0
  after_results
  rfl

theorem V_v8 (c : Dev nD) : V m c main_call0_v8 = shapeCast S2x1x1024
    (coord ![0, 0, 0] slices_S2x1024x2_S2x1024x1_0_0_0 (arg1 m c)) shapeCasts_S2x1024_S2x1x1024 := by
  unfold V hostOps0
  after_results
  rfl

theorem V_v11 (c : Dev nD) : V m c main_call0_v11 = shapeCast S2x1x1024
    (coord ![0, 0, 1] slices_S2x1024x2_S2x1024x1_0_0_1 (arg1 m c)) shapeCasts_S2x1024_S2x1x1024 := by
  unfold V hostOps0
  after_results
  rfl

theorem V_v14 (c : Dev nD) : V m c main_call0_v14 = shapeCast S2x8x128
    (coord ![0, 0, 0] slices_S2x1024x2_S2x1024x1_0_0_0 (arg0 m c)) shapeCasts_S2x1024_S2x8x128 := by
  unfold V hostOps0
  after_results
  rfl

theorem V_v17 (c : Dev nD) : V m c main_call0_v17 = shapeCast S2x8x128
    (coord ![0, 0, 1] slices_S2x1024x2_S2x1024x1_0_0_1 (arg0 m c)) shapeCasts_S2x1024_S2x8x128 := by
  unfold V hostOps0
  after_results
  rfl

theorem V_v20 (c : Dev nD) : V m c main_call0_v20 = shapeCast S2x8x128
    (coord ![0, 0, 0] slices_S2x1024x2_S2x1024x1_0_0_0 (arg1 m c)) shapeCasts_S2x1024_S2x8x128 := by
  unfold V hostOps0
  after_results
  rfl

theorem V_v23 (c : Dev nD) : V m c main_call0_v23 = shapeCast S2x8x128
    (coord ![0, 0, 1] slices_S2x1024x2_S2x1024x1_0_0_1 (arg1 m c)) shapeCasts_S2x1024_S2x8x128 := by
  unfold V hostOps0
  after_results
  rfl

theorem V_v25 (c : Dev nD) : V m c main_call0_v25 = shapeCast S2x1024x256
    (transpose S2x32x32x256 [0, 2, 3, 1] (arg3 m c) transposes_S2x256x32x32_S2x32x32x256_0_2_3_1) shapeCasts_S2x32x32x256_S2x1024x256 := by
  unfold V hostOps0
  after_results
  rfl

theorem V_v26 (c : Dev nD) : V m c main_call0_v26 = shapeCast S2x1x9 (arg4 m c) shapeCasts_S2x3x3_S2x1x9 := by
  unfold V hostOps0
  after_results
  rfl

theorem iblk_0 (c : Dev nD) (t : Fin cfg0.N) (i : Fin 1) (j : Fin 1024) :
    iblk m c 0 t (ix3 0 i j) = V m c main_call0_v2 (ix3 (bat t) i j) := by
  have hi : win0_0.index t 0 = t.val ∧ win0_0.index t 1 = 0 ∧ win0_0.index t 2 = 0 := by
    rcases fin_N0 t with rfl | rfl <;> decide
  unfold iblk
  rw [View.read_apply]
  show V m c main_call0_v2 _ = V m c main_call0_v2 _
  congr 1
  funext a
  apply Fin.ext
  match a with
  | ⟨0, _⟩ => show win0_0.index t 0 * 1 + 1 * 0 = t.val; rw [hi.1]; omega
  | ⟨1, _⟩ => show win0_0.index t 1 * 1 + 1 * i.val = i.val; rw [hi.2.1]; omega
  | ⟨2, _⟩ => show win0_0.index t 2 * 1024 + 1 * j.val = j.val; rw [hi.2.2]; omega

theorem iblk_1 (c : Dev nD) (t : Fin cfg0.N) (i : Fin 1) (j : Fin 1024) :
    iblk m c 1 t (ix3 0 i j) = V m c main_call0_v5 (ix3 (bat t) i j) := by
  have hi : win0_1.index t 0 = t.val ∧ win0_1.index t 1 = 0 ∧ win0_1.index t 2 = 0 := by
    rcases fin_N0 t with rfl | rfl <;> decide
  unfold iblk
  rw [View.read_apply]
  show V m c main_call0_v5 _ = V m c main_call0_v5 _
  congr 1
  funext a
  apply Fin.ext
  match a with
  | ⟨0, _⟩ => show win0_1.index t 0 * 1 + 1 * 0 = t.val; rw [hi.1]; omega
  | ⟨1, _⟩ => show win0_1.index t 1 * 1 + 1 * i.val = i.val; rw [hi.2.1]; omega
  | ⟨2, _⟩ => show win0_1.index t 2 * 1024 + 1 * j.val = j.val; rw [hi.2.2]; omega

theorem iblk_2 (c : Dev nD) (t : Fin cfg0.N) (i : Fin 1) (j : Fin 1024) :
    iblk m c 2 t (ix3 0 i j) = V m c main_call0_v8 (ix3 (bat t) i j) := by
  have hi : win0_2.index t 0 = t.val ∧ win0_2.index t 1 = 0 ∧ win0_2.index t 2 = 0 := by
    rcases fin_N0 t with rfl | rfl <;> decide
  unfold iblk
  rw [View.read_apply]
  show V m c main_call0_v8 _ = V m c main_call0_v8 _
  congr 1
  funext a
  apply Fin.ext
  match a with
  | ⟨0, _⟩ => show win0_2.index t 0 * 1 + 1 * 0 = t.val; rw [hi.1]; omega
  | ⟨1, _⟩ => show win0_2.index t 1 * 1 + 1 * i.val = i.val; rw [hi.2.1]; omega
  | ⟨2, _⟩ => show win0_2.index t 2 * 1024 + 1 * j.val = j.val; rw [hi.2.2]; omega

theorem iblk_3 (c : Dev nD) (t : Fin cfg0.N) (i : Fin 1) (j : Fin 1024) :
    iblk m c 3 t (ix3 0 i j) = V m c main_call0_v11 (ix3 (bat t) i j) := by
  have hi : win0_3.index t 0 = t.val ∧ win0_3.index t 1 = 0 ∧ win0_3.index t 2 = 0 := by
    rcases fin_N0 t with rfl | rfl <;> decide
  unfold iblk
  rw [View.read_apply]
  show V m c main_call0_v11 _ = V m c main_call0_v11 _
  congr 1
  funext a
  apply Fin.ext
  match a with
  | ⟨0, _⟩ => show win0_3.index t 0 * 1 + 1 * 0 = t.val; rw [hi.1]; omega
  | ⟨1, _⟩ => show win0_3.index t 1 * 1 + 1 * i.val = i.val; rw [hi.2.1]; omega
  | ⟨2, _⟩ => show win0_3.index t 2 * 1024 + 1 * j.val = j.val; rw [hi.2.2]; omega

theorem iblk_4 (c : Dev nD) (t : Fin cfg0.N) (i : Fin 8) (j : Fin 128) :
    iblk m c 4 t (ix3 0 i j) = V m c main_call0_v14 (ix3 (bat t) i j) := by
  have hi : win0_4.index t 0 = t.val ∧ win0_4.index t 1 = 0 ∧ win0_4.index t 2 = 0 := by
    rcases fin_N0 t with rfl | rfl <;> decide
  unfold iblk
  rw [View.read_apply]
  show V m c main_call0_v14 _ = V m c main_call0_v14 _
  congr 1
  funext a
  apply Fin.ext
  match a with
  | ⟨0, _⟩ => show win0_4.index t 0 * 1 + 1 * 0 = t.val; rw [hi.1]; omega
  | ⟨1, _⟩ => show win0_4.index t 1 * 8 + 1 * i.val = i.val; rw [hi.2.1]; omega
  | ⟨2, _⟩ => show win0_4.index t 2 * 128 + 1 * j.val = j.val; rw [hi.2.2]; omega

theorem iblk_5 (c : Dev nD) (t : Fin cfg0.N) (i : Fin 8) (j : Fin 128) :
    iblk m c 5 t (ix3 0 i j) = V m c main_call0_v17 (ix3 (bat t) i j) := by
  have hi : win0_5.index t 0 = t.val ∧ win0_5.index t 1 = 0 ∧ win0_5.index t 2 = 0 := by
    rcases fin_N0 t with rfl | rfl <;> decide
  unfold iblk
  rw [View.read_apply]
  show V m c main_call0_v17 _ = V m c main_call0_v17 _
  congr 1
  funext a
  apply Fin.ext
  match a with
  | ⟨0, _⟩ => show win0_5.index t 0 * 1 + 1 * 0 = t.val; rw [hi.1]; omega
  | ⟨1, _⟩ => show win0_5.index t 1 * 8 + 1 * i.val = i.val; rw [hi.2.1]; omega
  | ⟨2, _⟩ => show win0_5.index t 2 * 128 + 1 * j.val = j.val; rw [hi.2.2]; omega

theorem iblk_6 (c : Dev nD) (t : Fin cfg0.N) (i : Fin 8) (j : Fin 128) :
    iblk m c 6 t (ix3 0 i j) = V m c main_call0_v20 (ix3 (bat t) i j) := by
  have hi : win0_6.index t 0 = t.val ∧ win0_6.index t 1 = 0 ∧ win0_6.index t 2 = 0 := by
    rcases fin_N0 t with rfl | rfl <;> decide
  unfold iblk
  rw [View.read_apply]
  show V m c main_call0_v20 _ = V m c main_call0_v20 _
  congr 1
  funext a
  apply Fin.ext
  match a with
  | ⟨0, _⟩ => show win0_6.index t 0 * 1 + 1 * 0 = t.val; rw [hi.1]; omega
  | ⟨1, _⟩ => show win0_6.index t 1 * 8 + 1 * i.val = i.val; rw [hi.2.1]; omega
  | ⟨2, _⟩ => show win0_6.index t 2 * 128 + 1 * j.val = j.val; rw [hi.2.2]; omega

theorem iblk_7 (c : Dev nD) (t : Fin cfg0.N) (i : Fin 8) (j : Fin 128) :
    iblk m c 7 t (ix3 0 i j) = V m c main_call0_v23 (ix3 (bat t) i j) := by
  have hi : win0_7.index t 0 = t.val ∧ win0_7.index t 1 = 0 ∧ win0_7.index t 2 = 0 := by
    rcases fin_N0 t with rfl | rfl <;> decide
  unfold iblk
  rw [View.read_apply]
  show V m c main_call0_v23 _ = V m c main_call0_v23 _
  congr 1
  funext a
  apply Fin.ext
  match a with
  | ⟨0, _⟩ => show win0_7.index t 0 * 1 + 1 * 0 = t.val; rw [hi.1]; omega
  | ⟨1, _⟩ => show win0_7.index t 1 * 8 + 1 * i.val = i.val; rw [hi.2.1]; omega
  | ⟨2, _⟩ => show win0_7.index t 2 * 128 + 1 * j.val = j.val; rw [hi.2.2]; omega

theorem iblk_8 (c : Dev nD) (t : Fin cfg0.N) (i : Fin 1024) (j : Fin 256) :
    iblk m c 8 t (ix3 0 i j) = V m c main_arg2 (ix3 (bat t) i j) := by
  have hi : win0_8.index t 0 = t.val ∧ win0_8.index t 1 = 0 ∧ win0_8.index t 2 = 0 := by
    rcases fin_N0 t with rfl | rfl <;> decide
  unfold iblk
  rw [View.read_apply]
  show V m c main_arg2 _ = V m c main_arg2 _
  congr 1
  funext a
  apply Fin.ext
  match a with
  | ⟨0, _⟩ => show win0_8.index t 0 * 1 + 1 * 0 = t.val; rw [hi.1]; omega
  | ⟨1, _⟩ => show win0_8.index t 1 * 1024 + 1 * i.val = i.val; rw [hi.2.1]; omega
  | ⟨2, _⟩ => show win0_8.index t 2 * 256 + 1 * j.val = j.val; rw [hi.2.2]; omega

theorem iblk_9 (c : Dev nD) (t : Fin cfg0.N) (i : Fin 1024) (j : Fin 256) :
    iblk m c 9 t (ix3 0 i j) = V m c main_call0_v25 (ix3 (bat t) i j) := by
  have hi : win0_9.index t 0 = t.val ∧ win0_9.index t 1 = 0 ∧ win0_9.index t 2 = 0 := by
    rcases fin_N0 t with rfl | rfl <;> decide
  unfold iblk
  rw [View.read_apply]
  show V m c main_call0_v25 _ = V m c main_call0_v25 _
  congr 1
  funext a
  apply Fin.ext
  match a with
  | ⟨0, _⟩ => show win0_9.index t 0 * 1 + 1 * 0 = t.val; rw [hi.1]; omega
  | ⟨1, _⟩ => show win0_9.index t 1 * 1024 + 1 * i.val = i.val; rw [hi.2.1]; omega
  | ⟨2, _⟩ => show win0_9.index t 2 * 256 + 1 * j.val = j.val; rw [hi.2.2]; omega

theorem iblk_10 (c : Dev nD) (t : Fin cfg0.N) (i : Fin 1) (j : Fin 9) :
    iblk m c 10 t (ix3 0 i j) = V m c main_call0_v26 (ix3 (bat t) i j) := by
  have hi : win0_10.index t 0 = t.val ∧ win0_10.index t 1 = 0 ∧ win0_10.index t 2 = 0 := by
    rcases fin_N0 t with rfl | rfl <;> decide
  unfold iblk
  rw [View.read_apply]
  show V m c main_call0_v26 _ = V m c main_call0_v26 _
  congr 1
  funext a
  apply Fin.ext
  match a with
  | ⟨0, _⟩ => show win0_10.index t 0 * 1 + 1 * 0 = t.val; rw [hi.1]; omega
  | ⟨1, _⟩ => show win0_10.index t 1 * 1 + 1 * i.val = i.val; rw [hi.2.1]; omega
  | ⟨2, _⟩ => show win0_10.index t 2 * 9 + 1 * j.val = j.val; rw [hi.2.2]; omega

/-- Dropping a leading axis of one. -/
theorem cP_ap (x : Vec F S1x8x128 .f32) (i : Fin 8) (j : Fin 128) : cP x (ix2 i j) = x (ix3 0 i j) := by
  unfold cP
  pointwise
@[inherit_doc cP_ap]
theorem cR_ap (x : Vec F S1x1x1024 .f32) (j : Fin 1024) : cR x (ix2 0 j) = x (ix3 0 0 j) := by
  unfold cR
  pointwise
@[inherit_doc cP_ap]
theorem cD_ap (x : Vec F S1x1024x256 .f32) (i : Fin 1024) (j : Fin 256) : cD x (ix2 i j) = x (ix3 0 i j) := by
  unfold cD
  pointwise

theorem in_0 (c : Dev nD) (t : Fin cfg0.N) (n : Fin 1024) : cR (iblk m c 0 t) (ix2 0 n) = arg0 m c (ix3 (bat t) n 0) := by
  rw [cR_ap, iblk_0, V_v2, r_ap, coord0_ap]

theorem in_1 (c : Dev nD) (t : Fin cfg0.N) (n : Fin 1024) : cR (iblk m c 1 t) (ix2 0 n) = arg0 m c (ix3 (bat t) n 1) := by
  rw [cR_ap, iblk_1, V_v5, r_ap, coord1_ap]

theorem in_2 (c : Dev nD) (t : Fin cfg0.N) (n : Fin 1024) : cR (iblk m c 2 t) (ix2 0 n) = arg1 m c (ix3 (bat t) n 0) := by
  rw [cR_ap, iblk_2, V_v8, r_ap, coord0_ap]

theorem in_3 (c : Dev nD) (t : Fin cfg0.N) (n : Fin 1024) : cR (iblk m c 3 t) (ix2 0 n) = arg1 m c (ix3 (bat t) n 1) := by
  rw [cR_ap, iblk_3, V_v11, r_ap, coord1_ap]

theorem in_4 (c : Dev nD) (t : Fin cfg0.N) (i : Fin 8) (j : Fin 128) :
    cP (iblk m c 4 t) (ix2 i j) = arg0 m c (ix3 (bat t) ⟨i.val * 128 + j.val, by omega⟩ 0) := by
  rw [cP_ap, iblk_4, V_v14, p_ap, coord0_ap]

theorem in_5 (c : Dev nD) (t : Fin cfg0.N) (i : Fin 8) (j : Fin 128) :
    cP (iblk m c 5 t) (ix2 i j) = arg0 m c (ix3 (bat t) ⟨i.val * 128 + j.val, by omega⟩ 1) := by
  rw [cP_ap, iblk_5, V_v17, p_ap, coord1_ap]

theorem in_6 (c : Dev nD) (t : Fin cfg0.N) (i : Fin 8) (j : Fin 128) :
    cP (iblk m c 6 t) (ix2 i j) = arg1 m c (ix3 (bat t) ⟨i.val * 128 + j.val, by omega⟩ 0) := by
  rw [cP_ap, iblk_6, V_v20, p_ap, coord0_ap]

theorem in_7 (c : Dev nD) (t : Fin cfg0.N) (i : Fin 8) (j : Fin 128) :
    cP (iblk m c 7 t) (ix2 i j) = arg1 m c (ix3 (bat t) ⟨i.val * 128 + j.val, by omega⟩ 1) := by
  rw [cP_ap, iblk_7, V_v23, p_ap, coord1_ap]

theorem in_8 (c : Dev nD) (t : Fin cfg0.N) (n : Fin 1024) (k : Fin 256) :
    cD (iblk m c 8 t) (ix2 n k) = arg2 m c (ix3 (bat t) n k) := by
  rw [cD_ap, iblk_8, V_main_arg2]

theorem in_9 (c : Dev nD) (t : Fin cfg0.N) (n : Fin 1024) (k : Fin 256) :
    cD (iblk m c 9 t) (ix2 n k) = arg3 m c (ix4 (bat t) k ⟨n.val / 32, by omega⟩ ⟨n.val % 32, by omega⟩) := by
  rw [cD_ap, iblk_9, V_v25]
  pointwise
  rfl

theorem in_10 (c : Dev nD) (t : Fin cfg0.N) (i j : Fin 3) :
    cH (iblk m c 10 t) (3 * i.val + j.val) = arg4 m c (ix3 (bat t) i j) := by
  unfold cH
  rw [iblk_10, V_v26]
  fin_cases i <;> fin_cases j <;> pointwise

end Cert.KernelIdeal.Gen

end
-- ==== Proof.Near.lean ====
/- The first few elements of a finite set in an order, and how repeated removal of a list's least entry finds them; the
   first four of a sum over two axes lie among the first four of each axis. -/
module

public import Idealize.ShloMosaic.Lib.Pointwise
public import Idealize.ShloMosaic.PureOps.Ideal

@[expose] public section

noncomputable section

open scoped Classical

namespace Cert.Near

section
variable {α : Type} [LinearOrder α]

/-- The elements of `A` with fewer than `k` elements of `A` before them. -/
def firsts (A : Finset α) (k : ℕ) : Finset α := A.filter fun a => (A.filter fun b => b < a).card < k

theorem mem_firsts {A : Finset α} {k : ℕ} {a : α} : a ∈ firsts A k ↔ a ∈ A ∧ (A.filter fun b => b < a).card < k := by
  simp [firsts]

theorem firsts_succ {A : Finset α} {p : α} (hp : p ∈ A) (hm : ∀ q ∈ A, p ≤ q) (k : ℕ) :
    firsts A (k + 1) = insert p (firsts (A.erase p) k) := by
  ext a
  rw [Finset.mem_insert, mem_firsts, mem_firsts]
  by_cases ha : a = p
  · subst ha
    have : (A.filter fun b => b < a) = ∅ := Finset.filter_eq_empty_iff.mpr fun q hq => not_lt.mpr (hm q hq)
    simp [hp, this]
  · by_cases hA : a ∈ A
    · have hlt : p < a := lt_of_le_of_ne (hm a hA) (Ne.symm ha)
      have he : ((A.erase p).filter fun b => b < a) = (A.filter fun b => b < a).erase p := by
        ext b; simp only [Finset.mem_filter, Finset.mem_erase]; tauto
      have hc : p ∈ A.filter fun b => b < a := Finset.mem_filter.mpr ⟨hp, hlt⟩
      have := Finset.card_erase_of_mem hc
      have h0 : 0 < (A.filter fun b => b < a).card := Finset.card_pos.mpr ⟨p, hc⟩
      rw [he, this]
      simp only [hA, true_and, ha, false_or, Finset.mem_erase, ne_eq, not_false_iff]
      omega
    · simp [hA, ha]

theorem card_firsts (k : ℕ) : ∀ (A : Finset α), k ≤ A.card → (firsts A k).card = k := by
  induction k with
  | zero => intro A _; simp [firsts]
  | succ k ih =>
    intro A hA
    have hne : A.Nonempty := Finset.card_pos.mp (by omega)
    have hp := A.min'_mem hne
    rw [firsts_succ hp (fun q hq => A.min'_le q hq), Finset.card_insert_of_notMem, ih]
    · rw [Finset.card_erase_of_mem hp]; omega
    · intro h
      have := (mem_firsts.mp h).1
      simp at this

end

/-! ### Removal of a list's least entries -/

/-- The least distance of a list of distances with numbers. -/
def M (L : List (EReal × EReal)) : EReal := L.foldr (fun c m => min c.1 m) ⊤

/-- The number that stands for no cell. -/
def big : EReal := ((1000000000 : ℝ) : EReal)

/-- The least number at a distance. -/
def N (m : EReal) (L : List (EReal × EReal)) : EReal := L.foldr (fun c r => min (if c.1 = m then c.2 else big) r) ⊤

/-- The list with the entry of a distance and a number removed. -/
def X (m f : EReal) (L : List (EReal × EReal)) : List (EReal × EReal) :=
  L.map fun c => (if c.1 = m ∧ c.2 = f then ⊤ else c.1, c.2)

/-- The list with its first entry removed. -/
def S (L : List (EReal × EReal)) : List (EReal × EReal) := X (M L) (N (M L) L) L

/-- The list's first entry. -/
def H (L : List (EReal × EReal)) : EReal ×ₗ EReal := toLex (M L, N (M L) L)

/-- The entries not removed. -/
def alive (L : List (EReal × EReal)) : Finset (EReal ×ₗ EReal) :=
  (L.map toLex).toFinset.filter fun p => (ofLex p).1 < ⊤

theorem mem_alive {L : List (EReal × EReal)} {p : EReal ×ₗ EReal} : p ∈ alive L ↔ ofLex p ∈ L ∧ (ofLex p).1 < ⊤ := by
  unfold alive
  rw [Finset.mem_filter, List.mem_toFinset, List.mem_map]
  constructor
  · rintro ⟨⟨c, hc, rfl⟩, h⟩; exact ⟨hc, h⟩
  · rintro ⟨h, h'⟩; exact ⟨⟨_, h, rfl⟩, h'⟩

/-- Numbers below the one for no cell, and an entry for each number. -/
structure Good (L : List (EReal × EReal)) : Prop where
  small : ∀ c ∈ L, c.2 < big
  inj : ∀ c ∈ L, ∀ c' ∈ L, c.2 = c'.2 → c = c'

theorem foldr_le {γ : Type} (g : γ → EReal) (L : List γ) : ∀ c ∈ L, L.foldr (fun c m => min (g c) m) ⊤ ≤ g c := by
  induction L with
  | nil => intro c h; simp at h
  | cons a L ih =>
    intro c h
    rw [List.foldr_cons]
    rcases List.mem_cons.mp h with rfl | h
    · exact min_le_left _ _
    · exact (min_le_right _ _).trans (ih c h)

theorem foldr_mem {γ : Type} (g : γ → EReal) (L : List γ) :
    L.foldr (fun c m => min (g c) m) ⊤ = ⊤ ∨ ∃ c ∈ L, L.foldr (fun c m => min (g c) m) ⊤ = g c := by
  induction L with
  | nil => exact .inl rfl
  | cons a L ih =>
    rw [List.foldr_cons]
    rcases min_choice (g a) (L.foldr (fun c m => min (g c) m) ⊤) with h | h
    · exact .inr ⟨a, List.mem_cons_self, h⟩
    · rw [h]
      rcases ih with h' | ⟨c, hc, h'⟩
      · exact .inl h'
      · exact .inr ⟨c, List.mem_cons_of_mem _ hc, h'⟩

section
variable {L : List (EReal × EReal)}

theorem good_X (h : Good L) (m f : EReal) : Good (X m f L) where
  small := by
    intro c hc
    obtain ⟨c, hd, rfl⟩ := List.mem_map.mp hc
    exact h.small c hd
  inj := by
    intro c hc c' hc' he
    obtain ⟨c, hd, rfl⟩ := List.mem_map.mp hc
    obtain ⟨c', hd', rfl⟩ := List.mem_map.mp hc'
    rw [h.inj c hd c' hd' he]

theorem exists_H (h : Good L) (hne : (alive L).Nonempty) : ofLex (H L) ∈ L ∧ (ofLex (H L)).1 < ⊤ := by
  obtain ⟨q, hq⟩ := hne
  obtain ⟨hq, hlt⟩ := mem_alive.mp hq
  have hM : M L < ⊤ := (foldr_le (fun c : EReal × EReal => c.1) L _ hq).trans_lt hlt
  obtain ⟨c, hc, hcm⟩ := (foldr_mem (fun c : EReal × EReal => c.1) L).resolve_left hM.ne
  have hN : N (M L) L < big := by
    refine (foldr_le (fun d : EReal × EReal => if d.1 = M L then d.2 else big) L c hc).trans_lt ?_
    rw [if_pos (show c.1 = M L from hcm.symm)]
    exact h.small c hc
  rcases foldr_mem (fun d : EReal × EReal => if d.1 = M L then d.2 else big) L with ht | ⟨d, hd, hdn⟩
  · exact absurd (show N (M L) L = ⊤ from ht) (hN.trans_le le_top).ne
  · change N (M L) L = _ at hdn
    by_cases hdm : d.1 = M L
    · rw [if_pos hdm] at hdn
      refine ⟨?_, hM⟩
      have : ofLex (H L) = d := Prod.ext hdm.symm hdn
      rw [this]; exact hd
    · rw [if_neg hdm] at hdn
      exact absurd hdn hN.ne

theorem H_le (q : EReal ×ₗ EReal) (hq : q ∈ alive L) : H L ≤ q := by
  obtain ⟨hq, hlt⟩ := mem_alive.mp hq
  rw [Prod.Lex.le_iff]
  have h1 : M L ≤ (ofLex q).1 := foldr_le (fun c : EReal × EReal => c.1) L _ hq
  rcases lt_or_eq_of_le h1 with h | h
  · exact .inl h
  · refine .inr ⟨h, ?_⟩
    have := foldr_le (fun d : EReal × EReal => if d.1 = M L then d.2 else big) L _ hq
    rw [if_pos h.symm] at this
    exact this

theorem alive_S (h : Good L) (hne : (alive L).Nonempty) : alive (S L) = (alive L).erase (H L) := by
  obtain ⟨hp, hpt⟩ := exists_H h hne
  ext q
  rw [Finset.mem_erase, mem_alive, mem_alive]
  constructor
  · rintro ⟨hq, hlt⟩
    obtain ⟨c, hc, he⟩ := List.mem_map.mp hq
    by_cases hcp : c.1 = M L ∧ c.2 = N (M L) L
    · rw [if_pos hcp] at he
      rw [← he] at hlt
      exact absurd hlt (lt_irrefl _)
    · rw [if_neg hcp] at he
      rw [← he] at hlt ⊢
      refine ⟨fun hqH => hcp ?_, hc, hlt⟩
      have : c = ofLex (H L) := by rw [← hqH, ← he]
      rw [this]; exact ⟨rfl, rfl⟩
  · rintro ⟨hqH, hq, hlt⟩
    refine ⟨List.mem_map.mpr ⟨ofLex q, hq, ?_⟩, hlt⟩
    rw [if_neg]
    rintro ⟨h1, h2⟩
    exact hqH (show q = toLex (M L, N (M L) L) from by
      rw [← h2, ← h1]; rfl)

/-- Four removals find the first four entries. -/
theorem four (h : Good L) (hc : 4 ≤ (alive L).card) :
    firsts (alive L) 4 = {H L, H (S L), H (S (S L)), H (S (S (S L)))} := by
  have step : ∀ {L : List (EReal × EReal)} (k : ℕ), Good L → k + 1 ≤ (alive L).card →
      (∀ j, firsts (alive L) (j + 1) = insert (H L) (firsts (alive (S L)) j)) ∧ Good (S L) ∧ k ≤ (alive (S L)).card := by
    intro L k h hc
    have hne : (alive L).Nonempty := Finset.card_pos.mp (by omega)
    have hm : H L ∈ alive L := mem_alive.mpr (exists_H h hne)
    refine ⟨fun j => ?_, good_X h _ _, ?_⟩
    · rw [alive_S h hne]; exact firsts_succ hm H_le j
    · rw [alive_S h hne, Finset.card_erase_of_mem hm]; omega
  obtain ⟨e0, g0, c0⟩ := step 3 h hc
  obtain ⟨e1, g1, c1⟩ := step 2 g0 c0
  obtain ⟨e2, g2, c2⟩ := step 1 g1 c1
  obtain ⟨e3, g3, c3⟩ := step 0 g2 c2
  rw [e0, e1, e2, e3]
  have : firsts (alive (S (S (S (S L))))) 0 = ∅ := by simp [firsts]
  rw [this]
  rfl

end

/-! ### Two axes -/

/-- The number `n` as an extended real. -/
abbrev num (n : ℕ) : EReal := ((n : ℝ) : EReal)

theorem num_inj {a b : ℕ} (h : num a = num b) : a = b := by
  have := EReal.coe_injective h; exact_mod_cast this

theorem num_lt {a b : ℕ} : num a < num b ↔ a < b := by
  unfold num; rw [EReal.coe_lt_coe_iff]; exact_mod_cast Iff.rfl

/-- How many cells come before cell `m`: nearer, or as near and numbered below. -/
def rank (s : Fin 1024 → ℝ) (m : Fin 1024) : ℕ :=
  (Finset.univ.filter fun m' => s m' < s m ∨ (s m' = s m ∧ m' < m)).card

/-- The entry of a distance and a number. -/
def entry (d : ℝ) (n : ℕ) : EReal ×ₗ EReal := toLex ((d : EReal), num n)

theorem entry_lt {d e : ℝ} {m n : ℕ} : entry d m < entry e n ↔ d < e ∨ (d = e ∧ m < n) := by
  unfold entry
  rw [Prod.Lex.lt_iff]
  show ((d : EReal) < e ∨ ((d : EReal) = e ∧ num m < num n)) ↔ _
  rw [EReal.coe_lt_coe_iff, EReal.coe_eq_coe_iff, num_lt]

theorem entry_inj {d e : ℝ} {m n : ℕ} (h : entry d m = entry e n) : d = e ∧ m = n := by
  have h' := congrArg ofLex h
  exact ⟨EReal.coe_injective (congrArg Prod.fst h'), num_inj (congrArg Prod.snd h')⟩

/-- The first four of all cells are the first four of the sixteen on the first four rows and columns. -/
theorem grid_firsts (dx dy : Fin 32 → ℝ) (A X Y G : Finset (EReal ×ₗ EReal))
    (hX : X = Finset.univ.image fun j : Fin 32 => entry (dx j) j) (hY : Y = Finset.univ.image fun i : Fin 32 => entry (dy i) i)
    (hA : A = Finset.univ.image fun p : Fin 32 × Fin 32 => entry (dy p.1 + dx p.2) (32 * p.1.val + p.2.val))
    (hG : ∀ q, q ∈ G ↔ ∃ p : Fin 32 × Fin 32, entry (dy p.1) p.1 ∈ firsts Y 4 ∧ entry (dx p.2) p.2 ∈ firsts X 4 ∧
      q = entry (dy p.1 + dx p.2) (32 * p.1.val + p.2.val)) : 4 ≤ G.card ∧ firsts G 4 = firsts A 4 := by
  have hGc : 4 ≤ G.card := by
    have cX : 32 = X.card := by
      rw [hX, Finset.card_image_of_injective _ fun a b h => Fin.ext (entry_inj h).2]; rfl
    have cY : 32 = Y.card := by
      rw [hY, Finset.card_image_of_injective _ fun a b h => Fin.ext (entry_inj h).2]; rfl
    have fX := card_firsts 4 X (by omega)
    have fY := card_firsts 4 Y (by omega)
    obtain ⟨a0, ha0⟩ := Finset.card_pos.mp (show 0 < (firsts X 4).card by omega)
    have hj := (mem_firsts.mp ha0).1
    rw [hX] at hj
    obtain ⟨j0, _, rfl⟩ := Finset.mem_image.mp hj
    rw [← fY]
    refine Finset.card_le_card_of_injOn
      (fun b => toLex ((ofLex b).1 + ((dx j0 : ℝ) : EReal), ((32 : ℝ) : EReal) * (ofLex b).2 + num j0)) ?_ ?_
    · intro b hb
      have hi := (mem_firsts.mp (Finset.mem_coe.mp hb)).1
      rw [hY] at hi
      obtain ⟨i0, _, rfl⟩ := Finset.mem_image.mp hi
      refine Finset.mem_coe.mpr ((hG _).mpr ⟨(i0, j0), hb, ha0, ?_⟩)
      unfold entry num
      push_cast
      rfl
    · intro b hb b' hb' he
      have hi := (mem_firsts.mp (Finset.mem_coe.mp hb)).1
      have hi' := (mem_firsts.mp (Finset.mem_coe.mp hb')).1
      rw [hY] at hi hi'
      obtain ⟨i1, _, rfl⟩ := Finset.mem_image.mp hi
      obtain ⟨i2, _, rfl⟩ := Finset.mem_image.mp hi'
      have h2 : ((32 : ℝ) : EReal) * num i1 + num j0 = ((32 : ℝ) : EReal) * num i2 + num j0 := congrArg (fun p => (ofLex p).2) he
      have h3 : (32 : ℝ) * (i1.val : ℝ) + j0.val = 32 * i2.val + j0.val := by exact_mod_cast h2
      have : i1.val = i2.val := by
        have : (i1.val : ℝ) = i2.val := by linarith
        exact_mod_cast this
      rw [Fin.ext this]
  refine ⟨hGc, ?_⟩
  have hsub : G ⊆ A := fun q hq => by
    obtain ⟨p, _, _, rfl⟩ := (hG q).mp hq
    rw [hA]; exact Finset.mem_image_of_mem _ (Finset.mem_univ p)
  have hAc : 4 ≤ A.card := hGc.trans (Finset.card_le_card hsub)
  symm
  refine Finset.eq_of_subset_of_card_le (fun q hq => ?_) (by rw [card_firsts _ _ hGc, card_firsts _ _ hAc])
  obtain ⟨hqA, hqc⟩ := mem_firsts.mp hq
  rw [hA] at hqA
  obtain ⟨⟨i, j⟩, _, rfl⟩ := Finset.mem_image.mp hqA
  have hy : entry (dy i) i ∈ firsts Y 4 := by
    refine mem_firsts.mpr ⟨hY ▸ Finset.mem_image_of_mem _ (Finset.mem_univ i), lt_of_le_of_lt ?_ hqc⟩
    refine Finset.card_le_card_of_injOn
      (fun b => toLex ((ofLex b).1 + ((dx j : ℝ) : EReal), ((32 : ℝ) : EReal) * (ofLex b).2 + num j)) ?_ ?_
    · intro b hb
      obtain ⟨hb, hlt⟩ := Finset.mem_filter.mp hb
      rw [hY] at hb
      obtain ⟨i', _, rfl⟩ := Finset.mem_image.mp hb
      have e : toLex ((ofLex (entry (dy i') i')).1 + ((dx j : ℝ) : EReal), ((32 : ℝ) : EReal) * (ofLex (entry (dy i') i')).2 + num j)
          = entry (dy i' + dx j) (32 * i'.val + j.val) := by
        unfold entry num
        push_cast
        rfl
      show toLex _ ∈ _
      rw [e]
      refine Finset.mem_coe.mpr (Finset.mem_filter.mpr ⟨hA ▸ Finset.mem_image_of_mem (fun p : Fin 32 × Fin 32 => entry (dy p.1 + dx p.2) (32 * p.1.val + p.2.val)) (Finset.mem_univ (i', j)), ?_⟩)
      rw [entry_lt] at hlt ⊢
      rcases hlt with h | ⟨h, h'⟩
      · left; linarith
      · right; exact ⟨by rw [h], by show 32 * i'.val + j.val < 32 * i.val + j.val; omega⟩
    · intro b hb b' hb' he
      obtain ⟨hb, _⟩ := Finset.mem_filter.mp (Finset.mem_coe.mp hb)
      obtain ⟨hb', _⟩ := Finset.mem_filter.mp (Finset.mem_coe.mp hb')
      rw [hY] at hb hb'
      obtain ⟨i1, _, rfl⟩ := Finset.mem_image.mp hb
      obtain ⟨i2, _, rfl⟩ := Finset.mem_image.mp hb'
      have h2 : ((32 : ℝ) : EReal) * num i1 + num j = ((32 : ℝ) : EReal) * num i2 + num j := congrArg (fun p => (ofLex p).2) he
      have h3 : (32 : ℝ) * (i1.val : ℝ) + j.val = 32 * i2.val + j.val := by exact_mod_cast h2
      have : i1.val = i2.val := by
        have : (i1.val : ℝ) = i2.val := by linarith
        exact_mod_cast this
      rw [Fin.ext this]
  have hx : entry (dx j) j ∈ firsts X 4 := by
    refine mem_firsts.mpr ⟨hX ▸ Finset.mem_image_of_mem _ (Finset.mem_univ j), lt_of_le_of_lt ?_ hqc⟩
    refine Finset.card_le_card_of_injOn
      (fun b => toLex (((dy i : ℝ) : EReal) + (ofLex b).1, ((32 : ℝ) : EReal) * num i + (ofLex b).2)) ?_ ?_
    · intro b hb
      obtain ⟨hb, hlt⟩ := Finset.mem_filter.mp hb
      rw [hX] at hb
      obtain ⟨j', _, rfl⟩ := Finset.mem_image.mp hb
      have e : toLex (((dy i : ℝ) : EReal) + (ofLex (entry (dx j') j')).1, ((32 : ℝ) : EReal) * num i + (ofLex (entry (dx j') j')).2)
          = entry (dy i + dx j') (32 * i.val + j'.val) := by
        unfold entry num
        push_cast
        rfl
      show toLex _ ∈ _
      rw [e]
      refine Finset.mem_coe.mpr (Finset.mem_filter.mpr ⟨hA ▸ Finset.mem_image_of_mem (fun p : Fin 32 × Fin 32 => entry (dy p.1 + dx p.2) (32 * p.1.val + p.2.val)) (Finset.mem_univ (i, j')), ?_⟩)
      rw [entry_lt] at hlt ⊢
      rcases hlt with h | ⟨h, h'⟩
      · left; linarith
      · right; exact ⟨by rw [h], by show 32 * i.val + j'.val < 32 * i.val + j.val; omega⟩
    · intro b hb b' hb' he
      obtain ⟨hb, _⟩ := Finset.mem_filter.mp (Finset.mem_coe.mp hb)
      obtain ⟨hb', _⟩ := Finset.mem_filter.mp (Finset.mem_coe.mp hb')
      rw [hX] at hb hb'
      obtain ⟨i1, _, rfl⟩ := Finset.mem_image.mp hb
      obtain ⟨i2, _, rfl⟩ := Finset.mem_image.mp hb'
      have h2 : ((32 : ℝ) : EReal) * num i + num i1 = ((32 : ℝ) : EReal) * num i + num i2 := congrArg (fun p => (ofLex p).2) he
      have h3 : (32 : ℝ) * (i.val : ℝ) + i1.val = 32 * i.val + i2.val := by exact_mod_cast h2
      have : i1.val = i2.val := by
        have : (i1.val : ℝ) = i2.val := by linarith
        exact_mod_cast this
      rw [Fin.ext this]
  refine mem_firsts.mpr ⟨(hG _).mpr ⟨(i, j), hy, hx, rfl⟩, lt_of_le_of_lt (Finset.card_le_card ?_) hqc⟩
  exact Finset.filter_subset_filter _ hsub

/-- The cells in the order of distance, then number: those before a cell are counted by its rank. -/
theorem mem_firsts_cells (s : Fin 1024 → ℝ) (m : Fin 1024) (k : ℕ) :
    entry (s m) m ∈ firsts (Finset.univ.image fun m : Fin 1024 => entry (s m) m) k ↔ rank s m < k := by
  have hinj : Function.Injective fun m : Fin 1024 => entry (s m) m := fun a b h => Fin.ext (entry_inj h).2
  rw [mem_firsts, Finset.filter_image, Finset.card_image_of_injective _ hinj]
  have : (Finset.univ.filter fun a : Fin 1024 => entry (s a) a < entry (s m) m)
      = Finset.univ.filter fun m' => s m' < s m ∨ (s m' = s m ∧ m' < m) :=
    Finset.filter_congr fun a _ => by rw [entry_lt]; rfl
  rw [this]
  exact ⟨fun h => h.2, fun h => ⟨Finset.mem_image_of_mem (fun m : Fin 1024 => entry (s m) m) (Finset.mem_univ m), h⟩⟩

end Cert.Near

end
-- ==== Proof.Consts.lean ====
/- The float constants of both programs as extended reals. -/
module

public import Idealize.ShloMosaic.Lib.Pointwise
public import Idealize.ShloMosaic.PureOps.Ideal

@[expose] public section

noncomputable section

open Idealize.ShloMosaic

namespace Cert.Consts

theorem inf : Ideal.ofBits .f32 0x7F800000#32 = ⊤ := by simp [Ideal.ofBits, Ideal.ieee]
theorem ninf : Ideal.ofBits .f32 0xFF800000#32 = ⊥ := by simp [Ideal.ofBits, Ideal.ieee]
theorem c0 : Ideal.ofBits .f32 0x00000000#32 = ((0 : ℝ) : EReal) := by simp [Ideal.ofBits, Ideal.ieee]
theorem c1 : Ideal.ofBits .f32 0x3F800000#32 = ((1 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cn2 : Ideal.ofBits .f32 0xC0000000#32 = ((-2 : ℝ) : EReal) := by
  simp [Ideal.ofBits, Ideal.ieee, -EReal.coe_mul]; norm_num
theorem c5 : Ideal.ofBits .f32 0x40A00000#32 = ((5 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem c16 : Ideal.ofBits .f32 0x41800000#32 = ((16 : ℝ) : EReal) := by
  simp [Ideal.ofBits, Ideal.ieee, -EReal.coe_mul]; norm_num
theorem c31 : Ideal.ofBits .f32 0x41F80000#32 = ((31 : ℝ) : EReal) := by
  simp [Ideal.ofBits, Ideal.ieee, -EReal.coe_mul]; norm_num
theorem c32 : Ideal.ofBits .f32 0x42000000#32 = ((32 : ℝ) : EReal) := by
  simp [Ideal.ofBits, Ideal.ieee, -EReal.coe_mul]; norm_num
theorem i16 : Ideal.ofBits .f32 0x3D800000#32 = ((1 / 16 : ℝ) : EReal) := by
  simp [Ideal.ofBits, Ideal.ieee, -EReal.coe_mul]; norm_num
theorem i32 : Ideal.ofBits .f32 0x3D000000#32 = ((1 / 32 : ℝ) : EReal) := by
  simp [Ideal.ofBits, Ideal.ieee, -EReal.coe_mul]; norm_num
theorem c2048 : Ideal.ofBits .f32 0x45000000#32 = ((2048 : ℝ) : EReal) := by
  simp [Ideal.ofBits, Ideal.ieee, -EReal.coe_mul]; norm_num
theorem c16384 : Ideal.ofBits .f32 0x46800000#32 = ((16384 : ℝ) : EReal) := by
  simp [Ideal.ofBits, Ideal.ieee, -EReal.coe_mul]; norm_num
theorem c1e6 : Ideal.ofBits .f32 0x49742400#32 = ((1000000 : ℝ) : EReal) := by
  simp [Ideal.ofBits, Ideal.ieee, -EReal.coe_mul]; norm_num
theorem c1e9 : Ideal.ofBits .f32 0x4E6E6B28#32 = ((1000000000 : ℝ) : EReal) := by
  simp [Ideal.ofBits, Ideal.ieee, -EReal.coe_mul]; norm_num

/-- The small constant the programs add or take as a bound from below. -/
def ε : ℝ := 11258999 / 1125899906842624

theorem eps : Ideal.ofBits .f32 0x322BCC77#32 = ((ε : ℝ) : EReal) := by
  simp [Ideal.ofBits, Ideal.ieee, -EReal.coe_mul, ε]; norm_num

/-- The reference's radius. -/
def B : ℝ := 186183 / 8192

theorem rad : Ideal.ofBits .f32 0x41B5D1C0#32 = ((B : ℝ) : EReal) := by
  simp [Ideal.ofBits, Ideal.ieee, -EReal.coe_mul, B]; norm_num

theorem ε_pos : 0 < ε := by norm_num [ε]
theorem ε_lt : ε < 1 / 10000000 := by norm_num [ε]
theorem B_sq : B * B = 34664109489 / 67108864 := by norm_num [B]
theorem B_pos : 0 < B := by norm_num [B]

end Cert.Consts

end
-- ==== Proof.Top4.lean ====
/- The kernel's four cells nearest a point: the four first of the 1024 cells in the order of squared distance, then
   number. -/
module

public import proofs.«01_k».proof.Proof.Model
public import proofs.«01_k».proof.Proof.Near
public import proofs.«01_k».proof.Proof.Consts

@[expose] public section

set_option maxRecDepth 16384

noncomputable section

open Idealize.ShloMosaic
open Cert.KernelIdeal Cert.KernelIdeal.Gen
open scoped Classical

namespace Cert.Model

section
variable {S : Shape}

/-- The least of the values of a list of vectors at an index. -/
def inf (l : List (FVec Ideal S .f32)) (i : S.Idx) : EReal := l.foldr (fun a m => min (a i) m) ⊤

theorem inf_pairs (i : S.Idx) : ∀ l : List (FVec Ideal S .f32), inf (pairs l) i = inf l i
  | [] => rfl
  | [_] => rfl
  | a :: b :: l => by
    show min (min (a i) (b i)) (inf (pairs l) i) = min (a i) (min (b i) (inf l i))
    rw [inf_pairs i l, min_assoc]

theorem length_pairs : ∀ l : List (FVec Ideal S .f32), (pairs l).length = (l.length + 1) / 2
  | [] => by simp [pairs]
  | [_] => by simp [pairs]
  | _ :: _ :: l => by
    show (pairs l).length + 1 = (l.length + 1 + 1 + 1) / 2
    rw [length_pairs l]; omega

theorem hd_inf (i : S.Idx) : ∀ l : List (FVec Ideal S .f32), l.length = 1 → hd l i = inf l i
  | [a], _ => (min_top_right (a i)).symm

theorem tree16_inf (l : List (FVec Ideal S .f32)) (h : l.length = 16) (i : S.Idx) : tree16 l i = inf l i := by
  unfold tree16
  rw [hd_inf i _ (by simp only [length_pairs, h]), inf_pairs, inf_pairs, inf_pairs, inf_pairs]

theorem tree32_inf (l : List (FVec Ideal S .f32)) (h : l.length = 32) (i : S.Idx) : tree32 l i = inf l i := by
  unfold tree32
  rw [hd_inf i _ (by simp only [length_pairs, h]), inf_pairs, inf_pairs, inf_pairs, inf_pairs, inf_pairs]

end

theorem sel (b : Bool) (x y : EReal) : Scalar.select (BitVec.ofBool b) x y = if b then x else y := by
  cases b <;> rfl

section
variable (i : S8x128.Idx)

/-- An axis's list at one point. -/
def evA (l : List (FVec Ideal S8x128 .f32 × BitVec 32)) : List (EReal × EReal) :=
  l.map fun c => (c.1 i, Ideal.ofBits .f32 c.2)

/-- The sixteen's list at one point. -/
def evG (l : List (FVec Ideal S8x128 .f32 × FVec Ideal S8x128 .f32)) : List (EReal × EReal) :=
  l.map fun c => (c.1 i, c.2 i)

theorem axisM_eq (l : List (FVec Ideal S8x128 .f32 × BitVec 32)) (h : l.length = 32) : axisM l i = Near.M (evA i l) := by
  unfold axisM
  rw [tree32_inf _ (by rw [List.length_map, h])]
  unfold inf Near.M evA
  rw [List.foldr_map, List.foldr_map]

theorem axisF_eq (m : FVec Ideal S8x128 .f32) (l : List (FVec Ideal S8x128 .f32 × BitVec 32)) (h : l.length = 32) :
    axisF m l i = Near.N (m i) (evA i l) := by
  unfold axisF
  rw [tree32_inf _ (by rw [List.length_map, h])]
  unfold inf Near.N evA
  rw [List.foldr_map, List.foldr_map]
  congr 1
  funext c r
  congr 1
  pointwise
  rw [Consts.c1e9]
  by_cases hc : c.1 i = m i <;> simp [hc, Near.big] <;> rfl

theorem axisX_eq (m f : FVec Ideal S8x128 .f32) (l : List (FVec Ideal S8x128 .f32 × BitVec 32)) :
    evA i (axisX m f l) = Near.X (m i) (f i) (evA i l) := by
  unfold evA axisX Near.X
  rw [List.map_map, List.map_map]
  refine List.map_congr_left fun c _ => ?_
  refine Prod.ext ?_ rfl
  show select _ _ _ i = _
  pointwise
  rw [Consts.inf]
  show Scalar.select _ _ _ = if c.1 i = m i ∧ Ideal.ofBits .f32 c.2 = f i then ⊤ else c.1 i
  by_cases h1 : c.1 i = m i <;> by_cases h2 : Ideal.ofBits .f32 c.2 = f i
  · simp only [h1, h2, and_self, if_true, decide_true]; rfl
  · simp only [h1, h2, Ne.symm h2, and_false, if_false, decide_true, decide_false]; rfl
  · simp only [h1, h2, false_and, if_false, decide_true, decide_false]; rfl
  · simp only [h1, h2, Ne.symm h2, false_and, if_false, decide_false]; rfl

theorem gridM_eq (l : List (FVec Ideal S8x128 .f32 × FVec Ideal S8x128 .f32)) (h : l.length = 16) :
    gridM l i = Near.M (evG i l) := by
  unfold gridM
  rw [tree16_inf _ (by rw [List.length_map, h])]
  unfold inf Near.M evG
  rw [List.foldr_map, List.foldr_map]

theorem gridF_eq (m : FVec Ideal S8x128 .f32) (l : List (FVec Ideal S8x128 .f32 × FVec Ideal S8x128 .f32)) (h : l.length = 16) :
    gridF m l i = Near.N (m i) (evG i l) := by
  unfold gridF
  rw [tree16_inf _ (by rw [List.length_map, h])]
  unfold inf Near.N evG
  rw [List.foldr_map, List.foldr_map]
  congr 1
  funext c r
  congr 1
  pointwise
  rw [Consts.c1e9]
  by_cases hc : c.1 i = m i <;> simp [hc, Near.big] <;> rfl

theorem gridX_eq (m f : FVec Ideal S8x128 .f32) (l : List (FVec Ideal S8x128 .f32 × FVec Ideal S8x128 .f32)) :
    evG i (gridX m f l) = Near.X (m i) (f i) (evG i l) := by
  unfold evG gridX Near.X
  rw [List.map_map, List.map_map]
  refine List.map_congr_left fun c _ => ?_
  refine Prod.ext ?_ rfl
  show select _ _ _ i = _
  pointwise
  rw [Consts.inf]
  show Scalar.select _ _ _ = if c.1 i = m i ∧ c.2 i = f i then ⊤ else c.1 i
  by_cases h1 : c.1 i = m i <;> by_cases h2 : c.2 i = f i
  · simp only [h1, h2, and_self, if_true, decide_true]; rfl
  · simp only [h1, h2, and_false, if_false, decide_true, decide_false]; rfl
  · simp only [h1, h2, false_and, if_false, decide_true, decide_false]; rfl
  · simp only [h1, h2, false_and, if_false, decide_false]; rfl

theorem axisH_eq (l : List (FVec Ideal S8x128 .f32 × BitVec 32)) (h : l.length = 32) :
    ((axisH l).1 i, (axisH l).2 i) = ofLex (Near.H (evA i l)) := by
  refine Prod.ext (axisM_eq i l h) ?_
  show axisF (axisM l) l i = Near.N (Near.M (evA i l)) (evA i l)
  rw [axisF_eq i _ l h, axisM_eq i l h]

theorem axisS_eq (l : List (FVec Ideal S8x128 .f32 × BitVec 32)) (h : l.length = 32) :
    evA i (axisS l) = Near.S (evA i l) ∧ (axisS l).length = 32 := by
  refine ⟨?_, by unfold axisS axisX; rw [List.length_map, h]⟩
  unfold axisS Near.S
  rw [axisX_eq, axisF_eq i _ l h, axisM_eq i l h]

theorem gridH_eq (l : List (FVec Ideal S8x128 .f32 × FVec Ideal S8x128 .f32)) (h : l.length = 16) :
    gridH l i = (ofLex (Near.H (evG i l))).2 := by
  show gridF (gridM l) l i = Near.N (Near.M (evG i l)) (evG i l)
  rw [gridF_eq i _ l h, gridM_eq i l h]

theorem gridS_eq (l : List (FVec Ideal S8x128 .f32 × FVec Ideal S8x128 .f32)) (h : l.length = 16) :
    evG i (gridS l) = Near.S (evG i l) ∧ (gridS l).length = 16 := by
  refine ⟨?_, by unfold gridS gridX; rw [List.length_map, h]⟩
  unfold gridS Near.S
  rw [gridX_eq, gridF_eq i _ l h, gridM_eq i l h]

/-- An axis's four nearest cells, as its first four entries. -/
theorem axis4_mem (l : List (FVec Ideal S8x128 .f32 × BitVec 32)) (h : l.length = 32) (hg : Near.Good (evA i l))
    (hc : 4 ≤ (Near.alive (evA i l)).card) (q : EReal × EReal) :
    q ∈ evG i (axis4 l) ↔ toLex q ∈ Near.firsts (Near.alive (evA i l)) 4 := by
  obtain ⟨e1, h1⟩ := axisS_eq i l h
  obtain ⟨e2, h2⟩ := axisS_eq i _ h1
  obtain ⟨e3, h3⟩ := axisS_eq i _ h2
  rw [Near.four hg hc]
  have : evG i (axis4 l) = [ofLex (Near.H (evA i l)), ofLex (Near.H (Near.S (evA i l))),
      ofLex (Near.H (Near.S (Near.S (evA i l)))), ofLex (Near.H (Near.S (Near.S (Near.S (evA i l)))))] := by
    show [_, _, _, _] = _
    simp only
    rw [axisH_eq i l h, axisH_eq i _ h1, axisH_eq i _ h2, axisH_eq i _ h3, e3, e2, e1]
  rw [this]
  simp only [List.mem_cons, List.not_mem_nil, or_false, Finset.mem_insert, Finset.mem_singleton]
  rfl

/-! ### The cells -/

theorem cell (j : Fin 32) : Ideal.ofBits .f32 (cells[j.val]'(by have := j.isLt; simpa [cells] using this)).1 = ((16 * (j.val : ℝ) + 8 : ℝ) : EReal) ∧
    Ideal.ofBits .f32 (cells[j.val]'(by have := j.isLt; simpa [cells] using this)).2 = Near.num j := by
  fin_cases j <;> (constructor <;> simp [cells, Ideal.ofBits, Ideal.ieee, -EReal.coe_mul, -EReal.coe_add] <;> norm_num <;>
    first | rfl | (norm_cast; done) | (rw [← EReal.coe_add]; norm_num))

theorem mem_cells (c : BitVec 32 × BitVec 32) (h : c ∈ cells) : ∃ j : Fin 32,
    Ideal.ofBits .f32 c.1 = ((16 * (j.val : ℝ) + 8 : ℝ) : EReal) ∧ Ideal.ofBits .f32 c.2 = Near.num j := by
  obtain ⟨j, hj, rfl⟩ := List.mem_iff_getElem.mp h
  exact ⟨⟨j, by simpa [cells] using hj⟩, cell ⟨j, by simpa [cells] using hj⟩⟩

/-- The squared distance along an axis. -/
def sqa (a : ℝ) (j : ℕ) : ℝ := (a - (16 * (j : ℝ) + 8)) * (a - (16 * (j : ℝ) + 8))

section
variable (p : FVec Ideal S8x128 .f32) (a : ℝ) (hp : p i = (a : EReal))
include hp

theorem evA_mem (q : EReal × EReal) : q ∈ evA i (axis0 p) ↔ ∃ j : Fin 32, toLex q = Near.entry (sqa a j) j := by
  have hv : ∀ (c : BitVec 32 × BitVec 32) (j : Fin 32), Ideal.ofBits .f32 c.1 = ((16 * (j.val : ℝ) + 8 : ℝ) : EReal) →
      mulf (subf p (kc S8x128 c.1)) (subf p (kc S8x128 c.1)) i = ((sqa a j : ℝ) : EReal) := fun c j h => by
    pointwise
    rw [h, hp]
    unfold sqa
    norm_cast
  unfold evA axis0
  rw [List.map_map, List.mem_map]
  constructor
  · rintro ⟨c, hc, rfl⟩
    obtain ⟨j, h1, h2⟩ := mem_cells c hc
    exact ⟨j, congrArg toLex (Prod.ext (hv c j h1) h2)⟩
  · rintro ⟨j, h⟩
    refine ⟨_, List.getElem_mem (by have := j.isLt; simpa [cells] using this : j.val < cells.length), ?_⟩
    have := cell j
    exact (Prod.ext (hv _ j this.1) this.2 : _ = ofLex (Near.entry (sqa a j) j)).trans (congrArg ofLex h).symm

theorem evA_good : Near.Good (evA i (axis0 p)) where
  small := fun c hc => by
    obtain ⟨j, h⟩ := (evA_mem i p a hp c).mp hc
    have : c.2 = Near.num j := congrArg (fun q => (ofLex q).2) h
    rw [this]
    unfold Near.num Near.big
    rw [EReal.coe_lt_coe_iff]
    have : (j.val : ℝ) < 32 := by exact_mod_cast j.isLt
    linarith
  inj := fun c hc c' hc' he => by
    obtain ⟨j, h⟩ := (evA_mem i p a hp c).mp hc
    obtain ⟨j', h'⟩ := (evA_mem i p a hp c').mp hc'
    have h2 : c.2 = Near.num j := congrArg (fun q => (ofLex q).2) h
    have h2' : c'.2 = Near.num j' := congrArg (fun q => (ofLex q).2) h'
    have : j = j' := Fin.ext (Near.num_inj (h2.symm.trans (he.trans h2')))
    subst this
    exact toLex.injective (h.trans h'.symm)

theorem evA_alive : Near.alive (evA i (axis0 p)) = Finset.univ.image fun j : Fin 32 => Near.entry (sqa a j) j := by
  ext q
  rw [Near.mem_alive, evA_mem i p a hp, Finset.mem_image]
  constructor
  · rintro ⟨⟨j, h⟩, _⟩; exact ⟨j, Finset.mem_univ _, h.symm⟩
  · rintro ⟨j, _, rfl⟩; exact ⟨⟨j, rfl⟩, EReal.coe_lt_top _⟩

theorem evA_card : 4 ≤ (Near.alive (evA i (axis0 p))).card := by
  rw [evA_alive i p a hp, Finset.card_image_of_injective _ fun a b h => Fin.ext (Near.entry_inj h).2]
  decide

end

/-- The squared distance of a point from a cell's centre. -/
def sq (a b : ℝ) (m : Fin 1024) : ℝ := sqa b (m.val / 32) + sqa a (m.val % 32)

/-- The kernel's four cells of a point are the four of rank below four. -/
theorem top4_iff (px py : FVec Ideal S8x128 .f32) (a b : ℝ) (hx : px i = (a : EReal)) (hy : py i = (b : EReal)) (v : EReal) :
    (∃ f ∈ top4 px py, f i = v) ↔ ∃ m : Fin 1024, Near.rank (sq a b) m < 4 ∧ v = Near.num m := by
  have hl : (cand px py).length = 16 := by simp [cand, grid16, axis4]
  have hG : ∀ q : EReal × EReal, q ∈ evG i (cand px py) ↔ ∃ p : Fin 32 × Fin 32,
      Near.entry (sqa b p.1) p.1 ∈ Near.firsts (Near.alive (evA i (axis0 py))) 4 ∧
      Near.entry (sqa a p.2) p.2 ∈ Near.firsts (Near.alive (evA i (axis0 px))) 4 ∧
      toLex q = Near.entry (sqa b p.1 + sqa a p.2) (32 * p.1.val + p.2.val) := by
    intro q
    have hval : ∀ (r c : FVec Ideal S8x128 .f32 × FVec Ideal S8x128 .f32) (j k : Fin 32),
        toLex (r.1 i, r.2 i) = Near.entry (sqa b j) j → toLex (c.1 i, c.2 i) = Near.entry (sqa a k) k →
        toLex (addf r.1 c.1 i, addf (mulf r.2 (kc S8x128 0x42000000#32)) c.2 i)
          = Near.entry (sqa b j + sqa a k) (32 * j.val + k.val) := by
      intro r c j k h1 h2
      have r1 : r.1 i = ((sqa b j : ℝ) : EReal) := congrArg (fun q => (ofLex q).1) h1
      have r2 : r.2 i = Near.num j := congrArg (fun q => (ofLex q).2) h1
      have c1 : c.1 i = ((sqa a k : ℝ) : EReal) := congrArg (fun q => (ofLex q).1) h2
      have c2 : c.2 i = Near.num k := congrArg (fun q => (ofLex q).2) h2
      refine congrArg toLex (Prod.ext ?_ ?_)
      · pointwise; rw [r1, c1]; norm_cast
      · pointwise; rw [r2, c2, Consts.c32]
        show Near.num j * _ + Near.num k = Near.num _
        unfold Near.num
        rw [← EReal.coe_mul, ← EReal.coe_add]
        congr 1
        push_cast
        ring
    unfold evG cand grid16
    rw [List.mem_map]
    constructor
    · rintro ⟨c, hc, rfl⟩
      obtain ⟨r, hr, hc⟩ := List.mem_flatMap.mp hc
      obtain ⟨c, hd, rfl⟩ := List.mem_map.mp hc
      have hr' := (axis4_mem i (axis0 py) rfl (evA_good i py b hy) (evA_card i py b hy) (r.1 i, r.2 i)).mp
        (List.mem_map_of_mem (f := fun c : FVec Ideal S8x128 .f32 × FVec Ideal S8x128 .f32 => (c.1 i, c.2 i)) hr)
      have hc' := (axis4_mem i (axis0 px) rfl (evA_good i px a hx) (evA_card i px a hx) (c.1 i, c.2 i)).mp
        (List.mem_map_of_mem (f := fun c : FVec Ideal S8x128 .f32 × FVec Ideal S8x128 .f32 => (c.1 i, c.2 i)) hd)
      have hj := (Near.mem_firsts.mp hr').1
      have hk := (Near.mem_firsts.mp hc').1
      rw [evA_alive i py b hy] at hj
      rw [evA_alive i px a hx] at hk
      obtain ⟨j, _, hj⟩ := Finset.mem_image.mp hj
      obtain ⟨k, _, hk⟩ := Finset.mem_image.mp hk
      exact ⟨(j, k), hj ▸ hr', hk ▸ hc', hval r c j k hj.symm hk.symm⟩
    · rintro ⟨⟨j, k⟩, hj, hk, hq⟩
      obtain ⟨r, hr, hrj⟩ := List.mem_map.mp ((axis4_mem i (axis0 py) rfl (evA_good i py b hy) (evA_card i py b hy)
        (ofLex (Near.entry (sqa b j) j))).mpr hj)
      obtain ⟨c, hc, hck⟩ := List.mem_map.mp ((axis4_mem i (axis0 px) rfl (evA_good i px a hx) (evA_card i px a hx)
        (ofLex (Near.entry (sqa a k) k))).mpr hk)
      refine ⟨_, List.mem_flatMap.mpr ⟨r, hr, List.mem_map.mpr ⟨c, hc, rfl⟩⟩, ?_⟩
      exact toLex.injective ((hval r c j k (congrArg toLex hrj) (congrArg toLex hck)).trans hq.symm)
  have hcells : (Finset.univ.image fun p : Fin 32 × Fin 32 => Near.entry (sqa b p.1 + sqa a p.2) (32 * p.1.val + p.2.val))
      = Finset.univ.image fun m : Fin 1024 => Near.entry (sq a b m) m := by
    ext q
    rw [Finset.mem_image, Finset.mem_image]
    constructor
    · rintro ⟨⟨j, k⟩, _, rfl⟩
      refine ⟨⟨32 * j.val + k.val, by omega⟩, Finset.mem_univ _, ?_⟩
      unfold sq
      rw [show (32 * j.val + k.val) / 32 = j.val by omega, show (32 * j.val + k.val) % 32 = k.val by omega]
    · rintro ⟨m, _, rfl⟩
      refine ⟨(⟨m.val / 32, by omega⟩, ⟨m.val % 32, by omega⟩), Finset.mem_univ _, ?_⟩
      unfold sq
      rw [show 32 * (m.val / 32) + m.val % 32 = m.val by omega]
  have hgood : Near.Good (evG i (cand px py)) := by
    refine ⟨fun c hc => ?_, fun c hc c' hc' he => ?_⟩
    · obtain ⟨p, _, _, h⟩ := (hG c).mp hc
      have : c.2 = Near.num _ := congrArg (fun q => (ofLex q).2) h
      rw [this]
      unfold Near.num Near.big
      rw [EReal.coe_lt_coe_iff]
      have h1 : (p.1.val : ℝ) < 32 := by exact_mod_cast p.1.isLt
      have h2 : (p.2.val : ℝ) < 32 := by exact_mod_cast p.2.isLt
      push_cast
      linarith
    · obtain ⟨p, _, _, h⟩ := (hG c).mp hc
      obtain ⟨p', _, _, h'⟩ := (hG c').mp hc'
      have h2 : c.2 = Near.num _ := congrArg (fun q => (ofLex q).2) h
      have h2' : c'.2 = Near.num _ := congrArg (fun q => (ofLex q).2) h'
      have hn := Near.num_inj (h2.symm.trans (he.trans h2'))
      have h1 := p.1.isLt; have h1' := p.2.isLt; have h3 := p'.1.isLt; have h3' := p'.2.isLt
      have : p = p' := Prod.ext (Fin.ext (by omega)) (Fin.ext (by omega))
      subst this
      exact toLex.injective (h.trans h'.symm)
  obtain ⟨hcard, hfirst⟩ := Near.grid_firsts (fun j => sqa a j) (fun j => sqa b j) _ _ _ (Near.alive (evG i (cand px py)))
    (evA_alive i px a hx) (evA_alive i py b hy) rfl (fun q => by
      rw [Near.mem_alive, hG]
      exact ⟨fun h => h.1, fun h => ⟨h, by obtain ⟨p, _, _, rfl⟩ := h; exact EReal.coe_lt_top _⟩⟩)
  rw [hcells] at hfirst
  obtain ⟨e1, h1⟩ := gridS_eq i _ hl
  obtain ⟨e2, h2⟩ := gridS_eq i _ h1
  obtain ⟨e3, h3⟩ := gridS_eq i _ h2
  have hmem : (∃ f ∈ top4 px py, f i = v) ↔ ∃ q ∈ Near.firsts (Near.alive (evG i (cand px py))) 4, (ofLex q).2 = v := by
    rw [Near.four hgood hcard]
    simp only [top4, List.mem_cons, List.not_mem_nil, or_false, Finset.mem_insert, Finset.mem_singleton,
      exists_eq_or_imp, exists_eq_left]
    rw [gridH_eq i _ hl, gridH_eq i _ h1, gridH_eq i _ h2, gridH_eq i _ h3, e3, e2, e1]
  rw [hmem, hfirst]
  constructor
  · rintro ⟨q, hq, rfl⟩
    obtain ⟨m, _, rfl⟩ := Finset.mem_image.mp (Near.mem_firsts.mp hq).1
    exact ⟨m, (Near.mem_firsts_cells _ m 4).mp hq, rfl⟩
  · rintro ⟨m, hm, rfl⟩
    exact ⟨_, (Near.mem_firsts_cells _ m 4).mpr hm, rfl⟩

end

end Cert.Model

end
-- ==== Proof.Rank.lean ====
/- Order statistics of a finite row: the entry of a given rank, by counting, and how a monotone map carries it; then
   the eight minima of a stack of sorted columns, each minimum's column moved up by one. -/
module

public import Idealize.ShloMosaic.Lib.Pointwise
public import Idealize.ShloMosaic.PureOps.Ideal

@[expose] public section

noncomputable section

namespace Cert.Rank

/-- How many entries of a row lie below a value. -/
def below {ι α : Type} [Fintype ι] [LinearOrder α] (x : ι → α) (v : α) : ℕ := ∑ i, if x i < v then 1 else 0

/-- How many entries of a row are at most a value. -/
def upTo {ι α : Type} [Fintype ι] [LinearOrder α] (x : ι → α) (v : α) : ℕ := ∑ i, if x i ≤ v then 1 else 0

/-- `v` is the entry of rank `t` (from zero) of the row `x` in ascending order. -/
def IsK {ι α : Type} [Fintype ι] [LinearOrder α] (x : ι → α) (t : ℕ) (v : α) : Prop := below x v ≤ t ∧ t < upTo x v

section
variable {ι α β : Type} [Fintype ι] [LinearOrder α] [LinearOrder β]

theorem below_eq_card (x : ι → α) (v : α) : below x v = (Finset.univ.filter fun i => x i < v).card := by
  simp [below]

theorem upTo_eq_card (x : ι → α) (v : α) : upTo x v = (Finset.univ.filter fun i => x i ≤ v).card := by
  simp [upTo]

theorem upTo_le_below (x : ι → α) {v w : α} (h : v < w) : upTo x v ≤ below x w := by
  unfold upTo below
  refine Finset.sum_le_sum fun i _ => ?_
  by_cases h1 : x i ≤ v
  · rw [if_pos h1, if_pos (h1.trans_lt h)]
  · rw [if_neg h1]; exact Nat.zero_le _

/-- A rank has one entry. -/
theorem IsK.unique {x : ι → α} {t : ℕ} {v w : α} (hv : IsK x t v) (hw : IsK x t w) : v = w := by
  rcases lt_trichotomy v w with h | h | h
  · exact absurd (upTo_le_below x h) (by have := hv.2; have := hw.1; omega)
  · exact h
  · exact absurd (upTo_le_below x h) (by have := hw.2; have := hv.1; omega)

/-- The entry of a rank is an entry. -/
theorem IsK.exists {x : ι → α} {t : ℕ} {v : α} (hv : IsK x t v) : ∃ i, x i = v := by
  by_contra hne
  push Not at hne
  have : below x v = upTo x v := by
    unfold below upTo
    refine Finset.sum_congr rfl fun i _ => ?_
    by_cases h1 : x i ≤ v
    · rw [if_pos h1, if_pos (lt_of_le_of_ne h1 (hne i))]
    · rw [if_neg h1, if_neg fun h => h1 h.le]
  have := hv.1; have := hv.2; omega

/-- A map that preserves the order of a row's entries carries the entry of a rank to the entry of that rank. -/
theorem IsK.map {x : ι → α} {y : ι → β} {t : ℕ} {i : ι} (h : IsK x t (x i))
    (hm : ∀ j, (x j ≤ x i → y j ≤ y i) ∧ (x i ≤ x j → y i ≤ y j)) : IsK y t (y i) := by
  refine ⟨le_trans ?_ h.1, lt_of_lt_of_le h.2 ?_⟩
  · unfold below
    refine Finset.sum_le_sum fun j _ => ?_
    by_cases h1 : y j < y i
    · rw [if_pos h1, if_pos (lt_of_not_ge fun h2 => absurd h1 (not_lt.mpr ((hm j).2 h2)))]
    · rw [if_neg h1]; exact Nat.zero_le _
  · unfold upTo
    refine Finset.sum_le_sum fun j _ => ?_
    by_cases h1 : x j ≤ x i
    · rw [if_pos h1, if_pos ((hm j).1 h1)]
    · rw [if_neg h1]; exact Nat.zero_le _

theorem below_equiv {κ : Type} [Fintype κ] (e : κ ≃ ι) (x : ι → α) (v : α) : below (fun k => x (e k)) v = below x v :=
  Fintype.sum_equiv e _ _ fun _ => rfl

theorem upTo_equiv {κ : Type} [Fintype κ] (e : κ ≃ ι) (x : ι → α) (v : α) : upTo (fun k => x (e k)) v = upTo x v :=
  Fintype.sum_equiv e _ _ fun _ => rfl

end

/-! ### The stack of sorted columns -/

/-- A column moved up by one, the top value put in last. -/
def up (c : Fin 8 → EReal) : Fin 8 → EReal := ![c 1, c 2, c 3, c 4, c 5, c 6, c 7, ⊤]

/-- The least head. -/
def least (S : Fin 128 → Fin 8 → EReal) : EReal := Finset.univ.inf fun l => S l 0

/-- Every column whose head is the least head moved up. -/
def popE (S : Fin 128 → Fin 8 → EReal) : Fin 128 → Fin 8 → EReal :=
  fun l => if S l 0 = least S then up (S l) else S l

/-- So many pops. -/
def popsE (S : Fin 128 → Fin 8 → EReal) : ℕ → Fin 128 → Fin 8 → EReal
  | 0 => S
  | n + 1 => popE (popsE S n)

theorem popsE_succ (S : Fin 128 → Fin 8 → EReal) (n : ℕ) : popsE S (n + 1) = popsE (popE S) n := by
  induction n with
  | zero => rfl
  | succ n ih =>
    show popE (popsE S (n + 1)) = popE (popsE (popE S) n)
    rw [ih]

/-- The stack's entries as one row. -/
def flat (S : Fin 128 → Fin 8 → EReal) : Fin 128 × Fin 8 → EReal := fun p => S p.1 p.2

theorem below_flat (S : Fin 128 → Fin 8 → EReal) (v : EReal) :
    below (flat S) v = ∑ l, ∑ k, if S l k < v then 1 else 0 := Fintype.sum_prod_type _

theorem upTo_flat (S : Fin 128 → Fin 8 → EReal) (v : EReal) :
    upTo (flat S) v = ∑ l, ∑ k, if S l k ≤ v then 1 else 0 := Fintype.sum_prod_type _

/-- Columns in ascending order. -/
def Asc (S : Fin 128 → Fin 8 → EReal) : Prop := ∀ l, Monotone (S l)

theorem up_mono {c : Fin 8 → EReal} (h : Monotone c) : Monotone (up c) := by
  have h' : ∀ a b : Fin 8, a ≤ b → c a ≤ c b := fun a b hab => h hab
  intro a b hab
  fin_cases a <;> fin_cases b <;> first
    | exact absurd hab (by decide)
    | exact le_top
    | exact h' _ _ (by decide)

theorem popE_asc {S : Fin 128 → Fin 8 → EReal} (h : Asc S) : Asc (popE S) := fun l => by
  unfold popE
  split
  · exact up_mono (h l)
  · exact h l

theorem least_le {S : Fin 128 → Fin 8 → EReal} (h : Asc S) (l : Fin 128) (k : Fin 8) : least S ≤ S l k :=
  (Finset.inf_le (Finset.mem_univ l)).trans (h l (Fin.zero_le k))

theorem exists_least (S : Fin 128 → Fin 8 → EReal) : ∃ l, S l 0 = least S := by
  obtain ⟨l, _, h⟩ := Finset.exists_mem_eq_inf Finset.univ ⟨(0 : Fin 128), Finset.mem_univ _⟩ fun l => S l 0
  exact ⟨l, h.symm⟩

theorem below_least {S : Fin 128 → Fin 8 → EReal} (h : Asc S) {v : EReal} (hv : v ≤ least S) : below (flat S) v = 0 := by
  rw [below_flat]
  exact Finset.sum_eq_zero fun l _ => Finset.sum_eq_zero fun k _ => if_neg (not_lt.mpr (hv.trans (least_le h l k)))

theorem up_below (c : Fin 8 → EReal) (v : EReal) :
    (∑ k, if c k < v then 1 else 0) = (∑ k, if up c k < v then 1 else 0) + if c 0 < v then 1 else 0 := by
  rw [Fin.sum_univ_eight, Fin.sum_univ_eight]
  have h7 : (if up c 7 < v then 1 else 0) = 0 := if_neg not_top_lt
  rw [h7]
  show _ = (if c 1 < v then 1 else 0) + (if c 2 < v then 1 else 0) + (if c 3 < v then 1 else 0)
    + (if c 4 < v then 1 else 0) + (if c 5 < v then 1 else 0) + (if c 6 < v then 1 else 0)
    + (if c 7 < v then 1 else 0) + 0 + _
  omega

theorem up_upTo (c : Fin 8 → EReal) {v : EReal} (hv : v < ⊤) :
    (∑ k, if c k ≤ v then 1 else 0) = (∑ k, if up c k ≤ v then 1 else 0) + if c 0 ≤ v then 1 else 0 := by
  rw [Fin.sum_univ_eight, Fin.sum_univ_eight]
  have h7 : (if up c 7 ≤ v then 1 else 0) = 0 := if_neg (not_le.mpr hv)
  rw [h7]
  show _ = (if c 1 ≤ v then 1 else 0) + (if c 2 ≤ v then 1 else 0) + (if c 3 ≤ v then 1 else 0)
    + (if c 4 ≤ v then 1 else 0) + (if c 5 ≤ v then 1 else 0) + (if c 6 ≤ v then 1 else 0)
    + (if c 7 ≤ v then 1 else 0) + 0 + _
  omega

section
variable {S : Fin 128 → Fin 8 → EReal}

/-- Fewer than `K` entries below a value leave at most one entry at it. -/
def Apart (S : Fin 128 → Fin 8 → EReal) (K : ℕ) : Prop :=
  ∀ v, v < ⊤ → below (flat S) v < K → upTo (flat S) v ≤ below (flat S) v + 1

theorem head_unique (hA : Asc S) {K : ℕ} (hK : Apart S (K + 1)) (hf : least S < ⊤) {l l' : Fin 128}
    (h : S l 0 = least S) (h' : S l' 0 = least S) : l = l' := by
  by_contra hne
  have h1 := hK _ hf (by rw [below_least hA le_rfl]; omega)
  rw [below_least hA le_rfl, upTo_flat] at h1
  have h2 : ∀ l, S l 0 = least S → 1 ≤ ∑ k, if S l k ≤ least S then 1 else 0 := fun l hl => by
    refine le_trans ?_ (Finset.single_le_sum (f := fun k => if S l k ≤ least S then 1 else 0) (fun _ _ => Nat.zero_le _)
      (Finset.mem_univ (0 : Fin 8)))
    show 1 ≤ if S l 0 ≤ least S then 1 else 0
    rw [if_pos hl.le]
  have h3 : ∑ l ∈ ({l, l'} : Finset (Fin 128)), (∑ k, if S l k ≤ least S then 1 else 0)
      ≤ ∑ l, (∑ k, if S l k ≤ least S then 1 else 0) :=
    Finset.sum_le_sum_of_subset (Finset.subset_univ _)
  rw [Finset.sum_pair hne] at h3
  have := h2 l h; have := h2 l' h'
  omega

theorem below_pop (hA : Asc S) {K : ℕ} (hK : Apart S (K + 1)) (hf : least S < ⊤) (v : EReal) :
    below (flat S) v = below (flat (popE S)) v + if least S < v then 1 else 0 := by
  obtain ⟨l0, h0⟩ := exists_least S
  rw [below_flat, below_flat]
  have : ∀ l, (∑ k, if S l k < v then 1 else 0)
      = (∑ k, if popE S l k < v then 1 else 0) + if l = l0 then (if least S < v then 1 else 0) else 0 := fun l => by
    by_cases hl : l = l0
    · subst hl
      rw [if_pos rfl, popE, if_pos h0, up_below, h0]
    · rw [if_neg hl, popE, if_neg fun h => hl (head_unique hA hK hf h h0)]; rfl
  rw [Finset.sum_congr rfl fun l _ => this l, Finset.sum_add_distrib, Finset.sum_ite_eq' Finset.univ l0,
    if_pos (Finset.mem_univ _)]

theorem upTo_pop (hA : Asc S) {K : ℕ} (hK : Apart S (K + 1)) (hf : least S < ⊤) {v : EReal} (hv : v < ⊤) :
    upTo (flat S) v = upTo (flat (popE S)) v + if least S ≤ v then 1 else 0 := by
  obtain ⟨l0, h0⟩ := exists_least S
  rw [upTo_flat, upTo_flat]
  have : ∀ l, (∑ k, if S l k ≤ v then 1 else 0)
      = (∑ k, if popE S l k ≤ v then 1 else 0) + if l = l0 then (if least S ≤ v then 1 else 0) else 0 := fun l => by
    by_cases hl : l = l0
    · subst hl
      rw [if_pos rfl, popE, if_pos h0, up_upTo _ hv, h0]
    · rw [if_neg hl, popE, if_neg fun h => hl (head_unique hA hK hf h h0)]; rfl
  rw [Finset.sum_congr rfl fun l _ => this l, Finset.sum_add_distrib, Finset.sum_ite_eq' Finset.univ l0,
    if_pos (Finset.mem_univ _)]

theorem apart_pop (hA : Asc S) {K : ℕ} (hK : Apart S (K + 1)) (hf : least S < ⊤) : Apart (popE S) K := by
  intro v hv hlt
  have hb := below_pop hA hK hf v
  have hu := upTo_pop hA hK hf hv
  rcases lt_trichotomy (least S) v with h | h | h
  · rw [if_pos h] at hb; rw [if_pos h.le] at hu
    have := hK v hv (by omega)
    omega
  · rw [if_neg (by rw [h]; exact lt_irrefl _)] at hb; rw [if_pos h.le] at hu
    have h0 := below_least hA h.ge
    have := hK v hv (by omega)
    omega
  · rw [if_neg (not_lt.mpr h.le)] at hb; rw [if_neg (not_le.mpr h)] at hu
    have h0 := below_least hA h.le
    have := hK v hv (by omega)
    have h1 := upTo_le_below (flat S) h
    rw [below_least hA le_rfl] at h1
    omega

/-- After so many pops the least head is the entry of that rank. -/
theorem isK_pops (t : ℕ) (hA : Asc S) (hK : Apart S t) (hf : t < below (flat S) ⊤) :
    IsK (flat S) t (least (popsE S t)) ∧ least (popsE S t) < ⊤ := by
  induction t generalizing S with
  | zero =>
    have hlt : least S < ⊤ := lt_of_not_ge fun h => by rw [below_least hA h] at hf; exact lt_irrefl _ hf
    refine ⟨⟨(below_least hA le_rfl).le, ?_⟩, hlt⟩
    show 0 < upTo (flat S) (least S)
    obtain ⟨l, hl⟩ := exists_least S
    rw [upTo_flat]
    refine lt_of_lt_of_le Nat.zero_lt_one (le_trans ?_ (Finset.single_le_sum
      (f := fun l => ∑ k, if S l k ≤ least S then 1 else 0) (fun _ _ => Nat.zero_le _) (Finset.mem_univ l)))
    refine le_trans ?_ (Finset.single_le_sum (f := fun k => if S l k ≤ least S then 1 else 0) (fun _ _ => Nat.zero_le _)
      (Finset.mem_univ (0 : Fin 8)))
    show 1 ≤ if S l 0 ≤ least S then 1 else 0
    rw [if_pos hl.le]
  | succ t ih =>
    have hlt : least S < ⊤ := lt_of_not_ge fun h => by rw [below_least hA h] at hf; omega
    have hb := below_pop hA hK hlt ⊤
    rw [if_pos hlt] at hb
    obtain ⟨hi, hv⟩ := ih (popE_asc hA) (apart_pop hA hK hlt) (by omega)
    rw [popsE_succ]
    generalize least (popsE (popE S) t) = v at hi hv ⊢
    have h1 := below_pop hA hK hlt v
    have h2 := upTo_pop hA hK hlt hv
    have hm : least S ≤ v := by
      obtain ⟨p, hp⟩ := hi.exists
      rw [← hp]
      show least S ≤ popE S p.1 p.2
      unfold popE
      split
      · obtain ⟨l, k⟩ := p
        fin_cases k <;> first | exact le_top | exact least_le hA _ _
      · exact least_le hA _ _
    rw [if_pos hm] at h2
    have := hi.1; have := hi.2
    refine ⟨⟨?_, by omega⟩, hv⟩
    split at h1 <;> omega

end

end Cert.Rank

end
-- ==== Proof.Masked.lean ====
/- A row of similarities with some entries pushed out of the way: the ranks below eight as the kernel pushes (a million
   onto twice the negated product) and as the reference does (at least five onto the distance), and the ties a strict order of
   the smallest entries rules out. -/
module

public import proofs.«01_k».proof.Proof.Rank
public import proofs.«01_k».proof.Proof.Consts

@[expose] public section

noncomputable section

namespace Cert.Masked

open Idealize.ShloMosaic Cert.Rank

/-- The distance a similarity stands for. -/
def far (s : ℝ) : ℝ := Real.sqrt (max (2 + 2 * s) Consts.ε)

/-- The kernel's entry. -/
def key (μ : Fin 1024 → Prop) [DecidablePred μ] (s : Fin 1024 → ℝ) (m : Fin 1024) : EReal :=
  ((2 * s m + (if μ m then 1000000 else 0) : ℝ) : EReal)

/-- The reference's entry: the distance and what is added to it. -/
def val (p s : Fin 1024 → ℝ) (m : Fin 1024) : EReal :=
  ((far (s m) + p m : ℝ) : EReal)

/-- Nothing is added to an entry that is not pushed, at least five to one that is. -/
def Push (μ : Fin 1024 → Prop) (p : Fin 1024 → ℝ) : Prop := ∀ m, (¬μ m → p m = 0) ∧ (μ m → 5 ≤ p m)

/-- At least eight entries are not pushed. -/
def Free (μ : Fin 1024 → Prop) [DecidablePred μ] : Prop := 8 ≤ (Finset.univ.filter fun m => ¬μ m).card

/-- Equal entries that are not pushed have seven smaller ones. -/
def Sep (μ : Fin 1024 → Prop) [DecidablePred μ] (s : Fin 1024 → ℝ) : Prop :=
  ∀ i j, i ≠ j → ¬μ i → ¬μ j → s i = s j → 7 ≤ (Finset.univ.filter fun k => ¬μ k ∧ s k < s i).card

section
variable {μ : Fin 1024 → Prop} [DecidablePred μ] {s p : Fin 1024 → ℝ}

theorem push_five : Push μ fun m => if μ m then 5 else 0 := fun m =>
  ⟨fun h => if_neg h, fun h => le_of_eq (if_pos h).symm⟩

theorem far_nonneg (a : ℝ) : 0 ≤ far a := Real.sqrt_nonneg _

theorem far_lt {a : ℝ} (h : |a| ≤ 2) : far a < 5 := by
  unfold far
  rw [Real.sqrt_lt' (by norm_num)]
  have := (abs_le.mp h).2
  have := Consts.ε_lt
  rw [max_lt_iff]
  constructor <;> linarith

theorem far_mono {a b : ℝ} (h : a ≤ b) : far a ≤ far b :=
  Real.sqrt_le_sqrt (max_le_max (by linarith) le_rfl)

theorem key_lt (hs : ∀ m, |s m| ≤ 2) {i j : Fin 1024} (hi : μ i) (hj : ¬μ j) : key μ s j < key μ s i := by
  unfold key
  rw [EReal.coe_lt_coe_iff, if_pos hi, if_neg hj]
  have := abs_le.mp (hs i); have := abs_le.mp (hs j)
  linarith

theorem val_lt (hp : Push μ p) (hs : ∀ m, |s m| ≤ 2) {i j : Fin 1024} (hi : μ i) (hj : ¬μ j) : val p s j < val p s i := by
  unfold val
  rw [EReal.coe_lt_coe_iff, (hp j).1 hj]
  have := far_nonneg (s i); have := far_lt (hs j); have := (hp i).2 hi
  linarith

theorem free_le_below (x : Fin 1024 → EReal) (i : Fin 1024) (h : ∀ j, ¬μ j → x j < x i) :
    (Finset.univ.filter fun m => ¬μ m).card ≤ below x (x i) := by
  rw [below_eq_card]
  refine Finset.card_le_card fun j hj => ?_
  rw [Finset.mem_filter] at hj ⊢
  exact ⟨hj.1, h j hj.2⟩

theorem key_val (hp : Push μ p) (hs : ∀ m, |s m| ≤ 2) {i : Fin 1024} (hi : ¬μ i) (j : Fin 1024) :
    (key μ s j ≤ key μ s i → val p s j ≤ val p s i) ∧ (key μ s i ≤ key μ s j → val p s i ≤ val p s j) := by
  by_cases hj : μ j
  · exact ⟨fun h => absurd h (not_le.mpr (key_lt hs hj hi)), fun _ => (val_lt hp hs hj hi).le⟩
  · unfold key val
    rw [if_neg hi, if_neg hj, (hp i).1 hi, (hp j).1 hj]
    simp only [EReal.coe_le_coe_iff, add_zero]
    exact ⟨fun h => far_mono (by linarith), fun h => far_mono (by linarith)⟩

theorem key_free (hs : ∀ m, |s m| ≤ 2) (hf : Free μ) {t : ℕ} (ht : t < 8) {i : Fin 1024} (h : IsK (key μ s) t (key μ s i)) :
    ¬μ i := fun hi => by
  have := free_le_below (μ := μ) (key μ s) i fun j hj => key_lt hs hi hj
  have := h.1
  unfold Free at hf
  omega

theorem val_free (hp : Push μ p) (hs : ∀ m, |s m| ≤ 2) (hf : Free μ) {t : ℕ} (ht : t < 8) {i : Fin 1024} (h : IsK (val p s) t (val p s i)) :
    ¬μ i := fun hi => by
  have := free_le_below (μ := μ) (val p s) i fun j hj => val_lt hp hs hi hj
  have := h.1
  unfold Free at hf
  omega

/-- The entry of a rank below eight is the same distance in both rows, and is not a pushed one. -/
theorem link (hp : Push μ p) (hs : ∀ m, |s m| ≤ 2) (hf : Free μ) {t : ℕ} (ht : t < 8) {v : EReal} (hv : IsK (key μ s) t v)
    {i : Fin 1024} (hy : IsK (val p s) t (val p s i)) :
    ¬μ i ∧ val p s i = (far (s i) : EReal)
      ∧ Ideal.sqrt (max ((Consts.ε : ℝ) : EReal) (v + ((2 : ℝ) : EReal))) = (far (s i) : EReal) := by
  obtain ⟨k, rfl⟩ := hv.exists
  have hk := key_free hs hf ht hv
  have hi := val_free hp hs hf ht hy
  have e : val p s k = val p s i := (hv.map (y := val p s) (i := k) fun j => key_val hp hs hk j).unique hy
  have ei : ∀ {j}, ¬μ j → val p s j = (far (s j) : EReal) := by
    intro j hj
    unfold val
    rw [(hp _).1 hj, add_zero]
  refine ⟨hi, ei hi, ?_⟩
  rw [← ei hi, ← e, ei hk]
  unfold key far
  rw [if_neg hk, add_zero, ← EReal.coe_add, ← EReal.coe_strictMono.monotone.map_max, Ideal.sqrt_coe,
    if_neg (not_lt.mpr (le_max_of_le_left Consts.ε_pos.le)), max_comm, add_comm]

theorem exists_pair (x : Fin 1024 → EReal) (v : EReal) (h : below x v + 1 < upTo x v) :
    ∃ i j, i ≠ j ∧ x i = v ∧ x j = v := by
  have hc : upTo x v = below x v + (Finset.univ.filter fun i => x i = v).card := by
    rw [upTo_eq_card, below_eq_card, ← Finset.card_union_of_disjoint]
    · congr 1
      ext i
      simp [le_iff_lt_or_eq]
    · rw [Finset.disjoint_filter]
      exact fun i _ h => h.ne
  obtain ⟨i, hi, j, hj, hne⟩ := Finset.one_lt_card.mp (show 1 < (Finset.univ.filter fun i => x i = v).card by omega)
  exact ⟨i, j, hne, (Finset.mem_filter.mp hi).2, (Finset.mem_filter.mp hj).2⟩

/-- The smallest entries of the kernel's row have no ties. -/
theorem apart (hs : ∀ m, |s m| ≤ 2) (hf : Free μ) (hsep : Sep μ s) {t : ℕ} (ht : t < 8) (v : EReal) (hv : v < ⊤)
    (hb : below (key μ s) v < t) : upTo (key μ s) v ≤ below (key μ s) v + 1 := by
  by_contra hn
  obtain ⟨i, j, hne, hi, hj⟩ := exists_pair (key μ s) v (by omega)
  have free : ∀ k, key μ s k = v → ¬μ k := fun k hk hμ => by
    have := free_le_below (μ := μ) (key μ s) k fun j hj => key_lt hs hμ hj
    rw [hk] at this
    unfold Free at hf
    omega
  have hi' := free i hi
  have hj' := free j hj
  have es : s i = s j := by
    have := hi.trans hj.symm
    unfold key at this
    rw [if_neg hi', if_neg hj', EReal.coe_eq_coe_iff] at this
    linarith
  have h7 := hsep i j hne hi' hj' es
  have : (Finset.univ.filter fun k => ¬μ k ∧ s k < s i).card ≤ below (key μ s) v := by
    rw [below_eq_card, ← hi]
    refine Finset.card_le_card fun k hk => ?_
    rw [Finset.mem_filter] at hk ⊢
    refine ⟨hk.1, ?_⟩
    unfold key
    rw [if_neg hk.2.1, if_neg hi', EReal.coe_lt_coe_iff]
    linarith [hk.2.2]
  omega

theorem below_top {t : ℕ} (ht : t < 8) : t < below (key μ s) ⊤ := by
  have : below (key μ s) ⊤ = 1024 := by
    have h : ∀ i, key μ s i < ⊤ := fun i => EReal.coe_lt_top _
    rw [below_eq_card, Finset.filter_true_of_mem (p := fun i => key μ s i < ⊤) fun i _ => h i]
    rfl
  omega

end

/-- Strictly ascending smallest entries: two equal entries have all but the last of them below. -/
theorem strict {K : ℕ} (z : Fin 1024 → EReal) (w : ℕ → EReal) (hw : ∀ t < K + 1, IsK z t (w t))
    (hlt : ∀ t < K, w t < w (t + 1)) {i j : Fin 1024} (hne : i ≠ j) (h : z i = z j) : K ≤ below z (z i) := by
  by_contra hn
  have h2 : below z (z i) + 2 ≤ upTo z (z i) := by
    rw [upTo_eq_card, below_eq_card]
    have : (Finset.univ.filter fun k => z k < z i) ∪ {i, j} ⊆ Finset.univ.filter fun k => z k ≤ z i := by
      intro k hk
      rw [Finset.mem_filter]
      refine ⟨Finset.mem_univ _, ?_⟩
      rcases Finset.mem_union.mp hk with hk | hk
      · exact (Finset.mem_filter.mp hk).2.le
      · rcases Finset.mem_insert.mp hk with rfl | hk
        · exact le_rfl
        · rw [Finset.mem_singleton.mp hk, h]
    refine le_trans (le_of_eq ?_) (Finset.card_le_card this)
    rw [Finset.card_union_of_disjoint, Finset.card_pair hne]
    rw [Finset.disjoint_left]
    intro k hk hk'
    have := (Finset.mem_filter.mp hk).2
    rcases Finset.mem_insert.mp hk' with rfl | hk'
    · exact lt_irrefl _ this
    · rw [Finset.mem_singleton.mp hk', h] at this
      exact lt_irrefl _ this
  have h0 : IsK z (below z (z i)) (z i) := ⟨le_rfl, by omega⟩
  have h1 : IsK z (below z (z i) + 1) (z i) := ⟨by omega, by omega⟩
  have := hlt _ (not_le.mp hn)
  rw [(hw _ (by omega)).unique h0, (hw _ (by omega)).unique h1] at this
  exact lt_irrefl _ this

section
variable {μ : Fin 1024 → Prop} [DecidablePred μ] {s : Fin 1024 → ℝ}

/-- What distinct finite smallest entries of the row with the pushed entries infinite give. -/
theorem of_outside (z : Fin 1024 → EReal) (hz : ∀ m, z m = if μ m then ⊤ else (s m : EReal)) (w : ℕ → EReal)
    (hw : ∀ t < 8, IsK z t (w t)) (hlt : ∀ t < 7, w t < w (t + 1)) (hf : w 7 < ⊤) : Free μ ∧ Sep μ s := by
  have hμ : ∀ m, z m < ⊤ → ¬μ m := fun m h hm => by rw [hz, if_pos hm] at h; exact lt_irrefl _ h
  constructor
  · have h7 := (hw 7 (by omega)).2
    have : upTo z (w 7) ≤ (Finset.univ.filter fun m => ¬μ m).card := by
      rw [upTo_eq_card]
      refine Finset.card_le_card fun k hk => ?_
      rw [Finset.mem_filter] at hk ⊢
      exact ⟨hk.1, hμ k (hk.2.trans_lt hf)⟩
    unfold Free
    omega
  · intro i j hne hi hj es
    have h := strict (K := 7) z w hw hlt hne (by rw [hz, hz, if_neg hi, if_neg hj, es])
    refine h.trans ?_
    rw [below_eq_card]
    refine Finset.card_le_card fun k hk => ?_
    rw [Finset.mem_filter] at hk ⊢
    have hk' := hμ k (hk.2.trans (by rw [hz, if_neg hi]; exact EReal.coe_lt_top _))
    have := hk.2
    rw [hz, hz, if_neg hi, if_neg hk', EReal.coe_lt_coe_iff] at this
    exact ⟨hk.1, hk', this⟩

/-- What distinct smallest entries of the whole row give when few are pushed. -/
theorem of_few (hc : (Finset.univ.filter fun m => μ m).card ≤ 16) (w : ℕ → EReal)
    (hw : ∀ t < 25, IsK (fun m => (s m : EReal)) t (w t)) (hlt : ∀ t < 24, w t < w (t + 1)) : Free μ ∧ Sep μ s := by
  have hsum : (Finset.univ.filter fun m => μ m).card + (Finset.univ.filter fun m => ¬μ m).card = 1024 := by
    rw [Finset.card_filter_add_card_filter_not]
    rfl
  constructor
  · unfold Free
    omega
  · intro i j hne hi hj es
    have h := strict (K := 24) (fun m => (s m : EReal)) w hw hlt hne (by rw [es])
    rw [below_eq_card] at h
    have : (Finset.univ.filter fun k => ((s k : ℝ) : EReal) < s i)
        ⊆ (Finset.univ.filter fun k => ¬μ k ∧ s k < s i) ∪ (Finset.univ.filter fun m => μ m) := by
      intro k hk
      have hk := EReal.coe_lt_coe_iff.mp (Finset.mem_filter.mp hk).2
      rw [Finset.mem_union, Finset.mem_filter, Finset.mem_filter]
      by_cases hm : μ k
      · exact .inr ⟨Finset.mem_univ _, hm⟩
      · exact .inl ⟨Finset.mem_univ _, hm, hk⟩
    have h1 := Finset.card_le_card this
    have h2 := Finset.card_union_le (Finset.univ.filter fun k => ¬μ k ∧ s k < s i) (Finset.univ.filter fun m => μ m)
    omega

end

end Cert.Masked
-- ==== Proof.Spec.lean ====
/- The loss's parts over the reals: bilinear samples, normalised descriptors, the cells near a warped point, the points
   within the radius; and how sums, roots and quotients of real numbers read as extended reals. -/
module

public import proofs.«01_k».proof.Proof.Near
public import proofs.«01_k».proof.Proof.Top4
public import proofs.«01_k».proof.Proof.Masked

@[expose] public section

noncomputable section

namespace Cert.Spec

open Idealize.ShloMosaic

/-! ### Real numbers among the extended reals -/

theorem esum {ι : Type} (t : Finset ι) (f : ι → ℝ) : (∑ k ∈ t, ((f k : ℝ) : EReal)) = ((∑ k ∈ t, f k : ℝ) : EReal) :=
  (map_sum (⟨⟨Real.toEReal, EReal.coe_zero⟩, EReal.coe_add⟩ : ℝ →+ EReal) f t).symm

theorem emax (a b : ℝ) : max (a : EReal) (b : EReal) = ((max a b : ℝ) : EReal) :=
  (EReal.coe_strictMono.monotone.map_max).symm

theorem emin (a b : ℝ) : min (a : EReal) (b : EReal) = ((min a b : ℝ) : EReal) :=
  (EReal.coe_strictMono.monotone.map_min).symm

theorem esqrt {a : ℝ} (h : 0 ≤ a) : Ideal.sqrt (a : EReal) = ((Real.sqrt a : ℝ) : EReal) := by
  rw [Ideal.sqrt_coe, if_neg (not_lt.mpr h)]

theorem ediv (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

theorem zero_coe : (0 : EReal) = ((0 : ℝ) : EReal) := rfl
theorem one_coe : (1 : EReal) = ((1 : ℝ) : EReal) := rfl

/-! ### Sampling -/

/-- A coordinate in units of cells, clamped to the map; its cell, the next cell, and the fraction between. -/
def unit (p : ℝ) : ℝ := min (max (p / 16 - 1 / 2) 0) 31
@[inherit_doc unit]
def lo (p : ℝ) : ℕ := ⌊unit p⌋₊
@[inherit_doc unit]
def up (p : ℝ) : ℕ := min (lo p + 1) 31
@[inherit_doc unit]
def frac (p : ℝ) : ℝ := unit p - lo p

theorem unit_nonneg (p : ℝ) : 0 ≤ unit p := le_min (le_max_right _ _) (by norm_num)
theorem unit_le (p : ℝ) : unit p ≤ 31 := min_le_right _ _
theorem lo_le (p : ℝ) : lo p ≤ 31 := Nat.floor_le_of_le (by exact_mod_cast unit_le p)
theorem up_le (p : ℝ) : up p ≤ 31 := min_le_right _ _
theorem floor_unit (p : ℝ) : (⌊unit p⌋ : ℝ) = (lo p : ℝ) := by
  unfold lo
  exact (natCast_floor_eq_intCast_floor (unit_nonneg p)).symm

/-- The cell of a row and a column. -/
def cell (y x : ℕ) : Fin 1024 := ⟨(32 * y + x) % 1024, Nat.mod_lt _ (by norm_num)⟩

/-- Bilinear interpolation of a map of cells at a point. -/
def interp (x y : ℝ) (e : Fin 1024 → ℝ) : ℝ :=
  e (cell (lo y) (lo x)) * (1 - frac y) * (1 - frac x) + e (cell (lo y) (up x)) * (1 - frac y) * frac x
    + e (cell (up y) (lo x)) * frac y * (1 - frac x) + e (cell (up y) (up x)) * frac y * frac x

/-- The weight of a row or column. -/
def wt (p : ℝ) (i : ℕ) : ℝ := (if i = lo p then 1 else 0) * (1 - frac p) + (if i = up p then 1 else 0) * frac p

theorem sum_cell (a b : ℕ) (ha : a ≤ 31) (hb : b ≤ 31) (u v : ℝ) (e : Fin 1024 → ℝ) :
    (∑ m : Fin 1024, ((if m.val / 32 = a then 1 else 0) * u) * ((if m.val % 32 = b then 1 else 0) * v) * e m)
      = e (cell a b) * u * v := by
  rw [Finset.sum_eq_single (cell a b)]
  · have h1 : (cell a b).val / 32 = a := by unfold cell; dsimp only; omega
    have h2 : (cell a b).val % 32 = b := by unfold cell; dsimp only; omega
    rw [if_pos h1, if_pos h2]
    ring
  · intro m _ hm
    by_cases h1 : m.val / 32 = a
    · by_cases h2 : m.val % 32 = b
      · exact absurd (Fin.ext (by unfold cell; dsimp only; omega)) hm
      · rw [if_neg h2]; ring
    · rw [if_neg h1]; ring
  · intro h
    exact absurd (Finset.mem_univ _) h

theorem interp_eq (x y : ℝ) (e : Fin 1024 → ℝ) :
    (∑ m : Fin 1024, wt y (m.val / 32) * wt x (m.val % 32) * e m) = interp x y e := by
  unfold interp
  rw [← sum_cell _ _ (lo_le y) (lo_le x), ← sum_cell _ _ (lo_le y) (up_le x), ← sum_cell _ _ (up_le y) (lo_le x),
    ← sum_cell _ _ (up_le y) (up_le x), ← Finset.sum_add_distrib, ← Finset.sum_add_distrib, ← Finset.sum_add_distrib]
  refine Finset.sum_congr rfl fun m _ => ?_
  unfold wt
  ring

/-- A vector divided by its length. -/
def unitv (v : Fin 256 → ℝ) (c : Fin 256) : ℝ := v c / (Real.sqrt (∑ k, v k * v k) + Consts.ε)

theorem unitv_den (v : Fin 256 → ℝ) : 0 < Real.sqrt (∑ k, v k * v k) + Consts.ε :=
  add_pos_of_nonneg_of_pos (Real.sqrt_nonneg _) Consts.ε_pos

theorem unitv_sq (v : Fin 256 → ℝ) : (∑ c, unitv v c * unitv v c) ≤ 2 := by
  have h0 : 0 ≤ ∑ k, v k * v k := Finset.sum_nonneg fun k _ => mul_self_nonneg _
  have hd := unitv_den v
  have : (∑ c, unitv v c * unitv v c)
      = (∑ k, v k * v k) / ((Real.sqrt (∑ k, v k * v k) + Consts.ε) * (Real.sqrt (∑ k, v k * v k) + Consts.ε)) := by
    rw [Finset.sum_div]
    refine Finset.sum_congr rfl fun c _ => ?_
    unfold unitv
    rw [div_mul_div_comm]
  rw [this, div_le_iff₀ (mul_pos hd hd)]
  have := Real.mul_self_sqrt h0
  nlinarith [Real.sqrt_nonneg (∑ k, v k * v k), Consts.ε_pos]

/-- The negated product of two vectors. -/
def sim (a b : Fin 256 → ℝ) : ℝ := -∑ c, a c * b c

theorem sim_le {a b : Fin 256 → ℝ} (ha : (∑ c, a c * a c) ≤ 2) (hb : (∑ c, b c * b c) ≤ 2) : |sim a b| ≤ 2 := by
  unfold sim
  rw [abs_neg]
  have h := Finset.sum_mul_sq_le_sq_mul_sq Finset.univ a b
  have e : ∀ f : Fin 256 → ℝ, (∑ c, f c ^ 2) = ∑ c, f c * f c := fun f => Finset.sum_congr rfl fun c _ => sq _
  rw [e, e] at h
  have h0 : 0 ≤ ∑ c, a c * a c := Finset.sum_nonneg fun k _ => mul_self_nonneg _
  have h1 : 0 ≤ ∑ c, b c * b c := Finset.sum_nonneg fun k _ => mul_self_nonneg _
  have h4 : (∑ c, a c * b c) ^ 2 ≤ 2 ^ 2 := by nlinarith
  exact abs_le_of_sq_le_sq h4 (by norm_num)

/-! ### The masks -/

/-- A cell's centre. -/
def cx (m : ℕ) : ℝ := (((m % 32 : ℕ) : ℝ) + 1 / 2) * 16
@[inherit_doc cx]
def cy (m : ℕ) : ℝ := (((m / 32 : ℕ) : ℝ) + 1 / 2) * 16

/-- The image of a cell's centre under a homography. -/
def wd (h : Fin 3 → Fin 3 → ℝ) (m : ℕ) : ℝ := h 2 0 * cx m + h 2 1 * cy m + h 2 2 + Consts.ε
@[inherit_doc wd]
def wx (h : Fin 3 → Fin 3 → ℝ) (m : ℕ) : ℝ := (h 0 0 * cx m + h 0 1 * cy m + h 0 2) / wd h m
@[inherit_doc wd]
def wy (h : Fin 3 → Fin 3 → ℝ) (m : ℕ) : ℝ := (h 1 0 * cx m + h 1 1 * cy m + h 1 2) / wd h m

/-- A cell is among the four nearest of the image of one of the four cells nearest a point. -/
def near (h : Fin 3 → Fin 3 → ℝ) (x y : ℝ) (m : Fin 1024) : Prop :=
  ∃ c : Fin 1024, Near.rank (Model.sq x y) c < 4 ∧ Near.rank (Model.sq (wx h c) (wy h c)) m < 4

instance (h : Fin 3 → Fin 3 → ℝ) (x y : ℝ) : DecidablePred (near h x y) := fun _ => Classical.propDecidable _

/-- Two points are within the radius. -/
def within (x y x' y' : ℝ) : Prop := (x - x') * (x - x') + (y - y') * (y - y') + Consts.ε ≤ Consts.B * Consts.B

instance (x y x' y' : ℝ) : Decidable (within x y x' y') := Classical.propDecidable _

theorem rank_inj (s : Fin 1024 → ℝ) : Function.Injective (Near.rank s) := by
  have key : ∀ a b : Fin 1024, (s a < s b ∨ (s a = s b ∧ a < b)) → Near.rank s a < Near.rank s b := by
    intro a b h
    refine Finset.card_lt_card (Finset.ssubset_iff_of_subset ?_ |>.mpr ⟨a, ?_, ?_⟩)
    · intro m hm
      rw [Finset.mem_filter] at hm ⊢
      refine ⟨hm.1, ?_⟩
      rcases hm.2 with k | ⟨k, k'⟩ <;> rcases h with h | ⟨h, h'⟩
      · exact .inl (k.trans h)
      · exact .inl (h ▸ k)
      · exact .inl (k ▸ h)
      · exact .inr ⟨k.trans h, k'.trans h'⟩
    · rw [Finset.mem_filter]
      exact ⟨Finset.mem_univ _, h⟩
    · rw [Finset.mem_filter]
      rintro ⟨_, k | ⟨_, k⟩⟩ <;> exact lt_irrefl _ k
  intro a b h
  by_contra hne
  rcases lt_trichotomy (s a) (s b) with k | k | k
  · exact absurd h (key a b (.inl k)).ne
  · rcases lt_or_gt_of_ne hne with l | l
    · exact absurd h (key a b (.inr ⟨k, l⟩)).ne
    · exact absurd h (key b a (.inr ⟨k.symm, l⟩)).ne'
  · exact absurd h (key b a (.inl k)).ne'

theorem card_rank (s : Fin 1024 → ℝ) : (Finset.univ.filter fun m => Near.rank s m < 4).card ≤ 4 := by
  have := Finset.card_le_card_of_injOn (Near.rank s) (s := Finset.univ.filter fun m => Near.rank s m < 4)
    (t := Finset.range 4) (fun m hm => by simpa using hm) (rank_inj s).injOn
  simpa using this

theorem card_near (h : Fin 3 → Fin 3 → ℝ) (x y : ℝ) : (Finset.univ.filter fun m => near h x y m).card ≤ 16 := by
  have : (Finset.univ.filter fun m => near h x y m)
      ⊆ (Finset.univ.filter fun c => Near.rank (Model.sq x y) c < 4).biUnion fun c : Fin 1024 =>
        Finset.univ.filter fun m => Near.rank (Model.sq (wx h c) (wy h c)) m < 4 := by
    intro m hm
    obtain ⟨c, hc, hm⟩ := (Finset.mem_filter.mp hm).2
    rw [Finset.mem_biUnion]
    exact ⟨c, by simpa using hc, by simpa using hm⟩
  refine (Finset.card_le_card this).trans (Finset.card_biUnion_le.trans ?_)
  refine (Finset.sum_le_card_nsmul _ _ 4 fun c _ => card_rank _).trans ?_
  have := card_rank (Model.sq x y)
  simp only [smul_eq_mul]
  omega

end Cert.Spec
-- ==== Proof.Net.lean ====
/- A sorting network on eight values, by its values on truth values: ascending order, and the entries kept. -/
module

public import Idealize.ShloMosaic.Lib.Pointwise
public import Idealize.ShloMosaic.PureOps.Ideal

@[expose] public section

set_option maxRecDepth 16384

noncomputable section

namespace Cert.Model

/-! ### The network on eight values -/

section
variable {α β : Type}

/-- The seven layers of the network on eight values, for any two operations. -/
def net (f g : α → α → α) (c : Fin 8 → α) : Fin 8 → α :=
  let c := ![f (c 0) (c 1), g (c 0) (c 1), f (c 2) (c 3), g (c 2) (c 3), f (c 4) (c 5), g (c 4) (c 5),
    f (c 6) (c 7), g (c 6) (c 7)]
  let c := ![f (c 0) (c 2), f (c 1) (c 3), g (c 0) (c 2), g (c 1) (c 3), f (c 4) (c 6), f (c 5) (c 7),
    g (c 4) (c 6), g (c 5) (c 7)]
  let c := ![f (c 0) (c 4), f (c 1) (c 2), g (c 1) (c 2), f (c 3) (c 7), g (c 0) (c 4), f (c 5) (c 6),
    g (c 5) (c 6), g (c 3) (c 7)]
  let c := ![c 0, f (c 1) (c 5), f (c 2) (c 6), c 3, c 4, g (c 1) (c 5), g (c 2) (c 6), c 7]
  let c := ![c 0, f (c 1) (c 4), c 2, f (c 3) (c 6), g (c 1) (c 4), c 5, g (c 3) (c 6), c 7]
  let c := ![c 0, c 1, f (c 2) (c 4), f (c 3) (c 5), g (c 2) (c 4), g (c 3) (c 5), c 6, c 7]
  ![c 0, c 1, c 2, f (c 3) (c 4), g (c 3) (c 4), c 5, c 6, c 7]

theorem net_map (φ : α → β) (f g : α → α → α) (f' g' : β → β → β) (hf : ∀ a b, φ (f a b) = f' (φ a) (φ b))
    (hg : ∀ a b, φ (g a b) = g' (φ a) (φ b)) (c : Fin 8 → α) (k : Fin 8) :
    φ (net f g c k) = net f' g' (fun k => φ (c k)) k := by
  fin_cases k <;> simp [net, hf, hg]

end

/-- On truth values the network puts the false ones last and keeps their number. -/
theorem net_bool : ∀ a b c d e f g h : Bool,
    ((∀ i j : Fin 8, i ≤ j → net or and ![a, b, c, d, e, f, g, h] j = true → net or and ![a, b, c, d, e, f, g, h] i = true) ∧
      (∑ k, (net or and ![a, b, c, d, e, f, g, h] k).toNat) = ∑ k, (![a, b, c, d, e, f, g, h] k).toNat) := by
  decide +kernel

theorem net_bool' (c : Fin 8 → Bool) :
    (∀ i j : Fin 8, i ≤ j → net or and c j = true → net or and c i = true) ∧
      (∑ k, (net or and c k).toNat) = ∑ k, (c k).toNat := by
  have h : c = ![c 0, c 1, c 2, c 3, c 4, c 5, c 6, c 7] := by
    funext k; fin_cases k <;> rfl
  rw [h]
  exact net_bool _ _ _ _ _ _ _ _

theorem net_mono (c : Fin 8 → EReal) : Monotone (net min max c) := by
  intro i j hij
  by_contra hlt
  rw [not_le] at hlt
  have h := (net_bool' fun k => decide (c k < net min max c i)).1 i j hij
  have hm := net_map (fun x : EReal => decide (x < net min max c i)) min max or and
    (fun a b => by simp [min_lt_iff]) (fun a b => by simp [max_lt_iff]) c
  rw [← hm i, ← hm j] at h
  exact lt_irrefl _ (of_decide_eq_true (h (decide_eq_true hlt)))

theorem net_below (c : Fin 8 → EReal) (v : EReal) :
    (∑ k, if net min max c k < v then 1 else 0) = ∑ k, if c k < v then 1 else 0 := by
  have h := (net_bool' fun k => decide (c k < v)).2
  have hm := net_map (fun x : EReal => decide (x < v)) min max or and
    (fun a b => by simp [min_lt_iff]) (fun a b => by simp [max_lt_iff]) c
  have ht : ∀ x : EReal, (decide (x < v)).toNat = if x < v then 1 else 0 := fun x => by by_cases h : x < v <;> simp [h]
  simp only [← hm, ht] at h
  exact h

theorem net_upTo (c : Fin 8 → EReal) (v : EReal) :
    (∑ k, if net min max c k ≤ v then 1 else 0) = ∑ k, if c k ≤ v then 1 else 0 := by
  have h := (net_bool' fun k => decide (c k ≤ v)).2
  have hm := net_map (fun x : EReal => decide (x ≤ v)) min max or and
    (fun a b => by simp [min_le_iff]) (fun a b => by simp [max_le_iff]) c
  have ht : ∀ x : EReal, (decide (x ≤ v)).toNat = if x ≤ v then 1 else 0 := fun x => by by_cases h : x ≤ v <;> simp [h]
  simp only [← hm, ht] at h
  exact h

end Cert.Model

end
-- ==== Proof.Top8.lean ====
/- The kernel's eight smallest entries of a row: the network sorts every column of eight and keeps the row's entries, and
   the pops then read the entries by rank. -/
module

public import proofs.«01_k».proof.Proof.Model
public import proofs.«01_k».proof.Proof.Rank
public import proofs.«01_k».proof.Proof.Net
public import proofs.«01_k».proof.Proof.Consts

@[expose] public section

set_option maxRecDepth 16384

noncomputable section

open Idealize.ShloMosaic
open Cert.KernelIdeal Cert.KernelIdeal.Gen

namespace Cert.Model

/-! ### A row of the stack -/

/-- One row of the eight blocks: by lane, the column of eight. -/
def cols (s : Stack Ideal) (r : Fin 1024) (l : Fin 128) : Fin 8 → EReal :=
  ![s.s0 (ix2 r l), s.s1 (ix2 r l), s.s2 (ix2 r l), s.s3 (ix2 r l), s.s4 (ix2 r l), s.s5 (ix2 r l), s.s6 (ix2 r l),
    s.s7 (ix2 r l)]

theorem cols_sorted (x : FVec Ideal S1024x1024 .f32) (r : Fin 1024) (l : Fin 128) :
    cols (sorted x) r l = net min max (cols (cut x) r l) := by
  funext k
  fin_cases k <;> rfl

theorem cols_cut (x : FVec Ideal S1024x1024 .f32) (r : Fin 1024) (l : Fin 128) (k : Fin 8) :
    cols (cut x) r l k = x (ix2 r ⟨128 * k.val + l.val, by omega⟩) := by
  fin_cases k <;> simp only [cols, cut] <;> pointwise <;> simp [add_comm]

theorem fold_min_top {ι : Type} [Fintype ι] (f : ι → EReal) : Finset.fold min ⊤ f Finset.univ = Finset.univ.inf f := rfl

theorem rowMin_eq (s : Stack Ideal) (r : Fin 1024) : rowMin s (ix2 r 0) = Rank.least (cols s r) := by
  pointwise [rowMin]
  rw [Consts.inf]
  rfl

theorem popC_eq (s : Stack Ideal) (r : Fin 1024) (l : Fin 128) :
    popC s (ix2 r l) = BitVec.ofBool (decide (cols s r l 0 = Rank.least (cols s r))) := by
  rw [← rowMin_eq]
  pointwise [popC]
  rfl

theorem cols_pop (s : Stack Ideal) (r : Fin 1024) : cols (pop s) r = Rank.popE (cols s r) := by
  funext l k
  have hsel : ∀ a b : FVec Ideal S1024x128 .f32, select (popC s) a b (ix2 r l)
      = if cols s r l 0 = Rank.least (cols s r) then a (ix2 r l) else b (ix2 r l) := fun a b => by
    by_cases h : cols s r l 0 = Rank.least (cols s r)
    · rw [if_pos h]; pointwise [popC_eq, h]
    · rw [if_neg h]; pointwise [popC_eq, h]
  have hk : kc (F := Ideal) S1024x128 0x7F800000#32 (ix2 r l) = ⊤ := by
    pointwise [Consts.inf]
  unfold Rank.popE
  by_cases h : cols s r l 0 = Rank.least (cols s r)
  · rw [if_pos h]
    fin_cases k <;> first
      | exact (hsel _ _).trans (if_pos h)
      | exact ((hsel _ _).trans (if_pos h)).trans hk
  · rw [if_neg h]
    fin_cases k <;> exact (hsel _ _).trans (if_neg h)

theorem cols_pops (s : Stack Ideal) (r : Fin 1024) (n : ℕ) : cols (pops s n) r = Rank.popsE (cols s r) n := by
  induction n with
  | zero => rfl
  | succ n ih =>
    show cols (pop (pops s n)) r = Rank.popE (Rank.popsE (cols s r) n)
    rw [cols_pop, ih]

/-! ### The rank of the entry read -/

/-- The columns' numbering: lane and block to the entry's number in the row. -/
def colEquiv : Fin 128 × Fin 8 ≃ Fin 1024 where
  toFun p := ⟨128 * p.2.val + p.1.val, by omega⟩
  invFun m := (⟨m.val % 128, by omega⟩, ⟨m.val / 128, by omega⟩)
  left_inv := fun ⟨a, b⟩ => by ext <;> simp <;> omega
  right_inv := fun m => by ext; simp; omega

theorem below_sorted (x : FVec Ideal S1024x1024 .f32) (r : Fin 1024) (v : EReal) :
    Rank.below (Rank.flat (cols (sorted x) r)) v = Rank.below (fun m => x (ix2 r m)) v := by
  rw [← Rank.below_equiv colEquiv, Rank.below_flat]
  unfold Rank.below
  rw [Fintype.sum_prod_type]
  refine Finset.sum_congr rfl fun l _ => ?_
  rw [cols_sorted, net_below]
  refine Finset.sum_congr rfl fun k _ => ?_
  rw [cols_cut]
  rfl

theorem upTo_sorted (x : FVec Ideal S1024x1024 .f32) (r : Fin 1024) (v : EReal) :
    Rank.upTo (Rank.flat (cols (sorted x) r)) v = Rank.upTo (fun m => x (ix2 r m)) v := by
  rw [← Rank.upTo_equiv colEquiv, Rank.upTo_flat]
  unfold Rank.upTo
  rw [Fintype.sum_prod_type]
  refine Finset.sum_congr rfl fun l _ => ?_
  rw [cols_sorted, net_upTo]
  refine Finset.sum_congr rfl fun k _ => ?_
  rw [cols_cut]
  rfl

/-- What the kernel reads at each step is the entry of that rank, when the least entries are apart. -/
theorem top8_isK (x : FVec Ideal S1024x1024 .f32) (r : Fin 1024) (t : ℕ)
    (hK : ∀ v, v < ⊤ → Rank.below (fun m => x (ix2 r m)) v < t →
      Rank.upTo (fun m => x (ix2 r m)) v ≤ Rank.below (fun m => x (ix2 r m)) v + 1)
    (hf : t < Rank.below (fun m => x (ix2 r m)) ⊤) : Rank.IsK (fun m => x (ix2 r m)) t (top8 x t (ix2 r 0)) := by
  unfold top8
  rw [rowMin_eq, cols_pops]
  have hA : Rank.Asc (cols (sorted x) r) := fun l => by
    rw [cols_sorted]; exact net_mono _
  have h := (Rank.isK_pops t hA (fun v hv h => by
    rw [below_sorted] at h
    rw [below_sorted, upTo_sorted]
    exact hK v hv h) (by rw [below_sorted]; exact hf)).1
  unfold Rank.IsK at h ⊢
  rw [below_sorted, upTo_sorted] at h
  exact h

end Cert.Model

end
-- ==== Proof.KSem.lean ====
/- The kernel's stages at the reals. -/
module

public import proofs.«01_k».proof.Proof.Spec
public import proofs.«01_k».proof.Proof.Top8

@[expose] public section

noncomputable section

namespace Cert.Model

open Idealize.ShloMosaic Cert.KernelIdeal Cert.KernelIdeal.Gen Cert.Spec

/-- The point of a packed position. -/
abbrev pk (i : Fin 8) (j : Fin 128) : Fin 1024 := ⟨i.val * 128 + j.val, by omega⟩

theorem total_ap (x : FVec Ideal S1024x1 .f32) : total x = ∑ n : Fin 1024, x (ix2 n 0) := by
  unfold total
  pointwise
  exact Finset.sum_congr rfl fun n _ => Fin.sum_univ_one _

theorem acc_ap (g : ℕ → FVec Ideal S1024x1 .f32) (k : ℕ) (n : Fin 1024) :
    acc g k (ix2 n 0) = ∑ t ∈ Finset.range k, g t (ix2 n 0) := by
  induction k with
  | zero =>
    rw [Finset.range_zero, Finset.sum_empty]
    show Ideal.ofBits .f32 0x00000000#32 = 0
    rw [Consts.c0, EReal.coe_zero]
  | succ k ih =>
    rw [Finset.sum_range_succ, ← ih]
    rfl

theorem dist_ap (x : FVec Ideal S1024x1 .f32) (n : Fin 1024) :
    dist x (ix2 n 0) = Ideal.sqrt (max ((Consts.ε : ℝ) : EReal) (x (ix2 n 0) + ((2 : ℝ) : EReal))) := by
  unfold dist kc
  pointwise
  rw [Consts.eps, Consts.c2]

theorem hinge_ap (p x : FVec Ideal S1024x1 .f32) (n : Fin 1024) : hinge p x (ix2 n 0)
    = max 0 (p (ix2 n 0) - dist x (ix2 n 0) + 1) * max 0 (p (ix2 n 0) - dist x (ix2 n 0) + 1) := by
  unfold hinge kc
  pointwise

theorem dev_ap (a b : FVec Ideal S1024x1 .f32) (n : Fin 1024) : dev a b (ix2 n 0)
    = (dist a (ix2 n 0) - dist b (ix2 n 0)) * (dist a (ix2 n 0) - dist b (ix2 n 0)) := by
  unfold dev
  pointwise

theorem positive_ap (d w : FVec Ideal S1024x256 .f32) (D W : Fin 1024 → Fin 256 → ℝ) (hd : ∀ n c, d (ix2 n c) = (D n c : EReal))
    (hw : ∀ n c, w (ix2 n c) = (W n c : EReal)) (n : Fin 1024) :
    positive d w (ix2 n 0) = ((Masked.far (sim (D n) (W n)) : ℝ) : EReal) := by
  unfold positive rowSum kc
  pointwise
  simp only [hd, hw, Consts.eps, Consts.c2, ← EReal.coe_mul, esum, ← EReal.coe_sub, emax]
  rw [esqrt (le_max_of_le_left Consts.ε_pos.le), max_comm]
  unfold Masked.far sim
  congr 4
  ring

theorem sims_ap (a b : FVec Ideal S1024x256 .f32) (A B : Fin 1024 → Fin 256 → ℝ) (ha : ∀ n c, a (ix2 n c) = (A n c : EReal))
    (hb : ∀ n c, b (ix2 n c) = (B n c : EReal)) (n m : Fin 1024) :
    sims a b (ix2 n m) = ((2 * sim (A n) (B m) : ℝ) : EReal) := by
  unfold sims kc
  pointwise
  simp only [ha, hb, Consts.cn2, ← EReal.coe_mul, esum]
  congr 1
  unfold sim
  rw [mul_neg, ← neg_mul, Finset.mul_sum]
  refine Finset.sum_congr rfl fun c _ => ?_
  ring

theorem pushed_ap (k : IVec S8x128x1024 1) (μ : Fin 1024 → Fin 1024 → Prop) [∀ n, DecidablePred (μ n)]
    (hk : ∀ i j m, k (ix3 i j m) = BitVec.ofBool (decide (μ (pk i j) m)))
    (x : FVec Ideal S1024x1024 .f32) (s : Fin 1024 → Fin 1024 → ℝ) (hx : ∀ n m, x (ix2 n m) = ((2 * s n m : ℝ) : EReal))
    (n m : Fin 1024) : pushed k x (ix2 n m) = Masked.key (μ n) (s n) m := by
  have e : pk ⟨n.val / 128, by omega⟩ ⟨n.val % 128, by omega⟩ = n := Fin.ext (by show n.val / 128 * 128 + n.val % 128 = n.val; omega)
  unfold pushed kc
  pointwise
  rw [hk, sel, hx, Consts.c1e6, e]
  unfold Masked.key
  by_cases h : μ n m
  · simp [h]
  · simp [h]

theorem nearPts_ap (px py : FVec Ideal S8x128 .f32) (rx ry : FVec Ideal S1x1024 .f32) (x y : Fin 1024 → ℝ)
    (hpx : ∀ i j, px (ix2 i j) = (x (pk i j) : EReal)) (hpy : ∀ i j, py (ix2 i j) = (y (pk i j) : EReal))
    (hrx : ∀ n, rx (ix2 0 n) = (x n : EReal)) (hry : ∀ n, ry (ix2 0 n) = (y n : EReal)) (i : Fin 8) (j : Fin 128)
    (m : Fin 1024) : nearPts px py rx ry (ix3 i j m)
      = BitVec.ofBool (decide (within (x (pk i j)) (y (pk i j)) (x m) (y m))) := by
  unfold nearPts kc overC overP
  pointwise
  have hk : (Named.named (F := Ideal) κ "radius2" (φ := .f32) 0x44012245#32 : EReal) = ((Consts.B * Consts.B : ℝ) : EReal) := by
    rw [Consts.B_sq]
    rfl
  rw [hk]
  simp only [hpx, hpy, hrx, hry, Consts.eps, ← EReal.coe_sub, ← EReal.coe_mul, ← EReal.coe_add, EReal.coe_le_coe_iff]
  unfold within
  congr 1

theorem normed_ap (x : FVec Ideal S1024x256 .f32) (X : Fin 1024 → Fin 256 → ℝ) (hx : ∀ n c, x (ix2 n c) = (X n c : EReal))
    (n : Fin 1024) (c : Fin 256) : normed x (ix2 n c) = ((unitv (X n) c : ℝ) : EReal) := by
  unfold normed rowSum kc
  pointwise
  simp only [hx, Consts.eps, ← EReal.coe_mul, esum]
  rw [esqrt (Finset.sum_nonneg fun k _ => mul_self_nonneg _), ← EReal.coe_add, ediv _ (unitv_den _).ne']
  rfl

/-! ### Sampling -/

theorem unit_ap (p : ℝ) : min (Ideal.ofBits FTy.f32 1106771968#32) (max 0 ((p : EReal) * Ideal.ofBits FTy.f32 1031798784#32
    - Ideal.ofBits FTy.f32 1056964608#32)) = ((unit p : ℝ) : EReal) := by
  rw [Consts.c31, Consts.i16, Consts.half, ← EReal.coe_mul, ← EReal.coe_sub, zero_coe, emax, emin, min_comm, max_comm]
  unfold unit
  congr 4
  ring

theorem lo_ap (p : ℝ) : Ideal.liftRound Int.floor ((unit p : ℝ) : EReal) = ((lo p : ℝ) : EReal) := by
  rw [Ideal.liftRound_coe, ← floor_unit]

theorem up_ap (p : ℝ) : min (((lo p : ℝ) : EReal) + 1) (Ideal.ofBits FTy.f32 1106771968#32) = ((up p : ℝ) : EReal) := by
  rw [Consts.c31, one_coe, ← EReal.coe_add, emin]
  unfold up
  push_cast
  rfl

theorem num_ap {x : ℕ} (hx : x < 1024) : (FloatOps.sitofp FTy.f32 (BitVec.ofNat 32 x) : Ideal .f32) = Near.num x := by
  have : (BitVec.ofNat 32 x).toInt = (x : ℤ) := by
    rw [BitVec.toInt_eq_toNat_of_lt (by rw [BitVec.toNat_ofNat]; omega), BitVec.toNat_ofNat]
    omega
  show ((((BitVec.ofNat 32 x).toInt : ℤ) : ℝ) : EReal) = _
  rw [this]
  unfold Near.num
  push_cast
  rfl

theorem ind_ap (b : Prop) [Decidable b] : (FloatOps.sitofp FTy.f32 (BitVec.setWidth 32 (BitVec.ofBool (decide b))) : Ideal .f32)
    = ((if b then 1 else 0 : ℝ) : EReal) := by
  show ((((BitVec.setWidth 32 (BitVec.ofBool (decide b))).toInt : ℤ) : ℝ) : EReal) = _
  by_cases h : b <;> simp [h]

theorem row_ap (x : ℕ) : Ideal.liftRound Int.floor (Near.num x * Ideal.ofBits FTy.f32 1023410176#32) = Near.num (x / 32) := by
  unfold Near.num
  rw [Consts.i32, ← EReal.coe_mul, Ideal.liftRound_coe]
  have : ⌊(x : ℝ) * (1 / 32)⌋ = ((x / 32 : ℕ) : ℤ) := by
    have e : (32 : ℝ) * ((x / 32 : ℕ) : ℝ) + ((x % 32 : ℕ) : ℝ) = x := by exact_mod_cast Nat.div_add_mod x 32
    have l : ((x % 32 : ℕ) : ℝ) < 32 := by exact_mod_cast Nat.mod_lt x (by norm_num)
    have g : (0 : ℝ) ≤ ((x % 32 : ℕ) : ℝ) := Nat.cast_nonneg _
    rw [Int.floor_eq_iff]
    constructor
    · rw [Int.cast_natCast]; linarith
    · rw [Int.cast_natCast]; linarith
  rw [this]
  norm_cast

theorem col_ap (x : ℕ) : Near.num x - Ideal.ofBits FTy.f32 1107296256#32 * Near.num (x / 32) = Near.num (x % 32) := by
  unfold Near.num
  rw [Consts.c32, ← EReal.coe_mul, ← EReal.coe_sub]
  congr 1
  have := Nat.div_add_mod x 32
  have : (32 : ℝ) * ((x / 32 : ℕ) : ℝ) + ((x % 32 : ℕ) : ℝ) = x := by exact_mod_cast this
  linarith

theorem num_coe (a b : ℕ) : Near.num a = ((b : ℝ) : EReal) ↔ a = b := by
  unfold Near.num
  rw [EReal.coe_eq_coe_iff, Nat.cast_inj]

theorem sample_ap (px py : FVec Ideal S8x128 .f32) (d : FVec Ideal S1024x256 .f32) (x y : Fin 1024 → ℝ)
    (e : Fin 1024 → Fin 256 → ℝ) (hpx : ∀ i j, px (ix2 i j) = (x (pk i j) : EReal))
    (hpy : ∀ i j, py (ix2 i j) = (y (pk i j) : EReal)) (hd : ∀ n c, d (ix2 n c) = (e n c : EReal)) (n : Fin 1024) (c : Fin 256) :
    sample px py d (ix2 n c) = ((interp (x n) (y n) (fun m => e m c) : ℝ) : EReal) := by
  have h : pk ⟨n.val / 128, by omega⟩ ⟨n.val % 128, by omega⟩ = n := Fin.ext (by show n.val / 128 * 128 + n.val % 128 = n.val; omega)
  unfold sample weight ind overP overC unitC nextC cellJ cellI cols3 kc
  pointwise
  refine Eq.trans (Finset.sum_congr rfl fun m _ => ?_)
    (by rw [← interp_eq, ← esum] : (∑ m : Fin 1024, ((wt (y n) (m.val / 32) * wt (x n) (m.val % 32) * e m c : ℝ) : EReal)) = _)
  rw [hpx, hpy, h, num_ap m.isLt, row_ap, col_ap, unit_ap, unit_ap, lo_ap, lo_ap, up_ap, up_ap, ind_ap, ind_ap, ind_ap, ind_ap, hd, one_coe]
  simp only [num_coe, ← EReal.coe_sub, ← EReal.coe_mul, ← EReal.coe_add]
  rfl

/-! ### The mask of the cells -/

theorem cellmask_ap (f : FVec Ideal S8x128 .f32) (i : Fin 8) (j : Fin 128) (m : Fin 1024) :
    (cmpf .oeq (overP (F := Ideal) cols3) (overC (shapeCast S8x128x1 f shapeCasts_S8x128_S8x128x1))) (ix3 i j m) = 1#1
      ↔ f (ix2 i j) = Near.num m := by
  unfold overP overC cols3
  pointwise
  rw [num_ap m.isLt]
  rw [eq_comm (a := f (ix2 i j))]
  generalize Near.num m.val = u
  by_cases h : u = f (ix2 i j)
  · simp [h]
  · simp [h]

theorem ors_iff (k : S8x128x1024.Idx) : ∀ l : List (IVec S8x128x1024 1), (∃ a ∈ ors l, a k = 1#1) ↔ ∃ a ∈ l, a k = 1#1
  | [] => by simp [ors]
  | [a] => by simp [ors]
  | a :: b :: l => by
    have h : (ori a b) k = 1#1 ↔ a k = 1#1 ∨ b k = 1#1 := by
      show a k ||| b k = 1#1 ↔ _
      generalize a k = u
      generalize b k = v
      revert u v
      decide
    simp only [ors, List.mem_cons, exists_eq_or_imp, ors_iff k l, h]
    tauto

theorem ors_length : ∀ l : List (IVec S8x128x1024 1), (ors l).length = (l.length + 1) / 2
  | [] => by simp [ors]
  | [a] => by simp [ors]
  | a :: b :: l => by
    simp only [ors, List.length_cons, ors_length l]
    omega

theorem hdM_iff (k : S8x128x1024.Idx) (l : List (IVec S8x128x1024 1)) (h : l.length = 1) : hdM l k = 1#1 ↔ ∃ a ∈ l, a k = 1#1 := by
  obtain ⟨a, rfl⟩ := List.length_eq_one_iff.mp h
  simp [hdM]

theorem lin_ap (a b c : ℝ) (f : FVec Ideal S8x128 .f32) (i : Fin 8) (j : Fin 128) (m : ℕ) (hf : f (ix2 i j) = Near.num m) :
    lin (F := Ideal) (a : EReal) (b : EReal) (c : EReal) f (ix2 i j) = ((a * cx m + b * cy m + c : ℝ) : EReal) := by
  unfold lin cxOf cyOf rowOf kc
  pointwise
  rw [hf, row_ap, col_ap, Consts.half, Consts.c16]
  unfold Near.num cx cy
  simp only [← EReal.coe_mul, ← EReal.coe_add]

theorem ids16_iff (h : ℕ → EReal) (H : Fin 3 → Fin 3 → ℝ) (hh : ∀ i j : Fin 3, h (3 * i.val + j.val) = (H i j : EReal))
    (hw : ∀ m : Fin 1024, wd H m ≠ 0)
    (px py : FVec Ideal S8x128 .f32) (i : Fin 8) (j : Fin 128) (x y : ℝ) (hx : px (ix2 i j) = (x : EReal)) (hy : py (ix2 i j) = (y : EReal))
    (m : Fin 1024) : (∃ f ∈ ids16 (F := Ideal) h px py, f (ix2 i j) = Near.num m) ↔ near H x y m := by
  have key : ∀ f : FVec Ideal S8x128 .f32, ∀ c : Fin 1024, f (ix2 i j) = Near.num c →
      ((∃ g ∈ warp4 (F := Ideal) h f, g (ix2 i j) = Near.num m) ↔ Near.rank (sq (wx H c) (wy H c)) m < 4) := by
    intro f c hf
    have e0 := hh 0 0
    have e1 := hh 0 1
    have e2 := hh 0 2
    have e3 := hh 1 0
    have e4 := hh 1 1
    have e5 := hh 1 2
    have e6 := hh 2 0
    have e7 := hh 2 1
    have e8 := hh 2 2
    have d : (addf (lin (F := Ideal) (h 6) (h 7) (h 8) f) (kc S8x128 0x322BCC77#32)) (ix2 i j) = ((wd H c : ℝ) : EReal) := by
      show lin (F := Ideal) (h 6) (h 7) (h 8) f (ix2 i j) + Ideal.ofBits .f32 0x322BCC77#32 = _
      rw [show h 6 = _ from e6, show h 7 = _ from e7, show h 8 = _ from e8, lin_ap _ _ _ f i j c hf, Consts.eps, ← EReal.coe_add]
      rfl
    unfold warp4
    rw [top4_iff (ix2 i j) _ _ (wx H c) (wy H c)]
    · constructor
      · rintro ⟨m', h1, h2⟩
        rwa [show m = m' from Fin.ext (Near.num_inj h2)]
      · intro h1
        exact ⟨m, h1, rfl⟩
    · show Ideal.div (lin (F := Ideal) (h 0) (h 1) (h 2) f (ix2 i j)) _ = _
      rw [d, show h 0 = _ from e0, show h 1 = _ from e1, show h 2 = _ from e2, lin_ap _ _ _ f i j c hf, ediv _ (hw c)]
      rfl
    · show Ideal.div (lin (F := Ideal) (h 3) (h 4) (h 5) f (ix2 i j)) _ = _
      rw [d, show h 3 = _ from e3, show h 4 = _ from e4, show h 5 = _ from e5, lin_ap _ _ _ f i j c hf, ediv _ (hw c)]
      rfl
  unfold ids16
  constructor
  · rintro ⟨g, hg, hm⟩
    obtain ⟨f, hf, hg⟩ := List.mem_flatMap.mp hg
    obtain ⟨c, hc, hv⟩ := (top4_iff (ix2 i j) px py x y hx hy _).mp ⟨f, hf, rfl⟩
    exact ⟨c, hc, (key f c hv).mp ⟨g, hg, hm⟩⟩
  · rintro ⟨c, hc, hm⟩
    obtain ⟨f, hf, hv⟩ := (top4_iff (ix2 i j) px py x y hx hy _).mpr ⟨c, hc, rfl⟩
    obtain ⟨g, hg, hm⟩ := (key f c hv).mpr hm
    exact ⟨g, List.mem_flatMap.mpr ⟨f, hf, hg⟩, hm⟩

theorem nearMask_ap (h : ℕ → EReal) (H : Fin 3 → Fin 3 → ℝ) (hh : ∀ i j : Fin 3, h (3 * i.val + j.val) = (H i j : EReal))
    (hw : ∀ m : Fin 1024, wd H m ≠ 0) (px py : FVec Ideal S8x128 .f32) (x y : Fin 1024 → ℝ)
    (hpx : ∀ i j, px (ix2 i j) = (x (pk i j) : EReal)) (hpy : ∀ i j, py (ix2 i j) = (y (pk i j) : EReal))
    (i : Fin 8) (j : Fin 128) (m : Fin 1024) :
    nearMask (F := Ideal) h px py (ix3 i j m) = BitVec.ofBool (decide (near H (x (pk i j)) (y (pk i j)) m)) := by
  have hl : (ids16 (F := Ideal) h px py).length = 16 := by
    unfold ids16
    rw [List.length_flatMap]
    rfl
  have : nearMask (F := Ideal) h px py (ix3 i j m) = 1#1 ↔ near H (x (pk i j)) (y (pk i j)) m := by
    rw [← ids16_iff h H hh hw px py i j _ _ (hpx i j) (hpy i j) m]
    unfold nearMask
    rw [hdM_iff, ors_iff, ors_iff, ors_iff, ors_iff]
    · simp only [List.mem_map, exists_exists_and_eq_and, cellmask_ap]
    · simp only [ors_length, List.length_map, hl]
  by_cases hn : near H (x (pk i j)) (y (pk i j)) m
  · rw [this.mpr hn]
    simp [hn]
  · have h1 := mt this.mp hn
    revert h1
    generalize nearMask (F := Ideal) h px py (ix3 i j m) = v
    simp only [hn]
    revert v
    decide

end Cert.Model
-- ==== Proof.TopK.lean ====
/- The host's top-k along the last of three axes: each entry named by its position, whose place in the order (greatest
   first, equal ones by position) is the entry's rank. -/
module

public import Idealize.ShloMosaic.Lib.SortFacts
public import proofs.«01_k».proof.Proof.Rank

@[expose] public section

noncomputable section

namespace Cert.TopK

open Idealize.ShloMosaic

section
variable {n : ℕ} (f : Fin n → EReal)

/-- `a` comes before `b`: its value is greater, or the same at a smaller position. -/
def Lex (a b : Fin n) : Prop := f b < f a ∨ (f a = f b ∧ a < b)

instance (a b : Fin n) : Decidable (Lex f a b) := by unfold Lex; infer_instance

theorem Lex.trans {a b c : Fin n} (h : Lex f a b) (h' : Lex f b c) : Lex f a c := by
  rcases h with h | ⟨h, k⟩ <;> rcases h' with h' | ⟨h', k'⟩
  · exact .inl (h'.trans h)
  · exact .inl (h' ▸ h)
  · exact .inl (h ▸ h')
  · exact .inr ⟨h.trans h', k.trans k'⟩

theorem Lex.asymm {a b : Fin n} (h : Lex f a b) : ¬Lex f b a := by
  intro h'
  rcases h.trans f h' with h | ⟨_, k⟩
  · exact lt_irrefl _ h
  · exact lt_irrefl _ k

theorem insert_lex (R : Fin n → Fin n → Bool) (hR : ∀ a b, R a b = true ↔ f b < f a) (a : Fin n) (l : List (Fin n))
    (ha : ∀ b ∈ l, a < b) (hl : l.Pairwise (Lex f)) : (insertBefore R a l).Pairwise (Lex f) := by
  induction l with
  | nil => exact List.pairwise_singleton _ _
  | cons b l ih =>
    rw [List.pairwise_cons] at hl
    unfold insertBefore
    split
    · rename_i hb
      rw [List.pairwise_cons]
      refine ⟨fun c hc => ?_, ih (fun c hc => ha c (List.mem_cons_of_mem _ hc)) hl.2⟩
      rcases List.mem_cons.mp ((perm_insertBefore R a l).mem_iff.mp hc) with rfl | hc
      · exact .inl ((hR _ _).mp hb)
      · exact hl.1 c hc
    · rename_i hb
      have hab : Lex f a b := by
        rcases lt_or_eq_of_le (not_lt.mp fun h => hb ((hR _ _).mpr h)) with h | h
        · exact .inl h
        · exact .inr ⟨h.symm, ha b List.mem_cons_self⟩
      rw [List.pairwise_cons, List.pairwise_cons]
      refine ⟨fun c hc => ?_, hl⟩
      rcases List.mem_cons.mp hc with rfl | hc
      · exact hab
      · exact hab.trans f (hl.1 c hc)

theorem sort_lex (R : Fin n → Fin n → Bool) (hR : ∀ a b, R a b = true ↔ f b < f a) (l : List (Fin n))
    (hl : l.Pairwise (· < ·)) : (stableSort R l).Pairwise (Lex f) := by
  induction l with
  | nil => exact List.Pairwise.nil
  | cons a l ih =>
    rw [List.pairwise_cons] at hl
    exact insert_lex f R hR a _ (fun b hb => hl.1 b ((perm_stableSort R l).mem_iff.mp hb)) (ih hl.2)

theorem sorted_lex (R : Fin n → Fin n → Bool) (hR : ∀ a b, R a b = true ↔ f b < f a) {i j : Fin n} (h : i < j) :
    Lex f (sortedFrom R i) (sortedFrom R j) :=
  List.pairwise_iff_get.mp (sort_lex f R hR _ (List.pairwise_lt_finRange n)) _ _ h

/-- The place of the position a sort puts at `t` is `t`. -/
theorem card_lex (R : Fin n → Fin n → Bool) (hR : ∀ a b, R a b = true ↔ f b < f a) (t : Fin n) :
    (Finset.univ.filter fun m => Lex f m (sortedFrom R t)).card = t := by
  have h : (Finset.univ.filter fun m => Lex f m (sortedFrom R t))
      = (Finset.univ.filter fun s : Fin n => s < t).map ⟨sortedFrom R, sortedFrom_injective R⟩ := by
    ext m
    obtain ⟨s, rfl⟩ := sortedFrom_surjective R m
    simp only [Finset.mem_filter, Finset.mem_univ, true_and, Finset.mem_map, Function.Embedding.coeFn_mk]
    constructor
    · intro h
      refine ⟨s, ?_, rfl⟩
      rcases lt_trichotomy s t with h1 | h1 | h1
      · exact h1
      · subst h1; exact absurd h (h.asymm f)
      · exact absurd (sorted_lex f R hR h1) (h.asymm f)
    · rintro ⟨s', h, e⟩
      rw [← e]
      exact sorted_lex f R hR h
  rw [h, Finset.card_map]
  have : (Finset.univ.filter fun s : Fin n => s < t) = Finset.Iio t := by ext; simp
  rw [this, Fin.card_Iio]

end

/-- The top-k of the last of three axes, entry by entry. -/
theorem topK_apply {p q n k : ℕ} (x : FVec Ideal ⟨3, ![p, q, n]⟩ .f32)
    (h : (⟨3, ![p, q, n]⟩ : Shape).Slices (fun _ => 0) ⟨3, ![p, q, k]⟩) (b : Fin p) (i : Fin q) (t : Fin k) :
    ∃ m : Fin n, (Host.topK ⟨3, ![p, q, k]⟩ 2 (FloatOps.cmpfTotal (F := Ideal) .gt) x h).1 (ix3 b i t) = x (ix3 b i m)
      ∧ (Host.topK ⟨3, ![p, q, k]⟩ 2 (FloatOps.cmpfTotal (F := Ideal) .gt) x h).2 (ix3 b i t) = BitVec.ofNat 32 m.val
      ∧ (Finset.univ.filter fun m' => Lex (fun m => x (ix3 b i m)) m' m).card = t.val := by
  have hk : t.val < n := by
    have := h.2 2
    have h2 := t.isLt
    simp at this
    omega
  have ha : ∀ (j : (⟨3, ![p, q, n]⟩ : Shape).Idx) (m : Fin n) , j 0 = b → j 1 = i → j.along 2 m = ix3 b i m := by
    intro j m h0 h1
    funext a
    match a with
    | ⟨0, _⟩ => exact h0
    | ⟨1, _⟩ => exact h1
    | ⟨2, _⟩ => rfl
  let j : (⟨3, ![p, q, n]⟩ : Shape).Idx := ix3 b i ⟨t, hk⟩
  let R : Fin n → Fin n → Bool := fun k k' =>
    FloatOps.cmpfTotal (F := Ideal) (φ := .f32) .gt (x (j.along 2 k)) (x (j.along 2 k')) == 1#1
  have hR : ∀ a c, R a c = true ↔ x (ix3 b i c) < x (ix3 b i a) := by
    intro a c
    show ((Ideal.cmpTotal .gt (x (j.along 2 a)) (x (j.along 2 c)) : BitVec 1) == 1#1) = true ↔ _
    rw [ha j a rfl rfl, ha j c rfl rfl]
    by_cases hlt : x (ix3 b i c) < x (ix3 b i a) <;> simp [Ideal.cmpTotal, Ideal.cmp, CmpDirection.ordered, hlt]
  have hs : ∀ {α : Type} (y : (⟨3, ![p, q, n]⟩ : Shape).Idx → α),
      extractStridedSlice ⟨3, ![p, q, k]⟩ (fun _ => 0) y h (ix3 b i t) = y j := by
    intro α y
    unfold extractStridedSlice
    congr 1
    funext a
    apply Fin.ext
    match a with
    | ⟨0, _⟩ => exact Nat.zero_add _
    | ⟨1, _⟩ => exact Nat.zero_add _
    | ⟨2, _⟩ => exact Nat.zero_add _
  refine ⟨sortedFrom R ⟨t, hk⟩, ?_, ?_, ?_⟩
  · rw [← ha j _ rfl rfl]
    unfold Host.topK
    dsimp only
    refine (hs _).trans ?_
    unfold Host.sort2
    rw [dif_pos (by decide : 2 < 3)]
    rfl
  · unfold Host.topK
    dsimp only
    refine (hs _).trans ?_
    unfold Host.sort2
    rw [dif_pos (by decide : 2 < 3)]
    rfl
  · exact card_lex (fun m => x (ix3 b i m)) R hR ⟨t, hk⟩

end Cert.TopK
-- ==== Proof.RefGather.lean ====
/- The reference's gathers at in-range indices. -/
module

public import proofs.«01_k».proof.Proof.KSem
public import proofs.«01_k».proof.Proof.TopK
public import proofs.«01_k».proof.Proof.Gen.ReferenceIdeal.Read

@[expose] public section

noncomputable section

namespace Cert.RefSem

open Idealize.ShloMosaic Cert.ReferenceIdeal Cert.ReferenceIdeal.Read

theorem word_start {m : ℕ} (h : m < 1024) : min ((BitVec.ofNat 32 m).toInt).toNat (1024 - 1) = m := by
  rw [BitVec.toInt_eq_toNat_of_lt (by rw [BitVec.toNat_ofNat]; omega), BitVec.toNat_ofNat]
  omega

/-- A gather of rows of a matrix per batch, one row per point. -/
theorem gather_rows {α : Type} (x : S2x1024x256.Idx → α) (idx : IVec S2x1024x1 32) (b : Fin 2) (n : Fin 1024) (c : Fin 256)
    (m : Fin 1024) (h : idx (ix3 b n 0) = BitVec.ofNat 32 m.val) :
    Host.gather gather_S2x1024x256_S2x1024x1_S2x1024x256_2_1_0_0_1_2_11256 x idx (ix3 b n c) = x (ix3 b m c) := by
  unfold Host.gather
  refine congrArg x (funext fun a => Fin.ext ?_)
  match a with
  | ⟨0, _⟩ => exact (Nat.zero_add _).trans rfl
  | ⟨1, _⟩ =>
    refine Eq.trans (b := min (idx (ix3 b n 0)).toInt.toNat (1024 - 1)) ?_ (by rw [h, word_start m.isLt]; rfl)
    refine Eq.trans (b := min (idx (GatherDims.siIdx gather_S2x1024x256_S2x1024x1_S2x1024x256_2_1_0_0_1_2_11256 (ix3 b n c) ⟨0, by decide⟩)).toInt.toNat (1024 - 1)) rfl ?_
    congr 4
    funext k
    match k with
    | ⟨0, _⟩ => rfl
    | ⟨1, _⟩ => rfl
    | ⟨2, _⟩ => rfl
  | ⟨2, _⟩ => exact (Nat.zero_add _).trans rfl

/-- A gather of rows of a matrix per batch, eight rows per point. -/
theorem gather_rows8 {α : Type} (x : S2x1024x256.Idx → α) (idx : IVec S2x1024x8x1 32) (b : Fin 2) (n : Fin 1024) (t : Fin 8) (c : Fin 256)
    (m : Fin 1024) (h : idx (ix4 b n t 0) = BitVec.ofNat 32 m.val) :
    Host.gather gather_S2x1024x256_S2x1024x8x1_S2x1024x8x256_3_1_0_0_1_3_11256 x idx (ix4 b n t c) = x (ix3 b m c) := by
  unfold Host.gather
  refine congrArg x (funext fun a => Fin.ext ?_)
  match a with
  | ⟨0, _⟩ => exact (Nat.zero_add _).trans rfl
  | ⟨1, _⟩ =>
    refine Eq.trans (b := min (idx (ix4 b n t 0)).toInt.toNat (1024 - 1)) ?_ (by rw [h, word_start m.isLt]; rfl)
    refine Eq.trans (b := min (idx (GatherDims.siIdx gather_S2x1024x256_S2x1024x8x1_S2x1024x8x256_3_1_0_0_1_3_11256 (ix4 b n t c) ⟨0, by decide⟩)).toInt.toNat (1024 - 1)) rfl ?_
    congr 4
    funext k
    match k with
    | ⟨0, _⟩ => rfl
    | ⟨1, _⟩ => rfl
    | ⟨2, _⟩ => rfl
    | ⟨3, _⟩ => rfl
  | ⟨2, _⟩ => exact (Nat.zero_add _).trans rfl

/-- A gather of rows of one table for both batches. -/
theorem gather_table {α : Type} (x : S1024x2.Idx → α) (idx : IVec S2x4096x1 32) (b : Fin 2) (n : Fin 4096) (c : Fin 2)
    (m : Fin 1024) (h : idx (ix3 b n 0) = BitVec.ofNat 32 m.val) :
    Host.gather gather_S1024x2_S2x4096x1_S2x4096x2_2_0_n_n_0_2_12 x idx (ix3 b n c) = x (ix2 m c) := by
  unfold Host.gather
  refine congrArg x (funext fun a => Fin.ext ?_)
  match a with
  | ⟨0, _⟩ =>
    refine Eq.trans (b := min (idx (ix3 b n 0)).toInt.toNat (1024 - 1)) ?_ (by rw [h, word_start m.isLt]; rfl)
    refine Eq.trans (b := min (idx (GatherDims.siIdx gather_S1024x2_S2x4096x1_S2x4096x2_2_0_n_n_0_2_12 (ix3 b n c) ⟨0, by decide⟩)).toInt.toNat (1024 - 1)) rfl ?_
    congr 4
    funext k
    match k with
    | ⟨0, _⟩ => rfl
    | ⟨1, _⟩ => rfl
    | ⟨2, _⟩ => rfl
  | ⟨1, _⟩ => exact (Nat.zero_add _).trans rfl

end Cert.RefSem
-- ==== Proof.RefA.lean ====
/- The reference's sampled and normalised descriptors. -/
module

public import proofs.«01_k».proof.Proof.RefGather

@[expose] public section

noncomputable section

namespace Cert.RefSem

open Idealize.ShloMosaic Cert.ReferenceIdeal Cert.ReferenceIdeal.Read Cert.Spec

/-- The row and the column of a cell. -/
abbrev rowC (n : Fin 1024) : Fin 32 := ⟨n.val / 32, by omega⟩
@[inherit_doc rowC]
abbrev colC (n : Fin 1024) : Fin 32 := ⟨n.val % 32, by omega⟩

theorem toWord {k : ℕ} (hk : k < 1024) : (FloatOps.fptosi (F := Ideal) (φ := .f32) 32 ((k : ℝ) : EReal) : BitVec 32) = BitVec.ofNat 32 k := by
  show Ideal.fptosi 32 ((k : ℝ) : EReal) = _
  unfold Ideal.fptosi
  refine (congrArg (BitVec.ofInt 32) (?_ : _ = (k : ℤ))).trans (BitVec.ofInt_natCast ..)
  show max _ (min _ (if 0 ≤ (k : ℝ) then ⌊(k : ℝ)⌋ else ⌈(k : ℝ)⌉)) = _
  rw [if_pos (Nat.cast_nonneg k), Int.floor_natCast]
  omega

theorem cellWord {y x : ℕ} (hy : y ≤ 31) (hx : x ≤ 31) :
    IntOp.addi (IntOp.muli (FloatOps.fptosi (F := Ideal) (φ := .f32) 32 ((y : ℝ) : EReal)) 32#32) (FloatOps.fptosi (F := Ideal) (φ := .f32) 32 ((x : ℝ) : EReal))
      = BitVec.ofNat 32 (cell y x).val := by
  rw [toWord (by omega), toWord (by omega)]
  show BitVec.ofNat 32 y * 32#32 + BitVec.ofNat 32 x = _
  apply BitVec.eq_of_toNat_eq
  simp only [BitVec.toNat_add, BitVec.toNat_mul, BitVec.toNat_ofNat, cell]
  omega

theorem unit_coe (p : ℝ) : min (max (Ideal.div (p : EReal) (Ideal.ofBits FTy.f32 1098907648#32) - Ideal.ofBits FTy.f32 1056964608#32) 0)
    (Ideal.ofBits FTy.f32 1106771968#32) = ((unit p : ℝ) : EReal) := by
  rw [Consts.c16, Consts.c31, Consts.half, ediv _ (by norm_num), ← EReal.coe_sub, zero_coe, emax, emin]
  rfl

section
variable (x1 : FVec Ideal S2x1024x2 .f32) (X1 : Fin 2 → Fin 1024 → Fin 2 → ℝ) (h1 : ∀ b n a, x1 (ix3 b n a) = (X1 b n a : EReal))
  (x3 : FVec Ideal S2x256x32x32 .f32) (X3 : Fin 2 → Fin 1024 → Fin 256 → ℝ)
  (h3 : ∀ b n c, x3 (ix4 b c (rowC n) (colC n)) = (X3 b n c : EReal))
include h1

theorem v11_eq (b : Fin 2) (n : Fin 1024) : val_main_v11 (F := Ideal) x1 (ix2 b n) = ((unit (X1 b n 0) : ℝ) : EReal) := by
  unfold val_main_v11 val_main_v10 val_main_cst_2 val_main_v9 val_main_v8 val_main_cst_1 val_main_v7 val_main_v6
        val_main_cst_0 val_main_v5 val_main_v4 val_main_cst val_main_v3 val_main_v2
  pointwise
  rw [h1, unit_coe]

theorem v21_eq (b : Fin 2) (n : Fin 1024) : val_main_v21 (F := Ideal) x1 (ix2 b n) = ((unit (X1 b n 1) : ℝ) : EReal) := by
  unfold val_main_v21 val_main_v20 val_main_cst_6 val_main_v19 val_main_v18 val_main_cst_5 val_main_v17 val_main_v16
        val_main_cst_4 val_main_v15 val_main_v14 val_main_cst_3 val_main_v13 val_main_v12
  pointwise
  rw [h1, unit_coe]

theorem v22_eq (b : Fin 2) (n : Fin 1024) : val_main_v22 (F := Ideal) x1 (ix2 b n) = ((lo (X1 b n 0) : ℝ) : EReal) := by
  unfold val_main_v22
  pointwise
  rw [v11_eq x1 X1 h1, Model.lo_ap]

theorem v23_eq (b : Fin 2) (n : Fin 1024) : val_main_v23 (F := Ideal) x1 (ix2 b n) = ((lo (X1 b n 1) : ℝ) : EReal) := by
  unfold val_main_v23
  pointwise
  rw [v21_eq x1 X1 h1, Model.lo_ap]

theorem v27_eq (b : Fin 2) (n : Fin 1024) : val_main_v27 (F := Ideal) x1 (ix2 b n) = ((up (X1 b n 0) : ℝ) : EReal) := by
  unfold val_main_v27 val_main_v26 val_main_cst_8 val_main_v25 val_main_v24 val_main_cst_7
  pointwise
  rw [v22_eq x1 X1 h1, Model.up_ap]

theorem v31_eq (b : Fin 2) (n : Fin 1024) : val_main_v31 (F := Ideal) x1 (ix2 b n) = ((up (X1 b n 1) : ℝ) : EReal) := by
  unfold val_main_v31 val_main_v30 val_main_cst_10 val_main_v29 val_main_v28 val_main_cst_9
  pointwise
  rw [v23_eq x1 X1 h1, Model.up_ap]

include h3 in
omit h1 in
theorem v1_eq (b : Fin 2) (n : Fin 1024) (c : Fin 256) : val_main_v1 (F := Ideal) x3 (ix3 b n c) = (X3 b n c : EReal) := by
  unfold val_main_v1 val_main_v0
  pointwise
  exact h3 b n c

include h3

theorem v42_eq (b : Fin 2) (n : Fin 1024) (c : Fin 256) :
    val_main_v42 (F := Ideal) x1 x3 (ix3 b n c) = (X3 b (cell (lo (X1 b n 1)) (lo (X1 b n 0))) c : EReal) := by
  unfold val_main_v42
  rw [gather_rows _ _ b n c (cell (lo (X1 b n 1)) (lo (X1 b n 0))), v1_eq x3 X3 h3]
  unfold val_main_v41 val_main_v40 val_main_v39 val_main_v38 val_main_v37 val_main_c val_main_v36
  pointwise
  rw [v22_eq x1 X1 h1, v23_eq x1 X1 h1, cellWord (lo_le _) (lo_le _)]

theorem v57_eq (b : Fin 2) (n : Fin 1024) (c : Fin 256) :
    val_main_v57 (F := Ideal) x1 x3 (ix3 b n c) = (X3 b (cell (lo (X1 b n 1)) (up (X1 b n 0))) c : EReal) := by
  unfold val_main_v57
  rw [gather_rows _ _ b n c (cell (lo (X1 b n 1)) (up (X1 b n 0))), v1_eq x3 X3 h3]
  unfold val_main_v56 val_main_v55 val_main_v54 val_main_v53 val_main_v52 val_main_c_13 val_main_v51
  pointwise
  rw [v27_eq x1 X1 h1, v23_eq x1 X1 h1, cellWord (lo_le _) (up_le _)]

theorem v71_eq (b : Fin 2) (n : Fin 1024) (c : Fin 256) :
    val_main_v71 (F := Ideal) x1 x3 (ix3 b n c) = (X3 b (cell (up (X1 b n 1)) (lo (X1 b n 0))) c : EReal) := by
  unfold val_main_v71
  rw [gather_rows _ _ b n c (cell (up (X1 b n 1)) (lo (X1 b n 0))), v1_eq x3 X3 h3]
  unfold val_main_v70 val_main_v69 val_main_v68 val_main_v67 val_main_v66 val_main_c_15 val_main_v65
  pointwise
  rw [v22_eq x1 X1 h1, v31_eq x1 X1 h1, cellWord (up_le _) (lo_le _)]

theorem v85_eq (b : Fin 2) (n : Fin 1024) (c : Fin 256) :
    val_main_v85 (F := Ideal) x1 x3 (ix3 b n c) = (X3 b (cell (up (X1 b n 1)) (up (X1 b n 0))) c : EReal) := by
  unfold val_main_v85
  rw [gather_rows _ _ b n c (cell (up (X1 b n 1)) (up (X1 b n 0))), v1_eq x3 X3 h3]
  unfold val_main_v84 val_main_v83 val_main_v82 val_main_v81 val_main_v80 val_main_c_17 val_main_v79
  pointwise
  rw [v27_eq x1 X1 h1, v31_eq x1 X1 h1, cellWord (up_le _) (up_le _)]

theorem v90_eq (b : Fin 2) (n : Fin 1024) (c : Fin 256) :
    val_main_v90 (F := Ideal) x1 x3 (ix3 b n c) = ((interp (X1 b n 0) (X1 b n 1) (fun m => X3 b m c) : ℝ) : EReal) := by
  unfold val_main_v90 val_main_v89 val_main_v88 val_main_v87 val_main_v86 val_main_v78 val_main_v77 val_main_v76
        val_main_v75 val_main_v74 val_main_cst_16 val_main_v73 val_main_v72 val_main_v64 val_main_v63 val_main_v62
        val_main_v61 val_main_v60 val_main_v59 val_main_v58 val_main_cst_14 val_main_v50 val_main_v49 val_main_v48
        val_main_v47 val_main_cst_12 val_main_v46 val_main_v45 val_main_v44 val_main_v43 val_main_cst_11 val_main_v35
        val_main_v34 val_main_v33 val_main_v32
  pointwise
  rw [v42_eq x1 X1 h1 x3 X3 h3, v57_eq x1 X1 h1 x3 X3 h3, v71_eq x1 X1 h1 x3 X3 h3, v85_eq x1 X1 h1 x3 X3 h3, v11_eq x1 X1 h1,
    v21_eq x1 X1 h1, v22_eq x1 X1 h1, v23_eq x1 X1 h1, one_coe]
  simp only [← EReal.coe_sub, ← EReal.coe_mul, ← EReal.coe_add]
  rfl

/-- The warped descriptors. -/
theorem v98_eq (b : Fin 2) (n : Fin 1024) (c : Fin 256) : val_main_v98 (F := Ideal) x1 x3 (ix3 b n c)
    = ((unitv (fun c => interp (X1 b n 0) (X1 b n 1) (fun m => X3 b m c)) c : ℝ) : EReal) := by
  unfold val_main_v98 val_main_v97 val_main_v96 val_main_v95 val_main_cst_19 val_main_v94 val_main_v93 val_main_v92
        val_main_cst_18 val_main_v91
  pointwise
  simp only [v90_eq x1 X1 h1 x3 X3 h3, Consts.eps, ← EReal.coe_mul, esum]
  rw [esqrt (Finset.sum_nonneg fun k _ => mul_self_nonneg _), ← EReal.coe_add, ediv _ (unitv_den _).ne']
  rfl

end

end Cert.RefSem
-- ==== Proof.RefB.lean ====
/- The reference's masks and its rows of distances. -/
module

public import proofs.«01_k».proof.Proof.RefA

@[expose] public section

noncomputable section

namespace Cert.TopK

/-- The greatest entries of a negated row are its least. -/
theorem isK_of_lex (y f : Fin 1024 → EReal) (hf : ∀ m, f m = -y m) (m : Fin 1024) {t : ℕ}
    (h : (Finset.univ.filter fun m' => Lex f m' m).card = t) : Rank.IsK y t (y m) := by
  have e : ∀ a b, f b < f a ↔ y a < y b := fun a b => by rw [hf, hf, EReal.neg_lt_neg_iff]
  have e' : ∀ a b, f a = f b ↔ y a = y b := fun a b => by rw [hf, hf, neg_inj]
  constructor
  · rw [Rank.below_eq_card, ← h]
    refine Finset.card_le_card fun k hk => ?_
    rw [Finset.mem_filter] at hk ⊢
    exact ⟨hk.1, .inl ((e _ _).mpr hk.2)⟩
  · rw [Rank.upTo_eq_card, ← h]
    refine Finset.card_lt_card (Finset.ssubset_iff_of_subset ?_ |>.mpr ⟨m, ?_, ?_⟩)
    · intro k hk
      rw [Finset.mem_filter] at hk ⊢
      refine ⟨hk.1, ?_⟩
      rcases hk.2 with h | ⟨h, _⟩
      · exact ((e _ _).mp h).le
      · exact ((e' _ _).mp h).le
    · rw [Finset.mem_filter]
      exact ⟨Finset.mem_univ _, le_rfl⟩
    · rw [Finset.mem_filter]
      rintro ⟨_, h⟩
      exact h.asymm f h

/-- The greatest entries of a negated row of distances are the nearest. -/
theorem rank_of_lex (s : Fin 1024 → ℝ) (hs : ∀ m, 0 ≤ s m) (f : Fin 1024 → EReal)
    (hf : ∀ m, f m = -((Real.sqrt (s m + Consts.ε) : ℝ) : EReal)) (m : Fin 1024) :
    (Finset.univ.filter fun m' => Lex f m' m).card = Near.rank s m := by
  unfold Near.rank
  congr 1
  refine Finset.filter_congr fun k _ => ?_
  have hp : ∀ m, 0 ≤ s m + Consts.ε := fun m => add_nonneg (hs m) Consts.ε_pos.le
  have e : ∀ a b, f b < f a ↔ s a < s b := fun a b => by
    rw [hf, hf, EReal.neg_lt_neg_iff, EReal.coe_lt_coe_iff, Real.sqrt_lt_sqrt_iff (hp _), add_lt_add_iff_right]
  have e' : ∀ a b, f a = f b ↔ s a = s b := fun a b => by
    rw [hf, hf, neg_inj, EReal.coe_eq_coe_iff, Real.sqrt_inj (hp _) (hp _), add_left_inj]
  unfold Lex
  rw [e, e']

end Cert.TopK

namespace Cert.RefSem

open Idealize.ShloMosaic Cert.ReferenceIdeal Cert.ReferenceIdeal.Read Cert.Spec

theorem v126_x (m : Fin 1024) : val_main_v126 (F := Ideal) (ix2 m 0) = ((cx m : ℝ) : EReal) := by
  unfold val_main_v126 val_main_v125 val_main_v124 val_main_v123 val_main_v122 val_main_cst_29 val_main_v121
        val_main_v120 val_main_cst_28 val_main_v119 val_main_v118 val_main_v117 val_main_c_27 val_main_v116
        val_main_v115 val_main_cst_26 val_main_v114 val_main_v113 val_main_cst_25 val_main_v112 val_main_v111
        val_main_v110 val_main_c_24 val_main_v109
  pointwise
  rw [show IntOp.andi (BitVec.ofNat 32 m.val) 31#32 = BitVec.ofNat 32 (m.val % 32) from ?_, Model.num_ap (by omega), Consts.half, Consts.c16]
  · unfold Near.num cx
    rw [← EReal.coe_add, ← EReal.coe_mul]
  · apply BitVec.eq_of_toNat_eq
    show (BitVec.ofNat 32 m.val &&& 31#32).toNat = _
    rw [BitVec.toNat_and, BitVec.toNat_ofNat, BitVec.toNat_ofNat, BitVec.toNat_ofNat, show (31 % 2 ^ 32 : ℕ) = 2 ^ 5 - 1 from rfl,
      Nat.and_two_pow_sub_one_eq_mod]
    omega

theorem v126_y (m : Fin 1024) : val_main_v126 (F := Ideal) (ix2 m 1) = ((cy m : ℝ) : EReal) := by
  unfold val_main_v126 val_main_v125 val_main_v124 val_main_v123 val_main_v122 val_main_cst_29 val_main_v121
        val_main_v120 val_main_cst_28 val_main_v119 val_main_v118 val_main_v117 val_main_c_27 val_main_v116
        val_main_v115 val_main_cst_26 val_main_v114 val_main_v113 val_main_cst_25 val_main_v112 val_main_v111
        val_main_v110 val_main_c_24 val_main_v109
  pointwise
  rw [show IntOp.shrsi ArithUnit.host (BitVec.ofNat 32 m.val) 5#32 = BitVec.ofNat 32 (m.val / 32) from ?_, Model.num_ap (by omega), Consts.half,
    Consts.c16]
  · unfold Near.num cy
    rw [← EReal.coe_add, ← EReal.coe_mul]
  · revert m
    decide +kernel

theorem sq_grid (a b : ℝ) (m : Fin 1024) : (a - cx m) * (a - cx m) + (b - cy m) * (b - cy m) = Model.sq a b m := by
  unfold Model.sq Model.sqa cx cy
  ring

theorem sq_nonneg (a b : ℝ) (m : Fin 1024) : 0 ≤ Model.sq a b m := by
  unfold Model.sq Model.sqa
  exact add_nonneg (mul_self_nonneg _) (mul_self_nonneg _)

theorem bit_ap (b : Prop) [Decidable b] : (FloatOps.uitofp FTy.f32 (BitVec.ofBool (decide b)) : Ideal .f32)
    = ((if b then 1 else 0 : ℝ) : EReal) := by
  show ((((BitVec.ofBool (decide b)).toNat : ℕ) : ℝ) : EReal) = _
  by_cases h : b <;> simp [h]

theorem word_inj {a b : Fin 1024} (h : BitVec.ofNat 32 a.val = BitVec.ofNat 32 b.val) : a = b := by
  have := congrArg BitVec.toNat h
  rw [BitVec.toNat_ofNat, BitVec.toNat_ofNat] at this
  exact Fin.ext (by omega)

section
variable (x0 : FVec Ideal S2x1024x2 .f32) (X0 : Fin 2 → Fin 1024 → Fin 2 → ℝ) (h0 : ∀ b n a, x0 (ix3 b n a) = (X0 b n a : EReal))
  (x4 : FVec Ideal S2x3x3 .f32) (X4 : Fin 2 → Fin 3 → Fin 3 → ℝ) (h4 : ∀ b i j, x4 (ix3 b i j) = (X4 b i j : EReal))
  (hw : ∀ b, ∀ m : Fin 1024, wd (X4 b) m ≠ 0)
include h0

theorem v139_eq (b : Fin 2) (n m : Fin 1024) : val_main_v139 (F := Ideal) x0 (ix3 b n m)
    = -((Real.sqrt (Model.sq (X0 b n 0) (X0 b n 1) m + Consts.ε) : ℝ) : EReal) := by
  unfold val_main_v139 val_main_v138 val_main_v137 val_main_v136 val_main_cst_31 val_main_v135 val_main_cst_30
        val_main_v134 val_main_v133 val_main_v132 val_main_v131 val_main_v130 val_main_v129 val_main_v128
        val_main_v127
  pointwise
  rw [Fin.sum_univ_two, v126_x, v126_y, h0, h0, Consts.eps]
  simp only [← EReal.coe_sub, ← EReal.coe_mul, ← EReal.coe_add]
  rw [esqrt (by rw [sq_grid]; exact add_nonneg (sq_nonneg _ _ _) Consts.ε_pos.le), sq_grid]

theorem ids_eq (b : Fin 2) (n : Fin 1024) (t : Fin 4) : ∃ m : Fin 1024, val_main_indices (F := Ideal) x0 (ix3 b n t) = BitVec.ofNat 32 m.val
    ∧ Near.rank (Model.sq (X0 b n 0) (X0 b n 1)) m = t.val := by
  obtain ⟨m, _, h1, h2⟩ := TopK.topK_apply (val_main_v139 (F := Ideal) x0) Gen.sliceFits_S2x1024x1024_S2x1024x4 b n t
  exact ⟨m, h1, (TopK.rank_of_lex _ (sq_nonneg _ _) _ (v139_eq x0 X0 h0 b n) m).symm.trans h2⟩

theorem v143_eq (b : Fin 2) (n : Fin 4096) (m : Fin 1024)
    (h : val_main_indices (F := Ideal) x0 (ix3 b ⟨n.val / 4, by omega⟩ ⟨n.val % 4, by omega⟩) = BitVec.ofNat 32 m.val) :
    val_main_v143 (F := Ideal) x0 (ix3 b n 0) = ((cx m : ℝ) : EReal) ∧ val_main_v143 (F := Ideal) x0 (ix3 b n 1) = ((cy m : ℝ) : EReal) := by
  have h' : val_main_v142 (F := Ideal) x0 (ix3 b n 0) = BitVec.ofNat 32 m.val := by
    rw [← h]
    unfold val_main_v142 val_main_v141
    pointwise
  unfold val_main_v143
  rw [gather_table _ _ b n 0 m h', gather_table _ _ b n 1 m h']
  exact ⟨v126_x m, v126_y m⟩

include h4 hw

theorem v152_eq (b : Fin 2) (n : Fin 4096) (m : Fin 1024)
    (h : val_main_indices (F := Ideal) x0 (ix3 b ⟨n.val / 4, by omega⟩ ⟨n.val % 4, by omega⟩) = BitVec.ofNat 32 m.val) :
    val_main_v152 (F := Ideal) x0 x4 (ix3 b n 0) = ((wx (X4 b) m : ℝ) : EReal)
      ∧ val_main_v152 (F := Ideal) x0 x4 (ix3 b n 1) = ((wy (X4 b) m : ℝ) : EReal) := by
  obtain ⟨e0, e1⟩ := v143_eq x0 X0 h0 b n m h
  have d : cx m * X4 b 2 0 + cy m * X4 b 2 1 + X4 b 2 2 + Consts.ε = wd (X4 b) m := by
    unfold wd
    ring
  constructor
  · unfold val_main_v152 val_main_v151 val_main_v150 val_main_v149 val_main_cst_33 val_main_v148 val_main_v147
        val_main_v146 val_main_v145 val_main_v144 val_main_cst_32
    pointwise
    rw [Fin.sum_univ_two, Fin.sum_univ_two, Fin.sum_univ_one, Fin.sum_univ_one, e0, e1, Consts.eps]
    simp only [h4, ← EReal.coe_mul, ← EReal.coe_add]
    refine (ediv _ (b := cx m * X4 b 2 0 + cy m * X4 b 2 1 + X4 b 2 2 + Consts.ε) (d ▸ hw b m)).trans ?_
    rw [d]
    unfold wx
    congr 2
    show cx m * X4 b 0 0 + cy m * X4 b 0 1 + X4 b 0 2 = _
    ring
  · unfold val_main_v152 val_main_v151 val_main_v150 val_main_v149 val_main_cst_33 val_main_v148 val_main_v147
        val_main_v146 val_main_v145 val_main_v144 val_main_cst_32
    pointwise
    rw [Fin.sum_univ_two, Fin.sum_univ_two, Fin.sum_univ_one, Fin.sum_univ_one, e0, e1, Consts.eps]
    simp only [h4, ← EReal.coe_mul, ← EReal.coe_add]
    refine (ediv _ (b := cx m * X4 b 2 0 + cy m * X4 b 2 1 + X4 b 2 2 + Consts.ε) (d ▸ hw b m)).trans ?_
    rw [d]
    unfold wy
    congr 2
    show cx m * X4 b 1 0 + cy m * X4 b 1 1 + X4 b 1 2 = _
    ring

theorem v163_eq (b : Fin 2) (n : Fin 4096) (c : Fin 1024)
    (h : val_main_indices (F := Ideal) x0 (ix3 b ⟨n.val / 4, by omega⟩ ⟨n.val % 4, by omega⟩) = BitVec.ofNat 32 c.val) (m : Fin 1024) :
    val_main_v163 (F := Ideal) x0 x4 (ix3 b n m)
      = -((Real.sqrt (Model.sq (wx (X4 b) c) (wy (X4 b) c) m + Consts.ε) : ℝ) : EReal) := by
  obtain ⟨e0, e1⟩ := v152_eq x0 X0 h0 x4 X4 h4 hw b n c h
  unfold val_main_v163 val_main_v162 val_main_v161 val_main_v160 val_main_cst_35 val_main_v159 val_main_cst_34
        val_main_v158 val_main_v157 val_main_v156 val_main_v155 val_main_v154 val_main_v153 val_main_v128
        val_main_v127
  pointwise
  rw [Fin.sum_univ_two, v126_x, v126_y, e0, e1, Consts.eps]
  simp only [← EReal.coe_sub, ← EReal.coe_mul, ← EReal.coe_add]
  rw [esqrt (by rw [sq_grid]; exact add_nonneg (sq_nonneg _ _ _) Consts.ε_pos.le), sq_grid]

theorem ids2_eq (b : Fin 2) (n : Fin 4096) (c : Fin 1024)
    (h : val_main_indices (F := Ideal) x0 (ix3 b ⟨n.val / 4, by omega⟩ ⟨n.val % 4, by omega⟩) = BitVec.ofNat 32 c.val) (t : Fin 4) :
    ∃ m : Fin 1024, val_main_indices_37 (F := Ideal) x0 x4 (ix3 b n t) = BitVec.ofNat 32 m.val
    ∧ Near.rank (Model.sq (wx (X4 b) c) (wy (X4 b) c)) m = t.val := by
  obtain ⟨m, _, h1, h2⟩ := TopK.topK_apply (val_main_v163 (F := Ideal) x0 x4) Gen.sliceFits_S2x4096x1024_S2x4096x4 b n t
  exact ⟨m, h1, (TopK.rank_of_lex _ (sq_nonneg _ _) _ (v163_eq x0 X0 h0 x4 X4 h4 hw b n c h) m).symm.trans h2⟩

theorem v165_iff (b : Fin 2) (n m : Fin 1024) : (∃ k : Fin 16, val_main_v165 (F := Ideal) x0 x4 (ix3 b n k) = BitVec.ofNat 32 m.val)
    ↔ near (X4 b) (X0 b n 0) (X0 b n 1) m := by
  have e : ∀ k : Fin 16, val_main_v165 (F := Ideal) x0 x4 (ix3 b n k)
      = val_main_indices_37 (F := Ideal) x0 x4 (ix3 b ⟨n.val * 4 + k.val / 4, by omega⟩ ⟨k.val % 4, by omega⟩) := fun k => by
    unfold val_main_v165
    pointwise
  have f : ∀ k : Fin 16, ∀ c : Fin 1024, val_main_indices (F := Ideal) x0 (ix3 b n ⟨k.val / 4, by omega⟩) = BitVec.ofNat 32 c.val →
      val_main_indices (F := Ideal) x0 (ix3 b ⟨(n.val * 4 + k.val / 4) / 4, by omega⟩ ⟨(n.val * 4 + k.val / 4) % 4, by omega⟩)
        = BitVec.ofNat 32 c.val := fun k c h => by
    rw [← h]
    congr 2
    · exact Fin.ext (by show (n.val * 4 + k.val / 4) / 4 = n.val; omega)
    · exact Fin.ext (by show (n.val * 4 + k.val / 4) % 4 = k.val / 4; omega)
  constructor
  · rintro ⟨k, hk⟩
    obtain ⟨c, hc, hr⟩ := ids_eq x0 X0 h0 b n ⟨k.val / 4, by omega⟩
    obtain ⟨m', hm, hr'⟩ := ids2_eq x0 X0 h0 x4 X4 h4 hw b ⟨n.val * 4 + k.val / 4, by omega⟩ c (f k c hc) ⟨k.val % 4, by omega⟩
    have : m' = m := word_inj (hm.symm.trans ((e k).symm.trans hk))
    subst this
    refine ⟨c, ?_, ?_⟩
    · rw [hr]; show k.val / 4 < 4; omega
    · rw [hr']; show k.val % 4 < 4; omega
  · rintro ⟨c, hc, hm⟩
    let k : Fin 16 := ⟨Near.rank (Model.sq (X0 b n 0) (X0 b n 1)) c * 4 + Near.rank (Model.sq (wx (X4 b) c) (wy (X4 b) c)) m, by omega⟩
    have k1 : k.val / 4 = Near.rank (Model.sq (X0 b n 0) (X0 b n 1)) c := by show (_ * 4 + _) / 4 = _; omega
    have k2 : k.val % 4 = Near.rank (Model.sq (wx (X4 b) c) (wy (X4 b) c)) m := by show (_ * 4 + _) % 4 = _; omega
    obtain ⟨c', hc', hr⟩ := ids_eq x0 X0 h0 b n ⟨k.val / 4, by omega⟩
    have : c' = c := rank_inj _ (hr.trans k1)
    subst this
    obtain ⟨m', hm', hr'⟩ := ids2_eq x0 X0 h0 x4 X4 h4 hw b ⟨n.val * 4 + k.val / 4, by omega⟩ c' (f k c' hc') ⟨k.val % 4, by omega⟩
    have : m' = m := rank_inj _ (hr'.trans k2)
    subst this
    exact ⟨k, (e k).trans hm'⟩

/-- How many of the sixteen cells near a point are a given one. -/
def count (x0 : FVec Ideal S2x1024x2 .f32) (x4 : FVec Ideal S2x3x3 .f32) (b : Fin 2) (n m : Fin 1024) : ℝ :=
  ∑ k : Fin 16, if val_main_v165 (F := Ideal) x0 x4 (ix3 b n k) = BitVec.ofNat 32 m.val then 1 else 0

omit h0 h4 hw in
/-- The sum of the masks of the sixteen cells. -/
theorem v167_eq (b : Fin 2) (n m : Fin 1024) : val_main_v167 (F := Ideal) x0 x4 (ix3 b n m) = (count x0 x4 b n m : EReal) := by
  have e : ∀ k : Fin 16, (FloatOps.uitofp FTy.f32 (IntOp.cmpi CmpIPredicate.eq (val_main_v165 (F := Ideal) x0 x4 (ix3 b n k)) (BitVec.ofNat 32 m.val)) : Ideal .f32)
      = ((if val_main_v165 (F := Ideal) x0 x4 (ix3 b n k) = BitVec.ofNat 32 m.val then 1 else 0 : ℝ) : EReal) := fun k => by
    rw [← bit_ap]
    rfl
  unfold val_main_v167 val_main_cst_38 val_main_v166 val_main_call0_v4
        val_main_call0_v3 val_main_call0_v2 val_main_call0_v1 val_main_call0_v0
  pointwise
  simp only [e, esum]
  rfl

/-- Five times that sum is zero off the cells and at least five on them. -/
theorem count_push (b : Fin 2) (n : Fin 1024) : Masked.Push (near (X4 b) (X0 b n 0) (X0 b n 1)) fun m => count x0 x4 b n m * 5 := by
  intro m
  constructor
  · intro h
    dsimp only [count]
    rw [Finset.sum_eq_zero fun k _ => if_neg fun hk => h ((v165_iff x0 X0 h0 x4 X4 h4 hw b n m).mp ⟨k, hk⟩), zero_mul]
  · intro h
    obtain ⟨k, hk⟩ := (v165_iff x0 X0 h0 x4 X4 h4 hw b n m).mpr h
    have : 1 ≤ count x0 x4 b n m :=
      le_trans (by rw [if_pos hk]) (Finset.single_le_sum (f := fun k => if val_main_v165 (F := Ideal) x0 x4 (ix3 b n k) = BitVec.ofNat 32 m.val then (1 : ℝ) else 0)
        (fun i _ => by dsimp only; split <;> norm_num) (Finset.mem_univ k))
    linarith

end

/-! ### The rows -/

theorem far_ap (p : ℝ) : Ideal.sqrt (max (Ideal.ofBits FTy.f32 1073741824#32 - Ideal.ofBits FTy.f32 1073741824#32 * (p : EReal))
    (Ideal.ofBits FTy.f32 841731191#32)) = ((Masked.far (-p) : ℝ) : EReal) := by
  rw [Consts.c2, Consts.eps, ← EReal.coe_mul, ← EReal.coe_sub, emax, esqrt (le_max_of_le_right Consts.ε_pos.le)]
  unfold Masked.far
  congr 4
  ring

theorem within_iff (x y x' y' : ℝ) : Real.sqrt ((x - x') * (x - x') + (y - y') * (y - y') + Consts.ε) ≤ Consts.B ↔ within x y x' y' := by
  rw [Real.sqrt_le_left Consts.B_pos.le]
  unfold within
  rw [sq]

section
variable (x0 x1 : FVec Ideal S2x1024x2 .f32) (X0 X1 : Fin 2 → Fin 1024 → Fin 2 → ℝ) (h0 : ∀ b n a, x0 (ix3 b n a) = (X0 b n a : EReal))
  (h1 : ∀ b n a, x1 (ix3 b n a) = (X1 b n a : EReal))
  (x2 : FVec Ideal S2x1024x256 .f32) (X2 : Fin 2 → Fin 1024 → Fin 256 → ℝ) (h2 : ∀ b n c, x2 (ix3 b n c) = (X2 b n c : EReal))
  (x3 : FVec Ideal S2x256x32x32 .f32) (X3 : Fin 2 → Fin 1024 → Fin 256 → ℝ)
  (h3 : ∀ b n c, x3 (ix4 b c (rowC n) (colC n)) = (X3 b n c : EReal))
  (x4 : FVec Ideal S2x3x3 .f32) (X4 : Fin 2 → Fin 3 → Fin 3 → ℝ) (h4 : ∀ b i j, x4 (ix3 b i j) = (X4 b i j : EReal))
  (hw : ∀ b, ∀ m : Fin 1024, wd (X4 b) m ≠ 0)

/-- The normalised sample at a warped point. -/
abbrev W (X1 : Fin 2 → Fin 1024 → Fin 2 → ℝ) (X3 : Fin 2 → Fin 1024 → Fin 256 → ℝ) (b : Fin 2) (n : Fin 1024) : Fin 256 → ℝ :=
  unitv fun c => interp (X1 b n 0) (X1 b n 1) fun m => X3 b m c

include h2 h3 in
theorem v181_eq (b : Fin 2) (n m : Fin 1024) : val_main_v181 (F := Ideal) x0 x2 x3 x4 (ix3 b n m)
    = -Masked.val (fun m => count x0 x4 b n m * 5) (fun m => sim (X2 b n) (X3 b m)) m := by
  have e : ∀ c, val_main_v169 (F := Ideal) x3 (ix3 b m c) = (X3 b m c : EReal) := fun c => v1_eq x3 X3 h3 b m c
  unfold val_main_v181 val_main_v180 val_main_v179 val_main_v178 val_main_cst_42 val_main_v177 val_main_v176
        val_main_v175 val_main_cst_41 val_main_v174 val_main_v173 val_main_cst_40 val_main_v172 val_main_v171
        val_main_cst_39 val_main_v170
  pointwise
  simp only [e, h2, ← EReal.coe_mul, esum]
  rw [far_ap, v167_eq, Consts.c5, ← EReal.coe_mul, ← EReal.coe_add]
  rfl

include h0 h2 in
theorem v216_eq (b : Fin 2) (n m : Fin 1024) : val_main_v216 (F := Ideal) x0 x2 (ix3 b n m)
    = -Masked.val (fun m => if within (X0 b n 0) (X0 b n 1) (X0 b m 0) (X0 b m 1) then 5 else 0) (fun m => sim (X2 b n) (X2 b m)) m := by
  unfold val_main_v216 val_main_v215 val_main_v214 val_main_v213 val_main_cst_55 val_main_v212 val_main_v211
        val_main_v210 val_main_cst_54 val_main_v209 val_main_v208 val_main_cst_53 val_main_v207 val_main_v206
        val_main_cst_52 val_main_v205 val_main_v204 val_main_v203 val_main_v202 val_main_cst_51 val_main_v201
        val_main_v200 val_main_v199 val_main_cst_50 val_main_v198 val_main_cst_49 val_main_v197 val_main_v196
        val_main_v195 val_main_v194 val_main_v193 val_main_v192
  pointwise
  simp only [h2, Fin.sum_univ_two, h0, Consts.eps, ← EReal.coe_sub, ← EReal.coe_mul, ← EReal.coe_add, esum]
  rw [← Consts.eps, far_ap, esqrt, Consts.rad, Consts.c5]
  · simp only [EReal.coe_le_coe_iff, within_iff]
    rw [bit_ap, ← EReal.coe_mul, ← EReal.coe_add, ite_mul, one_mul, zero_mul]
    rfl
  · exact add_nonneg (add_nonneg (mul_self_nonneg _) (mul_self_nonneg _)) Consts.ε_pos.le

include h1 h3 in
theorem v255_eq (b : Fin 2) (n m : Fin 1024) : val_main_v255 (F := Ideal) x1 x3 (ix3 b n m)
    = -Masked.val (fun m => if within (X1 b n 0) (X1 b n 1) (X1 b m 0) (X1 b m 1) then 5 else 0) (fun m => sim (W X1 X3 b n) (W X1 X3 b m)) m := by
  unfold val_main_v255 val_main_v254 val_main_v253 val_main_v252 val_main_cst_68 val_main_v251 val_main_v250
        val_main_v249 val_main_cst_67 val_main_v248 val_main_v247 val_main_cst_66 val_main_v246 val_main_v245
        val_main_cst_65 val_main_v244 val_main_v243 val_main_v242 val_main_v241 val_main_cst_64 val_main_v240
        val_main_v239 val_main_v238 val_main_cst_63 val_main_v237 val_main_cst_62 val_main_v236 val_main_v235
        val_main_v234 val_main_v233 val_main_v232 val_main_v231
  pointwise
  simp only [v98_eq x1 X1 h1 x3 X3 h3, Fin.sum_univ_two, h1, Consts.eps, ← EReal.coe_sub, ← EReal.coe_mul, ← EReal.coe_add, esum]
  rw [← Consts.eps, far_ap, esqrt, Consts.rad, Consts.c5]
  · simp only [EReal.coe_le_coe_iff, within_iff]
    rw [bit_ap, ← EReal.coe_mul, ← EReal.coe_add, ite_mul, one_mul, zero_mul]
    rfl
  · exact add_nonneg (add_nonneg (mul_self_nonneg _) (mul_self_nonneg _)) Consts.ε_pos.le

include h2 h3 in
/-- The first-order entry of a rank. -/
theorem fos_entry (b : Fin 2) (n : Fin 1024) (t : Fin 8) : ∃ m : Fin 1024,
    -val_main_values_43 (F := Ideal) x0 x2 x3 x4 (ix3 b n t)
        = Masked.val (fun m => count x0 x4 b n m * 5) (fun m => sim (X2 b n) (X3 b m)) m
      ∧ Rank.IsK (Masked.val (fun m => count x0 x4 b n m * 5) (fun m => sim (X2 b n) (X3 b m))) t.val
          (Masked.val (fun m => count x0 x4 b n m * 5) (fun m => sim (X2 b n) (X3 b m)) m) := by
  obtain ⟨m, e, _, h⟩ := TopK.topK_apply (val_main_v181 (F := Ideal) x0 x2 x3 x4) Gen.sliceFits_S2x1024x1024_S2x1024x8 b n t
  refine ⟨m, ?_, TopK.isK_of_lex _ _ (v181_eq x0 x2 X2 h2 x3 X3 h3 x4 b n) m h⟩
  rw [show val_main_values_43 (F := Ideal) x0 x2 x3 x4 (ix3 b n t) = _ from e, v181_eq x0 x2 X2 h2 x3 X3 h3 x4, neg_neg]

include h0 h2 in
/-- The second-order entries of a rank. -/
theorem sos_entry (b : Fin 2) (n : Fin 1024) (t : Fin 8) : ∃ m : Fin 1024,
    val_main_v230 (F := Ideal) x0 x2 (ix3 b n t) = ((Masked.far (sim (X2 b n) (X2 b m)) : ℝ) : EReal)
      ∧ Rank.IsK (Masked.val (fun m => if within (X0 b n 0) (X0 b n 1) (X0 b m 0) (X0 b m 1) then 5 else 0) (fun m => sim (X2 b n) (X2 b m))) t.val
          (Masked.val (fun m => if within (X0 b n 0) (X0 b n 1) (X0 b m 0) (X0 b m 1) then 5 else 0) (fun m => sim (X2 b n) (X2 b m)) m) := by
  obtain ⟨m, _, e, h⟩ := TopK.topK_apply (val_main_v216 (F := Ideal) x0 x2) Gen.sliceFits_S2x1024x1024_S2x1024x8 b n t
  refine ⟨m, ?_, TopK.isK_of_lex _ _ (v216_eq x0 X0 h0 x2 X2 h2 b n) m h⟩
  have h' : val_main_v218 (F := Ideal) x0 x2 (ix4 b n t 0) = BitVec.ofNat 32 m.val := by
    rw [← e]
    unfold val_main_v218
    pointwise
    rfl
  have g : ∀ c, val_main_v219 (F := Ideal) x0 x2 (ix4 b n t c) = (X2 b m c : EReal) := fun c => by
    unfold val_main_v219
    rw [gather_rows8 _ _ b n t c m h', h2]
  unfold val_main_v230 val_main_v229 val_main_v228 val_main_cst_61 val_main_v227 val_main_v226 val_main_cst_60
        val_main_v225 val_main_v224 val_main_cst_59 val_main_v223 val_main_cst_58 val_main_v222 val_main_v221
        val_main_v220
  pointwise
  simp only [g, h2, ← EReal.coe_mul, esum]
  exact far_ap _

include h1 h3 in
@[inherit_doc sos_entry]
theorem sos_entry' (b : Fin 2) (n : Fin 1024) (t : Fin 8) : ∃ m : Fin 1024,
    val_main_v269 (F := Ideal) x1 x3 (ix3 b n t) = ((Masked.far (sim (W X1 X3 b n) (W X1 X3 b m)) : ℝ) : EReal)
      ∧ Rank.IsK (Masked.val (fun m => if within (X1 b n 0) (X1 b n 1) (X1 b m 0) (X1 b m 1) then 5 else 0) (fun m => sim (W X1 X3 b n) (W X1 X3 b m))) t.val
          (Masked.val (fun m => if within (X1 b n 0) (X1 b n 1) (X1 b m 0) (X1 b m 1) then 5 else 0) (fun m => sim (W X1 X3 b n) (W X1 X3 b m)) m) := by
  obtain ⟨m, _, e, h⟩ := TopK.topK_apply (val_main_v255 (F := Ideal) x1 x3) Gen.sliceFits_S2x1024x1024_S2x1024x8 b n t
  refine ⟨m, ?_, TopK.isK_of_lex _ _ (v255_eq x1 X1 h1 x3 X3 h3 b n) m h⟩
  have h' : val_main_v257 (F := Ideal) x1 x3 (ix4 b n t 0) = BitVec.ofNat 32 m.val := by
    rw [← e]
    unfold val_main_v257
    pointwise
    rfl
  have g : ∀ c, val_main_v258 (F := Ideal) x1 x3 (ix4 b n t c) = (W X1 X3 b m c : EReal) := fun c => by
    unfold val_main_v258
    rw [gather_rows8 _ _ b n t c m h', v98_eq x1 X1 h1 x3 X3 h3]
  unfold val_main_v269 val_main_v268 val_main_v267 val_main_cst_74 val_main_v266 val_main_v265 val_main_cst_73
        val_main_v264 val_main_v263 val_main_cst_72 val_main_v262 val_main_cst_71 val_main_v261 val_main_v260
        val_main_v259
  pointwise
  simp only [g, v98_eq x1 X1 h1 x3 X3 h3, ← EReal.coe_mul, esum]
  exact far_ap _

end

end Cert.RefSem
-- ==== Proof.Final.lean ====
/- The kernel's two sums of a batch entry are the reference's. -/
module

public import proofs.«01_k».proof.Proof.RefB

@[expose] public section

noncomputable section

namespace Cert.Final

open Idealize.ShloMosaic Cert.Spec Cert.RefSem Cert.Model Cert.ReferenceIdeal.Read
open Cert.KernelIdeal (S8x128 S1x1024 S1024x256 S1024x1024 S1024x1 S8x128x1024)
open Cert.ReferenceIdeal (S2x1024x2 S2x1024x256 S2x256x32x32 S2x3x3)

/-- The mask of the points within the radius, and the two masks' rows. -/
abbrev ring (X : Fin 2 → Fin 1024 → Fin 2 → ℝ) (b : Fin 2) (n : Fin 1024) (m : Fin 1024) : Prop :=
  within (X b n 0) (X b n 1) (X b m 0) (X b m 1)

/-- Real arguments that meet the precondition. -/
structure Good (x0 x1 : FVec Ideal S2x1024x2 .f32) (x2 : FVec Ideal S2x1024x256 .f32) (x3 : FVec Ideal S2x256x32x32 .f32)
    (x4 : FVec Ideal S2x3x3 .f32) (X0 X1 : Fin 2 → Fin 1024 → Fin 2 → ℝ) (X2 X3 : Fin 2 → Fin 1024 → Fin 256 → ℝ)
    (X4 : Fin 2 → Fin 3 → Fin 3 → ℝ) : Prop where
  h0 : ∀ b n a, x0 (ix3 b n a) = (X0 b n a : EReal)
  h1 : ∀ b n a, x1 (ix3 b n a) = (X1 b n a : EReal)
  h2 : ∀ b n c, x2 (ix3 b n c) = (X2 b n c : EReal)
  h3 : ∀ b n c, x3 (ix4 b c (rowC n) (colC n)) = (X3 b n c : EReal)
  h4 : ∀ b i j, x4 (ix3 b i j) = (X4 b i j : EReal)
  hw : ∀ b, ∀ m : Fin 1024, wd (X4 b) m ≠ 0
  n2 : ∀ b n, (∑ c, X2 b n c * X2 b n c) ≤ 2
  n3 : ∀ b n, (∑ c, X3 b n c * X3 b n c) ≤ 2
  t1 : ∀ b n, Masked.Free (near (X4 b) (X0 b n 0) (X0 b n 1))
    ∧ Masked.Sep (near (X4 b) (X0 b n 0) (X0 b n 1)) (fun m => sim (X2 b n) (X3 b m))
  t2 : ∀ b n, Masked.Free (ring X0 b n) ∧ Masked.Sep (ring X0 b n) (fun m => sim (X2 b n) (X2 b m))
  t3 : ∀ b n, Masked.Free (ring X1 b n) ∧ Masked.Sep (ring X1 b n) (fun m => sim (W X1 X3 b n) (W X1 X3 b m))

/-- The kernel's entry of a rank of a masked row. -/
theorem row_isK (k : IVec S8x128x1024 1) (μ : Fin 1024 → Fin 1024 → Prop) [∀ n, DecidablePred (μ n)]
    (hk : ∀ i j m, k (ix3 i j m) = BitVec.ofBool (decide (μ (pk i j) m)))
    (x : FVec Ideal S1024x1024 .f32) (s : Fin 1024 → Fin 1024 → ℝ) (hx : ∀ n m, x (ix2 n m) = ((2 * s n m : ℝ) : EReal))
    (n : Fin 1024) (hs : ∀ m, |s n m| ≤ 2) (hf : Masked.Free (μ n)) (hsep : Masked.Sep (μ n) (s n)) {t : ℕ} (ht : t < 8) :
    Rank.IsK (Masked.key (μ n) (s n)) t (top8 (pushed k x) t (ix2 n 0)) := by
  have e : (fun m => pushed k x (ix2 n m)) = Masked.key (μ n) (s n) := funext fun m => pushed_ap k μ hk x s hx n m
  have h := top8_isK (pushed k x) n t
  rw [e] at h
  exact h (Masked.apart hs hf hsep ht) (Masked.below_top ht)

theorem root_ap (x : FVec Ideal S1024x1 .f32) (n : Fin 1024) :
    sqrt (addf x (kc S1024x1 0x322BCC77#32)) (ix2 n 0) = Ideal.sqrt (x (ix2 n 0) + Ideal.ofBits .f32 0x322BCC77#32) := rfl

theorem v275_ap (x0 x1 : FVec Ideal S2x1024x2 .f32) (x2 : FVec Ideal S2x1024x256 .f32) (x3 : FVec Ideal S2x256x32x32 .f32)
    (b : Fin 2) (n : Fin 1024) : val_main_v275 (F := Ideal) x0 x1 x2 x3 (ix2 b n)
      = Ideal.sqrt ((∑ t : Fin 8, (val_main_v230 (F := Ideal) x0 x2 (ix3 b n t) - val_main_v269 (F := Ideal) x1 x3 (ix3 b n t))
          * (val_main_v230 (F := Ideal) x0 x2 (ix3 b n t) - val_main_v269 (F := Ideal) x1 x3 (ix3 b n t)))
        + Ideal.ofBits .f32 0x322BCC77#32) := by
  unfold val_main_v275 val_main_v274 val_main_v273 val_main_cst_76 val_main_v272 val_main_cst_75 val_main_v271
        val_main_v270
  pointwise

variable {x0 x1 : FVec Ideal S2x1024x2 .f32} {x2 : FVec Ideal S2x1024x256 .f32} {x3 : FVec Ideal S2x256x32x32 .f32}
    {x4 : FVec Ideal S2x3x3 .f32} {X0 X1 : Fin 2 → Fin 1024 → Fin 2 → ℝ} {X2 X3 : Fin 2 → Fin 1024 → Fin 256 → ℝ}
    {X4 : Fin 2 → Fin 3 → Fin 3 → ℝ} (g : Good x0 x1 x2 x3 x4 X0 X1 X2 X3 X4) (b : Fin 2)
  (h : ℕ → EReal) (kx ky wx wy : FVec Ideal S8x128 .f32) (kxr kyr wxr wyr : FVec Ideal S1x1024 .f32) (d e : FVec Ideal S1024x256 .f32)
  (hh : ∀ i j : Fin 3, h (3 * i.val + j.val) = x4 (ix3 b i j))
  (hkx : ∀ i j, kx (ix2 i j) = x0 (ix3 b (pk i j) 0)) (hky : ∀ i j, ky (ix2 i j) = x0 (ix3 b (pk i j) 1))
  (hwx : ∀ i j, wx (ix2 i j) = x1 (ix3 b (pk i j) 0)) (hwy : ∀ i j, wy (ix2 i j) = x1 (ix3 b (pk i j) 1))
  (hkxr : ∀ n, kxr (ix2 0 n) = x0 (ix3 b n 0)) (hkyr : ∀ n, kyr (ix2 0 n) = x0 (ix3 b n 1))
  (hwxr : ∀ n, wxr (ix2 0 n) = x1 (ix3 b n 0)) (hwyr : ∀ n, wyr (ix2 0 n) = x1 (ix3 b n 1))
  (hd : ∀ n c, d (ix2 n c) = x2 (ix3 b n c)) (he : ∀ n c, e (ix2 n c) = x3 (ix4 b c (rowC n) (colC n)))

include g

include hwx hwy he in
theorem normed_eq (n : Fin 1024) (c : Fin 256) : normed (sample wx wy e) (ix2 n c) = (W X1 X3 b n c : EReal) :=
  normed_ap _ (fun n c => interp (X1 b n 0) (X1 b n 1) fun m => X3 b m c)
    (sample_ap wx wy e (fun n => X1 b n 0) (fun n => X1 b n 1) (fun m c => X3 b m c) (fun i j => (hwx i j).trans (g.h1 _ _ _))
      (fun i j => (hwy i j).trans (g.h1 _ _ _)) fun n c => (he n c).trans (g.h3 _ _ _)) n c

include hh hkx hky hwx hwy hd he in
theorem fos_eq : fos (F := Ideal) h kx ky wx wy d e
    = ∑ n : Fin 1024, ∑ t : Fin 8, val_main_v189 (F := Ideal) x0 x1 x2 x3 x4 (ix3 b n t) := by
  unfold fos
  rw [total_ap]
  refine Finset.sum_congr rfl fun n _ => ?_
  rw [acc_ap, Finset.sum_range]
  refine Finset.sum_congr rfl fun t _ => ?_
  have hD : ∀ n c, d (ix2 n c) = (X2 b n c : EReal) := fun n c => (hd n c).trans (g.h2 _ _ _)
  have hE : ∀ n c, e (ix2 n c) = (X3 b n c : EReal) := fun n c => (he n c).trans (g.h3 _ _ _)
  have hs : ∀ m, |sim (X2 b n) (X3 b m)| ≤ 2 := fun m => sim_le (g.n2 _ _) (g.n3 _ _)
  obtain ⟨hf, hsep⟩ := g.t1 b n
  have hv := row_isK (nearMask (F := Ideal) h kx ky) (fun n => near (X4 b) (X0 b n 0) (X0 b n 1))
    (nearMask_ap h (X4 b) (fun i j => (hh i j).trans (g.h4 _ _ _)) (g.hw b) kx ky (fun n => X0 b n 0) (fun n => X0 b n 1)
      (fun i j => (hkx i j).trans (g.h0 _ _ _)) fun i j => (hky i j).trans (g.h0 _ _ _))
    (sims d e) (fun n m => sim (X2 b n) (X3 b m)) (sims_ap d e _ _ hD hE) n hs hf hsep t.isLt
  obtain ⟨m, hm, hy⟩ := fos_entry x0 x2 X2 g.h2 x3 X3 g.h3 x4 b n t
  obtain ⟨_, l1, l2⟩ := Masked.link (count_push x0 X0 g.h0 x4 X4 g.h4 g.hw b n) hs hf t.isLt hv hy
  rw [hinge_ap, dist_ap, l2, positive_ap _ _ (fun n => X2 b n) (fun n => W X1 X3 b n) hD
    (normed_eq g b wx wy e hwx hwy he)]
  unfold val_main_v189 val_main_v188 val_main_v187 val_main_cst_46 val_main_v186 val_main_v185 val_main_cst_45
        val_main_v184 val_main_v183 val_main_v182 val_main_v108 val_main_v107 val_main_v106 val_main_v105
        val_main_cst_23 val_main_v104 val_main_v103 val_main_cst_22 val_main_v102 val_main_v101 val_main_cst_21
        val_main_v100 val_main_cst_20 val_main_v99
  pointwise
  rw [hm, l1]
  simp only [g.h2, v98_eq x1 X1 g.h1 x3 X3 g.h3, ← EReal.coe_mul, esum]
  rw [far_ap, max_comm]
  rfl

include hkx hky hwx hwy hkxr hkyr hwxr hwyr hd he in
theorem sos_eq : sos (F := Ideal) kx ky wx wy kxr kyr wxr wyr d e = ∑ n : Fin 1024, val_main_v275 (F := Ideal) x0 x1 x2 x3 (ix2 b n) := by
  unfold sos
  rw [total_ap]
  refine Finset.sum_congr rfl fun n _ => ?_
  have hD : ∀ n c, d (ix2 n c) = (X2 b n c : EReal) := fun n c => (hd n c).trans (g.h2 _ _ _)
  have hW := normed_eq g b wx wy e hwx hwy he
  have hs : ∀ m, |sim (X2 b n) (X2 b m)| ≤ 2 := fun m => sim_le (g.n2 _ _) (g.n2 _ _)
  have hs' : ∀ m, |sim (W X1 X3 b n) (W X1 X3 b m)| ≤ 2 := fun m => sim_le (unitv_sq _) (unitv_sq _)
  obtain ⟨hf, hsep⟩ := g.t2 b n
  obtain ⟨hf', hsep'⟩ := g.t3 b n
  rw [root_ap, acc_ap, Finset.sum_range, v275_ap]
  refine congrArg (fun z : EReal => Ideal.sqrt (z + Ideal.ofBits .f32 0x322BCC77#32)) (Finset.sum_congr rfl fun t _ => ?_)
  have hv := row_isK (nearPts kx ky kxr kyr) (fun n => ring X0 b n)
    (nearPts_ap kx ky kxr kyr (fun n => X0 b n 0) (fun n => X0 b n 1) (fun i j => (hkx i j).trans (g.h0 _ _ _))
      (fun i j => (hky i j).trans (g.h0 _ _ _)) (fun n => (hkxr n).trans (g.h0 _ _ _)) fun n => (hkyr n).trans (g.h0 _ _ _))
    (sims d d) (fun n m => sim (X2 b n) (X2 b m)) (sims_ap d d _ _ hD hD) n hs hf hsep t.isLt
  have hv' := row_isK (nearPts wx wy wxr wyr) (fun n => ring X1 b n)
    (nearPts_ap wx wy wxr wyr (fun n => X1 b n 0) (fun n => X1 b n 1) (fun i j => (hwx i j).trans (g.h1 _ _ _))
      (fun i j => (hwy i j).trans (g.h1 _ _ _)) (fun n => (hwxr n).trans (g.h1 _ _ _)) fun n => (hwyr n).trans (g.h1 _ _ _))
    (sims (normed (sample wx wy e)) (normed (sample wx wy e))) (fun n m => sim (W X1 X3 b n) (W X1 X3 b m))
    (sims_ap _ _ _ _ hW hW) n hs' hf' hsep' t.isLt
  obtain ⟨m, hm, hy⟩ := sos_entry x0 X0 g.h0 x2 X2 g.h2 b n t
  obtain ⟨m', hm', hy'⟩ := sos_entry' x1 X1 g.h1 x3 X3 g.h3 b n t
  obtain ⟨_, _, l⟩ := Masked.link Masked.push_five hs hf t.isLt hv hy
  obtain ⟨_, _, l'⟩ := Masked.link Masked.push_five hs' hf' t.isLt hv' hy'
  rw [dev_ap, dist_ap, dist_ap, l, l', hm, hm']

omit g in
theorem v189_nonneg (n : Fin 1024) (t : Fin 8) : 0 ≤ val_main_v189 (F := Ideal) x0 x1 x2 x3 x4 (ix3 b n t) := by
  unfold val_main_v189 val_main_v188 val_main_v187 val_main_cst_46 val_main_v186 val_main_v185 val_main_cst_45
        val_main_v184 val_main_v183 val_main_v182 val_main_v108 val_main_v107 val_main_v106 val_main_v105
        val_main_cst_23 val_main_v104 val_main_v103 val_main_cst_22 val_main_v102 val_main_v101 val_main_cst_21
        val_main_v100 val_main_cst_20 val_main_v99
  pointwise
  exact mul_nonneg (le_max_right _ _) (le_max_right _ _)

theorem v275_nonneg (n : Fin 1024) : 0 ≤ val_main_v275 (F := Ideal) x0 x1 x2 x3 (ix2 b n) := by
  choose m hm using fun t => sos_entry x0 X0 g.h0 x2 X2 g.h2 b n t
  choose m' hm' using fun t => sos_entry' x1 X1 g.h1 x3 X3 g.h3 b n t
  rw [v275_ap]
  simp only [fun t => (hm t).1, fun t => (hm' t).1, Consts.eps, ← EReal.coe_sub, ← EReal.coe_mul, esum, ← EReal.coe_add]
  rw [esqrt (add_nonneg (Finset.sum_nonneg fun _ _ => mul_self_nonneg _) Consts.ε_pos.le)]
  exact EReal.coe_nonneg.mpr (Real.sqrt_nonneg _)

omit g in
theorem split (f g : EReal) (hf : 0 ≤ f) (hg : 0 ≤ g) {k : ℝ} (hk : k ≠ 0) :
    Ideal.div (f + g) (k : EReal) = Ideal.div f (k : EReal) + Ideal.div g (k : EReal) := by
  unfold Ideal.div
  rw [if_neg (by exact_mod_cast hk), if_neg (by exact_mod_cast hk), if_neg (by exact_mod_cast hk), EReal.right_distrib_of_nonneg hf hg]

/-- The two contributions make the reference's result. -/
theorem total_eq (f s : Fin 2 → EReal)
    (hf : ∀ b, f b = ∑ n : Fin 1024, ∑ t : Fin 8, val_main_v189 (F := Ideal) x0 x1 x2 x3 x4 (ix3 b n t))
    (hs : ∀ b, s b = ∑ n : Fin 1024, val_main_v275 (F := Ideal) x0 x1 x2 x3 (ix2 b n)) :
    (Ideal.ofBits .f32 0x00000000#32 + (Ideal.div (f 0) (Ideal.ofBits .f32 0x46800000#32) + Ideal.div (s 0) (Ideal.ofBits .f32 0x45000000#32)))
        + (Ideal.div (f 1) (Ideal.ofBits .f32 0x46800000#32) + Ideal.div (s 1) (Ideal.ofBits .f32 0x45000000#32))
      = val_main_v279 (F := Ideal) x0 x1 x2 x3 x4 (ix2 0 0) := by
  have pf : ∀ b, 0 ≤ f b := fun b => by
    rw [hf]
    exact Finset.sum_nonneg fun n _ => Finset.sum_nonneg fun t _ => v189_nonneg b n t
  have ps : ∀ b, 0 ≤ s b := fun b => by
    rw [hs]
    exact Finset.sum_nonneg fun n _ => v275_nonneg g b n
  unfold val_main_v279 val_main_v278 val_main_v277 val_main_cst_78 val_main_v276 val_main_cst_77 val_main_v191
        val_main_cst_48 val_main_v190 val_main_cst_47
  pointwise
  rw [Fin.sum_univ_two, Fin.sum_univ_two, ← hf, ← hf, ← hs, ← hs, Consts.c16384, Consts.c2048, split _ _ (pf 0) (pf 1) (by norm_num),
    split _ _ (ps 0) (ps 1) (by norm_num)]
  abel

end Cert.Final
-- ==== Proof.PreSem.lean ====
/- The precondition read: real arguments, rows of norms below the bound, homographies that divide by no zero, and smallest
   entries without ties. -/
module

public import Idealize.ShloMosaic.Lib.ReduceAll
public import proofs.«01_k».proof.Pre_well_posed
public import proofs.«01_k».proof.Proof.Final

@[expose] public section

noncomputable section

namespace Cert.PreSem

open Idealize.ShloMosaic Cert.Spec Cert.RefSem Cert.Pre_well_posed
open Cert.ReferenceIdeal.Read (val_main_v1 val_main_v98 val_main_v126)

instance facts : Cert.Pre_well_posed.Facts := by constructor <;> decide

/-- Every entry is finite. -/
def finite {s : Shape} {axes : List (Fin s.rank)} (x : FVec Ideal s .f32) (hb : S_.BroadcastsInDim s (![] : Fin 0 → Fin s.rank))
    (hr : s.ReducesTo axes S_) : IVec S_ 1 :=
  Host.reduce IntOp.andi (cmpf .olt (Host.absf x) (broadcastInDim s ![] hb (constant S_ .f32 0x7F800000#32))) (constantI S_ 1 1#1) hr Facts.h_S_

/-- The smallest entries of the rows are distinct and below infinity. -/
def ties (K : ℕ) (x : FVec Ideal S2x1024x1024 .f32) (hk : S2x1024x1024.Slices (fun _ => 0) ⟨3, ![2, 1024, K + 1]⟩)
    (h1 : (⟨3, ![2, 1024, K + 1]⟩ : Shape).Slices ![0, 0, 1] ⟨3, ![2, 1024, K]⟩)
    (h0 : (⟨3, ![2, 1024, K + 1]⟩ : Shape).Slices ![0, 0, 0] ⟨3, ![2, 1024, K]⟩)
    (hr : (⟨3, ![2, 1024, K]⟩ : Shape).ReducesTo [0, 1, 2] S_)
    (hb : S_.BroadcastsInDim ⟨3, ![2, 1024, K + 1]⟩ (![] : Fin 0 → Fin 3))
    (hr' : (⟨3, ![2, 1024, K + 1]⟩ : Shape).ReducesTo [0, 1, 2] S_) : IVec S_ 1 :=
  let v := (Host.topK ⟨3, ![2, 1024, K + 1]⟩ 2 (FloatOps.cmpfTotal .gt) (Host.negf x) hk).1
  andi (Host.reduce IntOp.andi (cmpf .olt (extractStridedSlice ⟨3, ![2, 1024, K]⟩ ![0, 0, 1] v h1)
      (extractStridedSlice ⟨3, ![2, 1024, K]⟩ ![0, 0, 0] v h0)) (constantI S_ 1 1#1) hr Facts.h_S_)
    (Host.reduce IntOp.andi (cmpf .ogt v (broadcastInDim ⟨3, ![2, 1024, K + 1]⟩ ![] hb (constant S_ .f32 0xFF800000#32)))
      (constantI S_ 1 1#1) hr' Facts.h_S_)

/-- The negated products, with infinity where the points are within the radius. -/
def outside (d : FVec Ideal S2x1024x256 .f32) (k : FVec Ideal S2x1024x2 .f32) : FVec Ideal S2x1024x1024 .f32 :=
  let e : FVec Ideal S2x1024x1024x2 .f32 := subf
    (broadcastInDim S2x1024x1024x2 ![0, 1, 2, 3] Facts.bcast_S2x1024x1x2_S2x1024x1024x2_0_1_2_3
      (broadcastInDim S2x1024x1x2 ![0, 1, 3] Facts.bcast_S2x1024x2_S2x1024x1x2_0_1_3 k))
    (broadcastInDim S2x1024x1024x2 ![0, 1, 2, 3] Facts.bcast_S2x1x1024x2_S2x1024x1024x2_0_1_2_3
      (broadcastInDim S2x1x1024x2 ![0, 2, 3] Facts.bcast_S2x1024x2_S2x1x1024x2_0_2_3 k))
  fn_where (cmpf .ole (Host.sqrt (addf (Host.reduceAdd (mulf e e) (constant S_ .f32 0x00000000#32) Facts.reducesTo_S2x1024x1024x2_S2x1024x1024_d3 Facts.h_S_)
      (broadcastInDim S2x1024x1024 ![] Facts.bcast_S_S2x1024x1024 (constant S_ .f32 0x322BCC77#32))))
      (broadcastInDim S2x1024x1024 ![] Facts.bcast_S_S2x1024x1024 (constant S_ .f32 0x41B5D1C0#32)))
    (constant S_ .f32 0x7F800000#32)
    (Host.negf (Host.dotGeneral dot_S2x1024x256_S2x1024x256_S2x1024x1024_2_2_1_1_0_0 none d d))

/-- A coordinate of the cells' centres, per batch entry. -/
def axis (o : ℕ) (ho : S1024x2.Slices ![0, o] S1024x1) : FVec Ideal S2x1024 .f32 :=
  broadcastInDim S2x1024 ![0, 1] Facts.bcast_S1x1024_S2x1024_0_1 (broadcastInDim S1x1024 ![1] Facts.bcast_S1024_S1x1024_1
    (shapeCast S1024 (extractStridedSlice S1024x1 ![0, o] (val_main_v126 (F := Ideal)) ho) Facts.shapeCasts_S1024x1_S1024))

/-- An entry of the homographies' last rows, per cell. -/
def entry (x : FVec Ideal S2x3x3 .f32) (o : ℕ) (ho : S2x3x3.Slices ![0, 2, o] S2x1x1) : FVec Ideal S2x1024 .f32 :=
  broadcastInDim S2x1024 ![0, 1] Facts.bcast_S2x1_S2x1024_0_1 (broadcastInDim S2x1 ![0] Facts.bcast_S2_S2x1_0
    (shapeCast S2 (extractStridedSlice S2x1x1 ![0, 2, o] x ho) Facts.shapeCasts_S2x1x1_S2))

/-- The denominators. -/
def dens (x : FVec Ideal S2x3x3 .f32) : FVec Ideal S2x1024 .f32 :=
  addf (addf (addf (mulf (entry x 0 Facts.slices_S2x3x3_S2x1x1_0_2_0) (axis 0 Facts.slices_S1024x2_S1024x1_0_0))
      (mulf (entry x 1 Facts.slices_S2x3x3_S2x1x1_0_2_1) (axis 1 Facts.slices_S1024x2_S1024x1_0_1)))
      (entry x 2 Facts.slices_S2x3x3_S2x1x1_0_2_2))
    (broadcastInDim S2x1024 ![] Facts.bcast_S_S2x1024 (constant S_ .f32 0x322BCC77#32))

/-- All the arguments are finite. -/
def finiteAll (x0 x1 : FVec Ideal S2x1024x2 .f32) (x2 : FVec Ideal S2x1024x256 .f32) (x3 : FVec Ideal S2x256x32x32 .f32)
    (x4 : FVec Ideal S2x3x3 .f32) : IVec S_ 1 :=
  andi (andi (andi (andi (finite x0 Facts.bcast_S_S2x1024x2 Facts.reducesTo_S2x1024x2_S_d0_1_2)
    (finite x1 Facts.bcast_S_S2x1024x2 Facts.reducesTo_S2x1024x2_S_d0_1_2))
    (finite x2 Facts.bcast_S_S2x1024x256 Facts.reducesTo_S2x1024x256_S_d0_1_2))
    (finite x3 Facts.bcast_S_S2x256x32x32 Facts.reducesTo_S2x256x32x32_S_d0_1_2_3))
    (finite x4 Facts.bcast_S_S2x3x3 Facts.reducesTo_S2x3x3_S_d0_1_2)

/-- The points' descriptors have squared length at most two. -/
def norms2 (x2 : FVec Ideal S2x1024x256 .f32) : IVec S_ 1 :=
  Host.reduce IntOp.andi (cmpf .ole (Host.reduceAdd (mulf x2 x2) (constant S_ .f32 0x00000000#32) Facts.reducesTo_S2x1024x256_S2x1024_d2 Facts.h_S_)
    (broadcastInDim S2x1024 ![] Facts.bcast_S_S2x1024 (constant S_ .f32 0x40000000#32))) (constantI S_ 1 1#1) Facts.reducesTo_S2x1024_S_d0_1 Facts.h_S_

/-- The cells' descriptors have squared length at most two. -/
def norms3 (x3 : FVec Ideal S2x256x32x32 .f32) : IVec S_ 1 :=
  Host.reduce IntOp.andi (cmpf .ole (Host.reduceAdd (mulf x3 x3) (constant S_ .f32 0x00000000#32) Facts.reducesTo_S2x256x32x32_S2x32x32_d1 Facts.h_S_)
    (broadcastInDim S2x32x32 ![] Facts.bcast_S_S2x32x32 (constant S_ .f32 0x40000000#32))) (constantI S_ 1 1#1) Facts.reducesTo_S2x32x32_S_d0_1_2 Facts.h_S_

/-- No denominator is zero. -/
def densAll (x4 : FVec Ideal S2x3x3 .f32) : IVec S_ 1 :=
  Host.reduce IntOp.andi (cmpf .une (dens x4) (broadcastInDim S2x1024 ![] Facts.bcast_S_S2x1024 (constant S_ .f32 0x00000000#32)))
    (constantI S_ 1 1#1) Facts.reducesTo_S2x1024_S_d0_1 Facts.h_S_

/-- The twenty-five smallest of a row are distinct and below infinity. -/
def ties25 (x : FVec Ideal S2x1024x1024 .f32) : IVec S_ 1 :=
  ties 24 x Facts.sliceFits_S2x1024x1024_S2x1024x25 Facts.slices_S2x1024x25_S2x1024x24_0_0_1 Facts.slices_S2x1024x25_S2x1024x24_0_0_0
    Facts.reducesTo_S2x1024x24_S_d0_1_2 Facts.bcast_S_S2x1024x25 Facts.reducesTo_S2x1024x25_S_d0_1_2

/-- The eight smallest of a row are distinct and below infinity. -/
def ties8 (x : FVec Ideal S2x1024x1024 .f32) : IVec S_ 1 :=
  ties 7 x Facts.sliceFits_S2x1024x1024_S2x1024x8 Facts.slices_S2x1024x8_S2x1024x7_0_0_1 Facts.slices_S2x1024x8_S2x1024x7_0_0_0
    Facts.reducesTo_S2x1024x7_S_d0_1_2 Facts.bcast_S_S2x1024x8 Facts.reducesTo_S2x1024x8_S_d0_1_2

/-- The negated products of the points' descriptors and the cells'. -/
def cross (x2 : FVec Ideal S2x1024x256 .f32) (x3 : FVec Ideal S2x256x32x32 .f32) : FVec Ideal S2x1024x1024 .f32 :=
  Host.negf (Host.dotGeneral (φ₁ := .f32) (φ₂ := .f32) dot_S2x1024x256_S2x1024x256_S2x1024x1024_2_2_1_1_0_0 none x2
    (val_main_v1 (F := Ideal) x3 : FVec Ideal S2x1024x256 .f32))

set_option maxRecDepth 100000 in
theorem fn_eq (x0 x1 : FVec Ideal S2x1024x2 .f32) (x2 : FVec Ideal S2x1024x256 .f32) (x3 : FVec Ideal S2x256x32x32 .f32)
    (x4 : FVec Ideal S2x3x3 .f32) : fn (F := Ideal) x0 x1 x2 x3 x4
      = andi (andi (andi (finiteAll x0 x1 x2 x3 x4) (andi (norms2 x2) (norms3 x3))) (densAll x4))
        (andi (andi (ties25 (cross x2 x3)) (ties8 (outside x2 x0))) (ties8 (outside (val_main_v98 (F := Ideal) x1 x3) x1))) := by
  rfl

theorem of_bool {b : Bool} (h : BitVec.ofBool b = 1#1) : b = true := by
  revert h
  cases b <;> decide

theorem finite_real {s : Shape} {axes : List (Fin s.rank)} (x : FVec Ideal s .f32) (hb : S_.BroadcastsInDim s (![] : Fin 0 → Fin s.rank))
    (hr : s.ReducesTo axes S_) (j : S_.Idx) (h : finite x hb hr j = 1#1) (i : s.Idx) : x i = ((x i).toReal : EReal) := by
  have h1 := Host.reduce_andi_all _ _ _ _ j h i
  have h2 : max (x i) (-x i) < Ideal.ofBits .f32 0x7F800000#32 := of_decide_eq_true (of_bool h1)
  rw [Consts.inf, max_lt_iff] at h2
  refine (EReal.coe_toReal h2.1.ne fun hx => ?_).symm
  rw [hx, EReal.neg_bot] at h2
  exact lt_irrefl _ h2.2

theorem ties_isK {K : ℕ} (x : FVec Ideal S2x1024x1024 .f32) (hk : S2x1024x1024.Slices (fun _ => 0) ⟨3, ![2, 1024, K + 1]⟩)
    (h1 : (⟨3, ![2, 1024, K + 1]⟩ : Shape).Slices ![0, 0, 1] ⟨3, ![2, 1024, K]⟩)
    (h0 : (⟨3, ![2, 1024, K + 1]⟩ : Shape).Slices ![0, 0, 0] ⟨3, ![2, 1024, K]⟩)
    (hr : (⟨3, ![2, 1024, K]⟩ : Shape).ReducesTo [0, 1, 2] S_)
    (hb : S_.BroadcastsInDim ⟨3, ![2, 1024, K + 1]⟩ (![] : Fin 0 → Fin 3))
    (hr' : (⟨3, ![2, 1024, K + 1]⟩ : Shape).ReducesTo [0, 1, 2] S_) (j : S_.Idx) (h : ties K x hk h1 h0 hr hb hr' j = 1#1)
    (b : Fin 2) (n : Fin 1024) : ∃ w : ℕ → EReal, (∀ t < K + 1, Rank.IsK (fun m => x (ix3 b n m)) t (w t))
      ∧ (∀ t < K, w t < w (t + 1)) ∧ w K < ⊤ := by
  obtain ⟨ha, hc⟩ := IntOp.andi_eq_one.mp (show IntOp.andi _ _ = 1#1 from h)
  have ha := Host.reduce_andi_all _ _ _ _ j ha
  have hc := Host.reduce_andi_all _ _ _ _ j hc
  let v := (Host.topK ⟨3, ![2, 1024, K + 1]⟩ 2 (FloatOps.cmpfTotal (F := Ideal) .gt) (Host.negf x) hk).1
  have hv := fun t : Fin (K + 1) => TopK.topK_apply (Host.negf x) hk b n t
  have key : ∀ t : Fin (K + 1), Rank.IsK (fun m => x (ix3 b n m)) t.val (-v (ix3 b n t)) := fun t => by
    obtain ⟨m, e, _, c⟩ := hv t
    have := TopK.isK_of_lex (fun m => x (ix3 b n m)) (fun m => Host.negf x (ix3 b n m)) (fun m => rfl) m c
    rw [show v (ix3 b n t) = -x (ix3 b n m) from e, neg_neg]
    exact this
  have lt : ∀ t : ℕ, ∀ ht : t < K, v (ix3 b n ⟨t + 1, by omega⟩) < v (ix3 b n ⟨t, by omega⟩) := fun t ht => by
    have h := of_decide_eq_true (of_bool (ha (ix3 b n ⟨t, ht⟩)))
    have e1 : extractStridedSlice ⟨3, ![2, 1024, K]⟩ ![0, 0, 1] v h1 (ix3 b n ⟨t, ht⟩) = v (ix3 b n ⟨t + 1, by omega⟩) := by
      unfold extractStridedSlice
      congr 1
      funext a
      apply Fin.ext
      match a with
      | ⟨0, _⟩ => exact Nat.zero_add _
      | ⟨1, _⟩ => exact Nat.zero_add _
      | ⟨2, _⟩ => exact Nat.add_comm _ _
    have e0 : extractStridedSlice ⟨3, ![2, 1024, K]⟩ ![0, 0, 0] v h0 (ix3 b n ⟨t, ht⟩) = v (ix3 b n ⟨t, by omega⟩) := by
      unfold extractStridedSlice
      congr 1
      funext a
      apply Fin.ext
      match a with
      | ⟨0, _⟩ => exact Nat.zero_add _
      | ⟨1, _⟩ => exact Nat.zero_add _
      | ⟨2, _⟩ => exact Nat.zero_add _
    rw [← e1, ← e0]
    exact h
  refine ⟨fun t => if ht : t < K + 1 then -v (ix3 b n ⟨t, ht⟩) else 0, fun t ht => ?_, fun t ht => ?_, ?_⟩
  · dsimp only
    rw [dif_pos ht]
    exact key ⟨t, ht⟩
  · dsimp only
    rw [dif_pos (by omega : t < K + 1), dif_pos (by omega : t + 1 < K + 1), EReal.neg_lt_neg_iff]
    exact lt t ht
  · dsimp only
    rw [dif_pos (by omega : K < K + 1)]
    have h : Ideal.ofBits .f32 0xFF800000#32 < v (ix3 b n ⟨K, by omega⟩) := of_decide_eq_true (of_bool (hc (ix3 b n ⟨K, by omega⟩)))
    rw [Consts.ninf] at h
    rw [← EReal.neg_bot, EReal.neg_lt_neg_iff]
    exact h

theorem outside_ap (d : FVec Ideal S2x1024x256 .f32) (D : Fin 2 → Fin 1024 → Fin 256 → ℝ) (hd : ∀ b n c, d (ix3 b n c) = (D b n c : EReal))
    (k : FVec Ideal S2x1024x2 .f32) (P : Fin 2 → Fin 1024 → Fin 2 → ℝ) (hk : ∀ b n a, k (ix3 b n a) = (P b n a : EReal))
    (b : Fin 2) (n m : Fin 1024) : outside d k (ix3 b n m)
      = if Final.ring P b n m then ⊤ else ((sim (D b n) (D b m) : ℝ) : EReal) := by
  unfold outside fn_where
  pointwise
  simp only [hd, Fin.sum_univ_two, hk, Consts.eps, ← EReal.coe_sub, ← EReal.coe_mul, ← EReal.coe_add, esum]
  rw [esqrt (add_nonneg (add_nonneg (mul_self_nonneg _) (mul_self_nonneg _)) Consts.ε_pos.le), Consts.rad]
  by_cases h : Final.ring P b n m
  · rw [if_pos h, if_pos (EReal.coe_le_coe_iff.mpr ((within_iff _ _ _ _).mpr h))]
    exact Consts.inf
  · rw [if_neg h, if_neg fun h' => h ((within_iff _ _ _ _).mp (EReal.coe_le_coe_iff.mp h'))]
    rfl

theorem cross_ap (x2 : FVec Ideal S2x1024x256 .f32) (X2 : Fin 2 → Fin 1024 → Fin 256 → ℝ) (h2 : ∀ b n c, x2 (ix3 b n c) = (X2 b n c : EReal))
    (x3 : FVec Ideal S2x256x32x32 .f32) (X3 : Fin 2 → Fin 1024 → Fin 256 → ℝ)
    (h3 : ∀ b n c, x3 (ix4 b c (rowC n) (colC n)) = (X3 b n c : EReal)) (b : Fin 2) (n m : Fin 1024) :
    cross x2 x3 (ix3 b n m) = ((sim (X2 b n) (X3 b m) : ℝ) : EReal) := by
  unfold cross
  pointwise
  simp only [h2, v1_eq x3 X3 h3, ← EReal.coe_mul, esum]
  rfl

theorem dens_ap (x4 : FVec Ideal S2x3x3 .f32) (X4 : Fin 2 → Fin 3 → Fin 3 → ℝ) (h4 : ∀ b i j, x4 (ix3 b i j) = (X4 b i j : EReal))
    (b : Fin 2) (m : Fin 1024) : dens x4 (ix2 b m) = ((wd (X4 b) m : ℝ) : EReal) := by
  unfold dens entry axis
  pointwise
  rw [v126_x, v126_y, h4, h4, h4, Consts.eps, ← EReal.coe_mul, ← EReal.coe_mul, ← EReal.coe_add, ← EReal.coe_add, ← EReal.coe_add]
  rfl

theorem norms2_ap (x2 : FVec Ideal S2x1024x256 .f32) (X2 : Fin 2 → Fin 1024 → Fin 256 → ℝ) (h2 : ∀ b n c, x2 (ix3 b n c) = (X2 b n c : EReal))
    (j : S_.Idx) (h : norms2 x2 j = 1#1) (b : Fin 2) (n : Fin 1024) : (∑ c, X2 b n c * X2 b n c) ≤ 2 := by
  have h1 := Host.reduce_andi_all _ _ _ _ j h (ix2 b n)
  revert h1
  pointwise
  intro h1
  have h1 := of_decide_eq_true (of_bool h1)
  simp only [h2, ← EReal.coe_mul, esum, Consts.c2, EReal.coe_le_coe_iff] at h1
  exact h1

theorem norms3_ap (x3 : FVec Ideal S2x256x32x32 .f32) (X3 : Fin 2 → Fin 1024 → Fin 256 → ℝ)
    (h3 : ∀ b n c, x3 (ix4 b c (rowC n) (colC n)) = (X3 b n c : EReal))
    (j : S_.Idx) (h : norms3 x3 j = 1#1) (b : Fin 2) (n : Fin 1024) : (∑ c, X3 b n c * X3 b n c) ≤ 2 := by
  have h1 := Host.reduce_andi_all _ _ _ _ j h (ix3 b (rowC n) (colC n))
  revert h1
  pointwise
  intro h1
  have h1 := of_decide_eq_true (of_bool h1)
  simp only [h3, ← EReal.coe_mul, esum, Consts.c2, EReal.coe_le_coe_iff] at h1
  exact h1

theorem densAll_ap (x4 : FVec Ideal S2x3x3 .f32) (X4 : Fin 2 → Fin 3 → Fin 3 → ℝ) (h4 : ∀ b i j, x4 (ix3 b i j) = (X4 b i j : EReal))
    (j : S_.Idx) (h : densAll x4 j = 1#1) (b : Fin 2) (m : Fin 1024) : wd (X4 b) m ≠ 0 := by
  have h1 : dens x4 (ix2 b m) ≠ Ideal.ofBits .f32 0x00000000#32 :=
    of_decide_eq_true (of_bool (Host.reduce_andi_all _ _ _ _ j h (ix2 b m)))
  rw [dens_ap x4 X4 h4, Consts.c0] at h1
  exact fun e => h1 (congrArg _ e)

/-- What the precondition says. -/
theorem good (x0 x1 : FVec Ideal S2x1024x2 .f32) (x2 : FVec Ideal S2x1024x256 .f32) (x3 : FVec Ideal S2x256x32x32 .f32)
    (x4 : FVec Ideal S2x3x3 .f32) (h : fn (F := Ideal) x0 x1 x2 x3 x4 = fun _ => 1#1) :
    Final.Good x0 x1 x2 x3 x4 (fun b n a => (x0 (ix3 b n a)).toReal) (fun b n a => (x1 (ix3 b n a)).toReal)
      (fun b n c => (x2 (ix3 b n c)).toReal) (fun b n c => (x3 (ix4 b c (rowC n) (colC n))).toReal)
      (fun b i j => (x4 (ix3 b i j)).toReal) := by
  rw [fn_eq] at h
  obtain ⟨h, ht⟩ := IntOp.andi_eq_one.mp (show IntOp.andi _ _ = 1#1 from congrFun h ix0)
  obtain ⟨ht, t3⟩ := IntOp.andi_eq_one.mp (show IntOp.andi _ _ = 1#1 from ht)
  obtain ⟨t1, t2⟩ := IntOp.andi_eq_one.mp (show IntOp.andi _ _ = 1#1 from ht)
  obtain ⟨h, hd⟩ := IntOp.andi_eq_one.mp (show IntOp.andi _ _ = 1#1 from h)
  obtain ⟨h, hn⟩ := IntOp.andi_eq_one.mp (show IntOp.andi _ _ = 1#1 from h)
  obtain ⟨n2, n3⟩ := IntOp.andi_eq_one.mp (show IntOp.andi _ _ = 1#1 from hn)
  obtain ⟨h, f4⟩ := IntOp.andi_eq_one.mp (show IntOp.andi _ _ = 1#1 from h)
  obtain ⟨h, f3⟩ := IntOp.andi_eq_one.mp (show IntOp.andi _ _ = 1#1 from h)
  obtain ⟨h, f2⟩ := IntOp.andi_eq_one.mp (show IntOp.andi _ _ = 1#1 from h)
  obtain ⟨f0, f1⟩ := IntOp.andi_eq_one.mp (show IntOp.andi _ _ = 1#1 from h)
  have h0 := fun (b : Fin 2) (n : Fin 1024) (a : Fin 2) => finite_real _ _ _ _ f0 (ix3 b n a)
  have h1 := fun (b : Fin 2) (n : Fin 1024) (a : Fin 2) => finite_real _ _ _ _ f1 (ix3 b n a)
  have h2 := fun (b : Fin 2) (n : Fin 1024) (c : Fin 256) => finite_real _ _ _ _ f2 (ix3 b n c)
  have h3 := fun (b : Fin 2) (n : Fin 1024) (c : Fin 256) => finite_real _ _ _ _ f3 (ix4 b c (rowC n) (colC n))
  have h4 := fun (b : Fin 2) (i j : Fin 3) => finite_real _ _ _ _ f4 (ix3 b i j)
  refine ⟨h0, h1, h2, h3, h4, densAll_ap x4 _ h4 _ hd, norms2_ap x2 _ h2 _ n2, norms3_ap x3 _ h3 _ n3, fun b n => ?_, fun b n => ?_, fun b n => ?_⟩
  · obtain ⟨w, hw, hlt, _⟩ := ties_isK _ _ _ _ _ _ _ _ t1 b n
    rw [funext fun m => cross_ap x2 _ h2 x3 _ h3 b n m] at hw
    exact Masked.of_few (card_near _ _ _) w hw hlt
  · obtain ⟨w, hw, hlt, hf⟩ := ties_isK _ _ _ _ _ _ _ _ t2 b n
    exact Masked.of_outside _ (fun m => outside_ap x2 _ h2 x0 _ h0 b n m) w hw hlt hf
  · obtain ⟨w, hw, hlt, hf⟩ := ties_isK _ _ _ _ _ _ _ _ t3 b n
    exact Masked.of_outside _ (fun m => outside_ap (val_main_v98 (F := Ideal) x1 x3) (W _ _) (fun b n c => v98_eq x1 _ h1 x3 _ h3 b n c) x1 _ h1 b n m) w hw hlt hf

end Cert.PreSem
-- ==== Proof.Equal.lean ====
/- The kernel's result array is the reference's. -/
module

public import proofs.«01_k».proof.Proof.Blocks
public import proofs.«01_k».proof.Proof.PreSem

@[expose] public section

noncomputable section

namespace Cert.KernelIdeal.Gen

open Idealize.ShloMosaic Idealize.ShloMosaic.TcCoe Idealize.SL.Sem Cert.Model
open Cert.ReferenceIdeal.Read (val_main_v189 val_main_v275 val_main_v279)

variable (m : (ℓ : Loc nD τ sig) → Buf (Elt Ideal) ℓ) (c : Dev nD)

/-- A grid point's first-order sum. -/
def fosAt (t : Fin cfg0.N) : EReal :=
  fos (F := Ideal) (cH (iblk m c 10 t)) (cP (iblk m c 4 t)) (cP (iblk m c 5 t)) (cP (iblk m c 6 t)) (cP (iblk m c 7 t))
    (cD (iblk m c 8 t)) (cD (iblk m c 9 t))

/-- A grid point's second-order sum. -/
def sosAt (t : Fin cfg0.N) : EReal :=
  sos (F := Ideal) (cP (iblk m c 4 t)) (cP (iblk m c 5 t)) (cP (iblk m c 6 t)) (cP (iblk m c 7 t))
    (cR (iblk m c 0 t)) (cR (iblk m c 1 t)) (cR (iblk m c 2 t)) (cR (iblk m c 3 t)) (cD (iblk m c 8 t)) (cD (iblk m c 9 t))

/-- A batch entry's grid point. -/
def pt (b : Fin 2) : Fin cfg0.N := ⟨b.val, b.isLt.trans_eq N_0.symm⟩

theorem result_eq (h : Cert.Pre_well_posed.fn (F := Ideal) (arg0 m c) (arg1 m c) (arg2 m c) (arg3 m c) (arg4 m c) = fun _ => 1#1) :
    result m c = val_main_v279 (F := Ideal) (arg0 m c) (arg1 m c) (arg2 m c) (arg3 m c) (arg4 m c) := by
  have g := PreSem.good _ _ _ _ _ h
  have hf : ∀ t : Fin cfg0.N, fosAt m c t = ∑ n : Fin 1024, ∑ k : Fin 8,
      val_main_v189 (F := Ideal) (arg0 m c) (arg1 m c) (arg2 m c) (arg3 m c) (arg4 m c) (ix3 (bat t) n k) := fun t =>
    Final.fos_eq g (bat t) _ _ _ _ _ _ _ (in_10 m c t) (in_4 m c t) (in_5 m c t) (in_6 m c t) (in_7 m c t) (in_8 m c t) (in_9 m c t)
  have hs : ∀ t : Fin cfg0.N, sosAt m c t = ∑ n : Fin 1024,
      val_main_v275 (F := Ideal) (arg0 m c) (arg1 m c) (arg2 m c) (arg3 m c) (ix2 (bat t) n) := fun t =>
    Final.sos_eq g (bat t) _ _ _ _ _ _ _ _ _ _ (in_4 m c t) (in_5 m c t) (in_6 m c t) (in_7 m c t) (in_0 m c t) (in_1 m c t)
      (in_2 m c t) (in_3 m c t) (in_8 m c t) (in_9 m c t)
  have e := Final.total_eq g (fun b => fosAt m c (pt b)) (fun b => sosAt m c (pt b))
    (fun b => hf (pt b)) (fun b => hs (pt b))
  funext i
  have hi : i = ix2 0 0 := by
    funext a
    match a with
    | ⟨0, _⟩ => exact Subsingleton.elim (α := Fin 1) _ _
    | ⟨1, _⟩ => exact Subsingleton.elim (α := Fin 1) _ _
  rw [hi]
  exact e

end Cert.KernelIdeal.Gen

end
-- ==== Proof.lean ====
/- The claims: the kernel and its idealization run and leave their arguments alone, and so does the reference; the
   idealization is the kernel's; and at the real numbers the idealized kernel's result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equal
public import Idealize.ShloMosaic.Adequacy
public import Idealize.ShloMosaic.Init

@[expose] public section

noncomputable section

namespace Cert.Proof

open Idealize.ShloMosaic Idealize.SL.Sem

/-- The reference's run with its counters at zero: it has none. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem algebraic : Cert.algebraic_KernelIdeal_ReferenceIdeal_pre_well_posed := by
  intro m ρ m' ρ' hp ha
  refine ⟨fun c => Cert.KernelIdeal.Gen.result m c, ?_, ?_⟩
  · exact (θ_run Cert.KernelIdeal.defs _ _).mono
      (fun r h c => ⟨(h c).1.trans (Cert.KernelIdeal.Gen.final_o m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4⟩ := ha c
    refine Eq.trans (Cert.ReferenceIdeal.Read.val_main_v279_eq (F := Ideal) (StableHlo.launchContents m' c)) ?_
    refine Eq.trans ?_ (Cert.KernelIdeal.Gen.result_eq m c (hp c)).symm
    show Cert.ReferenceIdeal.Read.val_main_v279 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
    rw [h0, h1, h2, h3, h4]

theorem claim : Cert.Claim :=
  ⟨Cert.Kernel.Gen.facts, Cert.KernelIdeal.Gen.facts, Cert.ReferenceIdeal.Gen.facts, Cert.PreSem.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    IdealRules.named_const.statement Cert.KernelIdeal.κ "radius2" .f32 0x44012245#32 ((34664109489 / 67108864 : ℝ) : EReal) rfl, algebraic⟩

end Cert.Proof

end
